-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .f32) (main_arg1 : FVec F S512x256 .f32) (main_arg2 : FVec F S2x256x32x64 .f32) (main_arg3 : FVec F S2x256x32x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x32x64 .f32 := Host.absf main_arg2
  let main_cst_2 : FVec F S_ .f32 := constant S_ .f32 0x7F800000#32
  let main_v10 : FVec F S2x256x32x64 .f32 := broadcastInDim S2x256x32x64 ![] bcast_S_S2x256x32x64 main_cst_2
  let main_v11 : IVec S2x256x32x64 1 := cmpf .olt main_v9 main_v10
  let main_c_3 : IVec S_ 1 := constantI S_ 1 1#1
  let main_v12 : IVec S_ 1 := (fun x v => Host.reduce IntOp.andi x v reducesTo_S2x256x32x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x2048x32x64 : S_.BroadcastsInDim S2x2048x32x64 (![] : Fin 0 → Fin S2x2048x32x64.rank)
  reducesTo_S2x2048x32x64_S_d0_1_2_3 : S2x2048x32x64.ReducesTo [0, 1, 2, 3] S_

variable [Facts]

def fn {F : FTy → Type} [FloatOps F] (main_arg0 : FVec F S2x256x512 .f32) (main_arg1 : FVec F S512x2048 .f32) (main_arg2 : FVec F S2x2048x32x64 .f32) (main_arg3 : FVec F S2x2048x32x64 .f32) (main_arg4 : FVec F S2048x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x2048x32x64 .f32 := Host.absf main_arg2
  let main_cst_2 : FVec F S_ .f32 := constant S_ .f32 0x7F800000#32
  let main_v10 : FVec F S2x2048x32x64 .f32 := broadcastInDim S2x2048x32x64 ![] bcast_S_S2x2048x32x64 main_cst_2
  let main_v11 : IVec S2x2048x32x64 1 := cmpf .olt main_v9 main_v10
  let main_c_3 : IVec S_ 1 := constantI S_ 1 1#1
  let main_v12 : IVec S_ 1 := (fun x v => Host.reduce IntOp.andi x v reducesTo_S2x2048x32x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x256x2048 : Shape := ⟨3, ![2, 256, 2048]⟩
abbrev S2x256x256 : Shape := ⟨3, ![2, 256, 256]⟩
abbrev S3x2x256x256 : Shape := ⟨4, ![3, 2, 256, 256]⟩
abbrev S8x2x32x512 : Shape := ⟨4, ![8, 2, 32, 512]⟩
abbrev S2x32x512 : Shape := ⟨3, ![2, 32, 512]⟩
abbrev S2 : Shape := ⟨1, ![2]⟩
abbrev S8 : Shape := ⟨1, ![8]⟩
abbrev S_ : Shape := ⟨0, ![]⟩
abbrev S3 : Shape := ⟨1, ![3]⟩
abbrev S1 : Shape := ⟨1, ![1]⟩
abbrev S1x2x256x256 : Shape := ⟨4, ![1, 2, 256, 256]⟩
abbrev S1x256x512 : Shape := ⟨3, ![1, 256, 512]⟩
abbrev S256x256 : Shape := ⟨2, ![256, 256]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩
abbrev S64x512 : Shape := ⟨2, ![64, 512]⟩
abbrev S1x2x32x512 : Shape := ⟨4, ![1, 2, 32, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x512, .f32⟩
  | .local _ .vmem, ⟨4, _⟩ => ⟨S2x256x32x64, .f32⟩
  | .local _ .vmem, ⟨5, _⟩ => ⟨S2x256x32x64, .f32⟩
  | .local _ .vmem, ⟨6, _⟩ => ⟨S2x256x2048, .bf16⟩
  | .local _ .vmem, ⟨7, _⟩ => ⟨S2x256x2048, .bf16⟩
  | .local _ .vmem, ⟨8, _⟩ => ⟨S2x256x256, .bf16⟩
  | .local _ .vmem, ⟨9, _⟩ => ⟨S2x256x256, .bf16⟩
  | .local _ .vmem, ⟨10, _⟩ => ⟨S3x2x256x256, .bf16⟩
  | .local _ .vmem, ⟨11, _⟩ => ⟨S2x256x512, .bf16⟩
  | .local _ .vmem, ⟨12, _⟩ => ⟨S8x2x32x512, .bf16⟩
  | .local _ .vmem, ⟨13, _⟩ => ⟨S2x32x512, .bf16⟩
  | .local _ .vmem, ⟨14, _⟩ => ⟨S8x2x32x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v32 : BitVec 1 := Scalar.cmpi .eq v2 c0_i32_29
  let v33 : BitVec 32 := Scalar.extui v32
  let c0_i32_30 : BitVec 32 := 0#32
  let v34 : BitVec 1 := Scalar.cmpi .ne v33 c0_i32_30
  v34

def k0_dev8 : Nat :=
  let c0_i32_283 : BitVec 32 := 0#32
  let c4_i32_281 : BitVec 32 := 4#32
  let c1_i32_282 : BitVec 32 := 1#32
  let v509 : BitVec 32 := Scalar.muli c4_i32_281 c1_i32_282
  let v510 : BitVec 32 := Scalar.addi c0_i32_283 v509
  v510.toNat
def k0_dev9 : Nat :=
  let c0_i32_294 : BitVec 32 := 0#32
  let c4_i32_292 : BitVec 32 := 4#32
  let c1_i32_293 : BitVec 32 := 1#32
  let v518 : BitVec 32 := Scalar.muli c4_i32_292 c1_i32_293
  let v519 : BitVec 32 := Scalar.addi c0_i32_294 v518
  v519.toNat
def k0_dev10 : Nat :=
  let c0_i32_306 : BitVec 32 := 0#32
  let c4_i32_304 : BitVec 32 := 4#32
  let c1_i32_305 : BitVec 32 := 1#32
  let v527 : BitVec 32 := Scalar.muli c4_i32_304 c1_i32_305
  let v528 : BitVec 32 := Scalar.addi c0_i32_306 v527
  v528.toNat
def k0_dev11 : Nat :=
  let c0_i32_317 : BitVec 32 := 0#32
  let c3_i32_315 : BitVec 32 := 3#32
  let c1_i32_316 : BitVec 32 := 1#32
  let v536 : BitVec 32 := Scalar.muli c3_i32_315 c1_i32_316
  let v537 : BitVec 32 := Scalar.addi c0_i32_317 v536
  v537.toNat
def k0_dev12 : Nat :=
  let c0_i32_328 : BitVec 32 := 0#32
  let c3_i32_326 : BitVec 32 := 3#32
  let c1_i32_327 : BitVec 32 := 1#32
  let v545 : BitVec 32 := Scalar.muli c3_i32_326 c1_i32_327
  let v546 : BitVec 32 := Scalar.addi c0_i32_328 v545
  v546.toNat
def k0_dev13 : Nat :=
  let c0_i32_338 : BitVec 32 := 0#32
  let c2_i32_336 : BitVec 32 := 2#32
  let c1_i32_337 : BitVec 32 := 1#32
  let v554 : BitVec 32 := Scalar.muli c2_i32_336 c1_i32_337
  let v555 : BitVec 32 := Scalar.addi c0_i32_338 v554
  v555.toNat
def k0_dev14 : Nat :=
  let c0_i32_344 : BitVec 32 := 0#32
  let c2_i32_342 : BitVec 32 := 2#32
  let c1_i32_343 : BitVec 32 := 1#32
  let v559 : BitVec 32 := Scalar.muli c2_i32_342 c1_i32_343
  let v560 : BitVec 32 := Scalar.addi c0_i32_344 v559
  v560.toNat
def k0_dev15 : Nat :=
  let c0_i32_351 : BitVec 32 := 0#32
  let c1_i32_349 : BitVec 32 := 1#32
  let c1_i32_350 : BitVec 32 := 1#32
  let v564 : BitVec 32 := Scalar.muli c1_i32_349 c1_i32_350
  let v565 : BitVec 32 := Scalar.addi c0_i32_351 v564
  v565.toNat
def k0_dev16 : Nat :=
  let c0_i32_357 : BitVec 32 := 0#32
  let c1_i32_355 : BitVec 32 := 1#32
  let c1_i32_356 : BitVec 32 := 1#32
  let v569 : BitVec 32 := Scalar.muli c1_i32_355 c1_i32_356
  let v570 : BitVec 32 := Scalar.addi c0_i32_357 v569
  v570.toNat
def k0_dev17 : Nat :=
  let c0_i32_397 : BitVec 32 := 0#32
  let c4_i32_395 : BitVec 32 := 4#32
  let c1_i32_396 : BitVec 32 := 1#32
  let v589 : BitVec 32 := Scalar.muli c4_i32_395 c1_i32_396
  let v590 : BitVec 32 := Scalar.addi c0_i32_397 v589
  v590.toNat
def k0_dev18 : Nat :=
  let c0_i32_403 : BitVec 32 := 0#32
  let c4_i32_401 : BitVec 32 := 4#32
  let c1_i32_402 : BitVec 32 := 1#32
  let v594 : BitVec 32 := Scalar.muli c4_i32_401 c1_i32_402
  let v595 : BitVec 32 := Scalar.addi c0_i32_403 v594
  v595.toNat
def k0_dev19 : Nat :=
  let c0_i32_432 : BitVec 32 := 0#32
  let c3_i32_430 : BitVec 32 := 3#32
  let c1_i32_431 : BitVec 32 := 1#32
  let v609 : BitVec 32 := Scalar.muli c3_i32_430 c1_i32_431
  let v610 : BitVec 32 := Scalar.addi c0_i32_432 v609
  v610.toNat
def k0_dev20 : Nat :=
  let c0_i32_438 : BitVec 32 := 0#32
  let c3_i32_436 : BitVec 32 := 3#32
  let c1_i32_437 : BitVec 32 := 1#32
  let v614 : BitVec 32 := Scalar.muli c3_i32_436 c1_i32_437
  let v615 : BitVec 32 := Scalar.addi c0_i32_438 v614
  v615.toNat
def k0_dev21 : Nat :=
  let c0_i32_445 : BitVec 32 := 0#32
  let c7_i32_443 : BitVec 32 := 7#32
  let c1_i32_444 : BitVec 32 := 1#32
  let v619 : BitVec 32 := Scalar.muli c7_i32_443 c1_i32_444
  let v620 : BitVec 32 := Scalar.addi c0_i32_445 v619
  v620.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v35 : BitVec 1 := Scalar.cmpi .eq v2 c4_i32_31
  let v36 : BitVec 32 := Scalar.extui v35
  let c0_i32_32 : BitVec 32 := 0#32
  let v37 : BitVec 1 := Scalar.cmpi .ne v36 c0_i32_32
  v37

def k0_dev22 : Nat :=
  let c0_i32_277 : BitVec 32 := 0#32
  let c5_i32_275 : BitVec 32 := 5#32
  let c1_i32_276 : BitVec 32 := 1#32
  let v497 : BitVec 32 := Scalar.muli c5_i32_275 c1_i32_276
  let v498 : BitVec 32 := Scalar.addi c0_i32_277 v497
  v498.toNat
def k0_dev23 : Nat :=
  let c0_i32_298 : BitVec 32 := 0#32
  let c5_i32_296 : BitVec 32 := 5#32
  let c1_i32_297 : BitVec 32 := 1#32
  let v511 : BitVec 32 := Scalar.muli c5_i32_296 c1_i32_297
  let v512 : BitVec 32 := Scalar.addi c0_i32_298 v511
  v512.toNat
def k0_dev24 : Nat :=
  let c0_i32_319 : BitVec 32 := 0#32
  let c7_i32_317 : BitVec 32 := 7#32
  let c1_i32_318 : BitVec 32 := 1#32
  let v525 : BitVec 32 := Scalar.muli c7_i32_317 c1_i32_318
  let v526 : BitVec 32 := Scalar.addi c0_i32_319 v525
  v526.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v38 : BitVec 1 := Scalar.cmpi .eq v2 c3_i32_33
  let v39 : BitVec 32 := Scalar.extui v38
  let c0_i32_34 : BitVec 32 := 0#32
  let v40 : BitVec 1 := Scalar.cmpi .ne v39 c0_i32_34
  v40

def k0_dev25 : Nat :=
  let c0_i32_277 : BitVec 32 := 0#32
  let c6_i32_275 : BitVec 32 := 6#32
  let c1_i32_276 : BitVec 32 := 1#32
  let v497 : BitVec 32 := Scalar.muli c6_i32_275 c1_i32_276
  let v498 : BitVec 32 := Scalar.addi c0_i32_277 v497
  v498.toNat
def k0_dev26 : Nat :=
  let c0_i32_298 : BitVec 32 := 0#32
  let c6_i32_296 : BitVec 32 := 6#32
  let c1_i32_297 : BitVec 32 := 1#32
  let v511 : BitVec 32 := Scalar.muli c6_i32_296 c1_i32_297
  let v512 : BitVec 32 := Scalar.addi c0_i32_298 v511
  v512.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let v301 : BitVec 1 := Scalar.cmpi .eq v2 c0_i32_129
  let v302 : BitVec 32 := Scalar.extui v301
  let c0_i32_130 : BitVec 32 := 0#32
  let v303 : BitVec 1 := Scalar.cmpi .ne v302 c0_i32_130
  v303

def k0_dev27 : Nat :=
  let c0_i32_272 : BitVec 32 := 0#32
  let c1_i32_270 : BitVec 32 := 1#32
  let c1_i32_271 : BitVec 32 := 1#32
  let v493 : BitVec 32 := Scalar.muli c1_i32_270 c1_i32_271
  let v494 : BitVec 32 := Scalar.addi c0_i32_272 v493
  v494.toNat
def k0_dev28 : Nat :=
  let c0_i32_283 : BitVec 32 := 0#32
  let c2_i32_281 : BitVec 32 := 2#32
  let c1_i32_282 : BitVec 32 := 1#32
  let v502 : BitVec 32 := Scalar.muli c2_i32_281 c1_i32_282
  let v503 : BitVec 32 := Scalar.addi c0_i32_283 v502
  v503.toNat
def k0_dev29 : Nat :=
  let c0_i32_295 : BitVec 32 := 0#32
  let c3_i32_293 : BitVec 32 := 3#32
  let c1_i32_294 : BitVec 32 := 1#32
  let v511 : BitVec 32 := Scalar.muli c3_i32_293 c1_i32_294
  let v512 : BitVec 32 := Scalar.addi c0_i32_295 v511
  v512.toNat
def k0_dev30 : Nat :=
  let c0_i32_306 : BitVec 32 := 0#32
  let c4_i32_304 : BitVec 32 := 4#32
  let c1_i32_305 : BitVec 32 := 1#32
  let v520 : BitVec 32 := Scalar.muli c4_i32_304 c1_i32_305
  let v521 : BitVec 32 := Scalar.addi c0_i32_306 v520
  v521.toNat
def k0_dev31 : Nat :=
  let c0_i32_317 : BitVec 32 := 0#32
  let c5_i32_315 : BitVec 32 := 5#32
  let c1_i32_316 : BitVec 32 := 1#32
  let v529 : BitVec 32 := Scalar.muli c5_i32_315 c1_i32_316
  let v530 : BitVec 32 := Scalar.addi c0_i32_317 v529
  v530.toNat
def k0_dev32 : Nat :=
  let c0_i32_328 : BitVec 32 := 0#32
  let c6_i32_326 : BitVec 32 := 6#32
  let c1_i32_327 : BitVec 32 := 1#32
  let v538 : BitVec 32 := Scalar.muli c6_i32_326 c1_i32_327
  let v539 : BitVec 32 := Scalar.addi c0_i32_328 v538
  v539.toNat
def k0_dev33 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v304 : BitVec 1 := Scalar.cmpi .eq v2 c1_i32_131
  let v305 : BitVec 32 := Scalar.extui v304
  let c0_i32_132 : BitVec 32 := 0#32
  let v306 : BitVec 1 := Scalar.cmpi .ne v305 c0_i32_132
  v306

def k0_dev34 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev35 : Nat :=
  let c0_i32_283 : BitVec 32 := 0#32
  let c2_i32_281 : BitVec 32 := 2#32
  let c1_i32_282 : BitVec 32 := 1#32
  let v502 : BitVec 32 := Scalar.muli c2_i32_281 c1_i32_282
  let v503 : BitVec 32 := Scalar.addi c0_i32_283 v502
  v503.toNat
def k0_dev36 : Nat :=
  let c0_i32_295 : BitVec 32 := 0#32
  let c3_i32_293 : BitVec 32 := 3#32
  let c1_i32_294 : BitVec 32 := 1#32
  let v511 : BitVec 32 := Scalar.muli c3_i32_293 c1_i32_294
  let v512 : BitVec 32 := Scalar.addi c0_i32_295 v511
  v512.toNat
def k0_dev37 : Nat :=
  let c0_i32_306 : BitVec 32 := 0#32
  let c4_i32_304 : BitVec 32 := 4#32
  let c1_i32_305 : BitVec 32 := 1#32
  let v520 : BitVec 32 := Scalar.muli c4_i32_304 c1_i32_305
  let v521 : BitVec 32 := Scalar.addi c0_i32_306 v520
  v521.toNat
def k0_dev38 : Nat :=
  let c0_i32_317 : BitVec 32 := 0#32
  let c5_i32_315 : BitVec 32 := 5#32
  let c1_i32_316 : BitVec 32 := 1#32
  let v529 : BitVec 32 := Scalar.muli c5_i32_315 c1_i32_316
  let v530 : BitVec 32 := Scalar.addi c0_i32_317 v529
  v530.toNat
def k0_dev39 : Nat :=
  let c0_i32_328 : BitVec 32 := 0#32
  let c6_i32_326 : BitVec 32 := 6#32
  let c1_i32_327 : BitVec 32 := 1#32
  let v538 : BitVec 32 := Scalar.muli c6_i32_326 c1_i32_327
  let v539 : BitVec 32 := Scalar.addi c0_i32_328 v538
  v539.toNat
def k0_dev40 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_133 : BitVec 32 := 2#32
  let v307 : BitVec 1 := Scalar.cmpi .eq v2 c2_i32_133
  let v308 : BitVec 32 := Scalar.extui v307
  let c0_i32_134 : BitVec 32 := 0#32
  let v309 : BitVec 1 := Scalar.cmpi .ne v308 c0_i32_134
  v309

def k0_dev41 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev42 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev43 : Nat :=
  let c0_i32_294 : BitVec 32 := 0#32
  let c3_i32_292 : BitVec 32 := 3#32
  let c1_i32_293 : BitVec 32 := 1#32
  let v511 : BitVec 32 := Scalar.muli c3_i32_292 c1_i32_293
  let v512 : BitVec 32 := Scalar.addi c0_i32_294 v511
  v512.toNat
def k0_dev44 : Nat :=
  let c0_i32_305 : BitVec 32 := 0#32
  let c4_i32_303 : BitVec 32 := 4#32
  let c1_i32_304 : BitVec 32 := 1#32
  let v520 : BitVec 32 := Scalar.muli c4_i32_303 c1_i32_304
  let v521 : BitVec 32 := Scalar.addi c0_i32_305 v520
  v521.toNat
def k0_dev45 : Nat :=
  let c0_i32_316 : BitVec 32 := 0#32
  let c5_i32_314 : BitVec 32 := 5#32
  let c1_i32_315 : BitVec 32 := 1#32
  let v529 : BitVec 32 := Scalar.muli c5_i32_314 c1_i32_315
  let v530 : BitVec 32 := Scalar.addi c0_i32_316 v529
  v530.toNat
def k0_dev46 : Nat :=
  let c0_i32_327 : BitVec 32 := 0#32
  let c6_i32_325 : BitVec 32 := 6#32
  let c1_i32_326 : BitVec 32 := 1#32
  let v538 : BitVec 32 := Scalar.muli c6_i32_325 c1_i32_326
  let v539 : BitVec 32 := Scalar.addi c0_i32_327 v538
  v539.toNat
def k0_dev47 : Nat :=
  let c0_i32_338 : BitVec 32 := 0#32
  let c7_i32_336 : BitVec 32 := 7#32
  let c1_i32_337 : BitVec 32 := 1#32
  let v547 : BitVec 32 := Scalar.muli c7_i32_336 c1_i32_337
  let v548 : BitVec 32 := Scalar.addi c0_i32_338 v547
  v548.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v310 : BitVec 1 := Scalar.cmpi .eq v2 c3_i32_135
  let v311 : BitVec 32 := Scalar.extui v310
  let c0_i32_136 : BitVec 32 := 0#32
  let v312 : BitVec 1 := Scalar.cmpi .ne v311 c0_i32_136
  v312

def k0_dev48 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev49 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev50 : Nat :=
  let c0_i32_294 : BitVec 32 := 0#32
  let c2_i32_292 : BitVec 32 := 2#32
  let c1_i32_293 : BitVec 32 := 1#32
  let v511 : BitVec 32 := Scalar.muli c2_i32_292 c1_i32_293
  let v512 : BitVec 32 := Scalar.addi c0_i32_294 v511
  v512.toNat
def k0_dev51 : Nat :=
  let c0_i32_306 : BitVec 32 := 0#32
  let c4_i32_304 : BitVec 32 := 4#32
  let c1_i32_305 : BitVec 32 := 1#32
  let v520 : BitVec 32 := Scalar.muli c4_i32_304 c1_i32_305
  let v521 : BitVec 32 := Scalar.addi c0_i32_306 v520
  v521.toNat
def k0_dev52 : Nat :=
  let c0_i32_317 : BitVec 32 := 0#32
  let c5_i32_315 : BitVec 32 := 5#32
  let c1_i32_316 : BitVec 32 := 1#32
  let v529 : BitVec 32 := Scalar.muli c5_i32_315 c1_i32_316
  let v530 : BitVec 32 := Scalar.addi c0_i32_317 v529
  v530.toNat
def k0_dev53 : Nat :=
  let c0_i32_328 : BitVec 32 := 0#32
  let c6_i32_326 : BitVec 32 := 6#32
  let c1_i32_327 : BitVec 32 := 1#32
  let v538 : BitVec 32 := Scalar.muli c6_i32_326 c1_i32_327
  let v539 : BitVec 32 := Scalar.addi c0_i32_328 v538
  v539.toNat
def k0_dev54 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_137 : BitVec 32 := 4#32
  let v313 : BitVec 1 := Scalar.cmpi .eq v2 c4_i32_137
  let v314 : BitVec 32 := Scalar.extui v313
  let c0_i32_138 : BitVec 32 := 0#32
  let v315 : BitVec 1 := Scalar.cmpi .ne v314 c0_i32_138
  v315

def k0_dev55 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev56 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev57 : Nat :=
  let c0_i32_294 : BitVec 32 := 0#32
  let c2_i32_292 : BitVec 32 := 2#32
  let c1_i32_293 : BitVec 32 := 1#32
  let v511 : BitVec 32 := Scalar.muli c2_i32_292 c1_i32_293
  let v512 : BitVec 32 := Scalar.addi c0_i32_294 v511
  v512.toNat
def k0_dev58 : Nat :=
  let c0_i32_306 : BitVec 32 := 0#32
  let c3_i32_304 : BitVec 32 := 3#32
  let c1_i32_305 : BitVec 32 := 1#32
  let v520 : BitVec 32 := Scalar.muli c3_i32_304 c1_i32_305
  let v521 : BitVec 32 := Scalar.addi c0_i32_306 v520
  v521.toNat
def k0_dev59 : Nat :=
  let c0_i32_317 : BitVec 32 := 0#32
  let c5_i32_315 : BitVec 32 := 5#32
  let c1_i32_316 : BitVec 32 := 1#32
  let v529 : BitVec 32 := Scalar.muli c5_i32_315 c1_i32_316
  let v530 : BitVec 32 := Scalar.addi c0_i32_317 v529
  v530.toNat
def k0_dev60 : Nat :=
  let c0_i32_328 : BitVec 32 := 0#32
  let c6_i32_326 : BitVec 32 := 6#32
  let c1_i32_327 : BitVec 32 := 1#32
  let v538 : BitVec 32 := Scalar.muli c6_i32_326 c1_i32_327
  let v539 : BitVec 32 := Scalar.addi c0_i32_328 v538
  v539.toNat
def k0_dev61 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_139 : BitVec 32 := 5#32
  let v316 : BitVec 1 := Scalar.cmpi .eq v2 c5_i32_139
  let v317 : BitVec 32 := Scalar.extui v316
  let c0_i32_140 : BitVec 32 := 0#32
  let v318 : BitVec 1 := Scalar.cmpi .ne v317 c0_i32_140
  v318

def k0_dev62 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev63 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev64 : Nat :=
  let c0_i32_294 : BitVec 32 := 0#32
  let c2_i32_292 : BitVec 32 := 2#32
  let c1_i32_293 : BitVec 32 := 1#32
  let v511 : BitVec 32 := Scalar.muli c2_i32_292 c1_i32_293
  let v512 : BitVec 32 := Scalar.addi c0_i32_294 v511
  v512.toNat
def k0_dev65 : Nat :=
  let c0_i32_306 : BitVec 32 := 0#32
  let c3_i32_304 : BitVec 32 := 3#32
  let c1_i32_305 : BitVec 32 := 1#32
  let v520 : BitVec 32 := Scalar.muli c3_i32_304 c1_i32_305
  let v521 : BitVec 32 := Scalar.addi c0_i32_306 v520
  v521.toNat
def k0_dev66 : Nat :=
  let c0_i32_317 : BitVec 32 := 0#32
  let c4_i32_315 : BitVec 32 := 4#32
  let c1_i32_316 : BitVec 32 := 1#32
  let v529 : BitVec 32 := Scalar.muli c4_i32_315 c1_i32_316
  let v530 : BitVec 32 := Scalar.addi c0_i32_317 v529
  v530.toNat
def k0_dev67 : Nat :=
  let c0_i32_328 : BitVec 32 := 0#32
  let c6_i32_326 : BitVec 32 := 6#32
  let c1_i32_327 : BitVec 32 := 1#32
  let v538 : BitVec 32 := Scalar.muli c6_i32_326 c1_i32_327
  let v539 : BitVec 32 := Scalar.addi c0_i32_328 v538
  v539.toNat
def k0_dev68 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_141 : BitVec 32 := 6#32
  let v319 : BitVec 1 := Scalar.cmpi .eq v2 c6_i32_141
  let v320 : BitVec 32 := Scalar.extui v319
  let c0_i32_142 : BitVec 32 := 0#32
  let v321 : BitVec 1 := Scalar.cmpi .ne v320 c0_i32_142
  v321

def k0_dev69 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev70 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev71 : Nat :=
  let c0_i32_294 : BitVec 32 := 0#32
  let c2_i32_292 : BitVec 32 := 2#32
  let c1_i32_293 : BitVec 32 := 1#32
  let v511 : BitVec 32 := Scalar.muli c2_i32_292 c1_i32_293
  let v512 : BitVec 32 := Scalar.addi c0_i32_294 v511
  v512.toNat
def k0_dev72 : Nat :=
  let c0_i32_306 : BitVec 32 := 0#32
  let c3_i32_304 : BitVec 32 := 3#32
  let c1_i32_305 : BitVec 32 := 1#32
  let v520 : BitVec 32 := Scalar.muli c3_i32_304 c1_i32_305
  let v521 : BitVec 32 := Scalar.addi c0_i32_306 v520
  v521.toNat
def k0_dev73 : Nat :=
  let c0_i32_317 : BitVec 32 := 0#32
  let c4_i32_315 : BitVec 32 := 4#32
  let c1_i32_316 : BitVec 32 := 1#32
  let v529 : BitVec 32 := Scalar.muli c4_i32_315 c1_i32_316
  let v530 : BitVec 32 := Scalar.addi c0_i32_317 v529
  v530.toNat
def k0_dev74 : Nat :=
  let c0_i32_328 : BitVec 32 := 0#32
  let c5_i32_326 : BitVec 32 := 5#32
  let c1_i32_327 : BitVec 32 := 1#32
  let v538 : BitVec 32 := Scalar.muli c5_i32_326 c1_i32_327
  let v539 : BitVec 32 := Scalar.addi c0_i32_328 v538
  v539.toNat
def k0_dev75 : Nat :=
  let c0_i32_339 : BitVec 32 := 0#32
  let c7_i32_337 : BitVec 32 := 7#32
  let c1_i32_338 : BitVec 32 := 1#32
  let v547 : BitVec 32 := Scalar.muli c7_i32_337 c1_i32_338
  let v548 : BitVec 32 := Scalar.addi c0_i32_339 v547
  v548.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_143 : BitVec 32 := 7#32
  let v322 : BitVec 1 := Scalar.cmpi .eq v2 c7_i32_143
  let v323 : BitVec 32 := Scalar.extui v322
  let c0_i32_144 : BitVec 32 := 0#32
  let v324 : BitVec 1 := Scalar.cmpi .ne v323 c0_i32_144
  v324

def k0_dev76 : Nat :=
  let c0_i32_271 : BitVec 32 := 0#32
  let c0_i32_269 : BitVec 32 := 0#32
  let c1_i32_270 : BitVec 32 := 1#32
  let v493 : BitVec 32 := Scalar.muli c0_i32_269 c1_i32_270
  let v494 : BitVec 32 := Scalar.addi c0_i32_271 v493
  v494.toNat
def k0_dev77 : Nat :=
  let c0_i32_283 : BitVec 32 := 0#32
  let c1_i32_281 : BitVec 32 := 1#32
  let c1_i32_282 : BitVec 32 := 1#32
  let v502 : BitVec 32 := Scalar.muli c1_i32_281 c1_i32_282
  let v503 : BitVec 32 := Scalar.addi c0_i32_283 v502
  v503.toNat
def k0_dev78 : Nat :=
  let c0_i32_294 : BitVec 32 := 0#32
  let c2_i32_292 : BitVec 32 := 2#32
  let c1_i32_293 : BitVec 32 := 1#32
  let v511 : BitVec 32 := Scalar.muli c2_i32_292 c1_i32_293
  let v512 : BitVec 32 := Scalar.addi c0_i32_294 v511
  v512.toNat
def k0_dev79 : Nat :=
  let c0_i32_306 : BitVec 32 := 0#32
  let c3_i32_304 : BitVec 32 := 3#32
  let c1_i32_305 : BitVec 32 := 1#32
  let v520 : BitVec 32 := Scalar.muli c3_i32_304 c1_i32_305
  let v521 : BitVec 32 := Scalar.addi c0_i32_306 v520
  v521.toNat
def k0_dev80 : Nat :=
  let c0_i32_317 : BitVec 32 := 0#32
  let c4_i32_315 : BitVec 32 := 4#32
  let c1_i32_316 : BitVec 32 := 1#32
  let v529 : BitVec 32 := Scalar.muli c4_i32_315 c1_i32_316
  let v530 : BitVec 32 := Scalar.addi c0_i32_317 v529
  v530.toNat
def k0_dev81 : Nat :=
  let c0_i32_328 : BitVec 32 := 0#32
  let c5_i32_326 : BitVec 32 := 5#32
  let c1_i32_327 : BitVec 32 := 1#32
  let v538 : BitVec 32 := Scalar.muli c5_i32_326 c1_i32_327
  let v539 : BitVec 32 := Scalar.addi c0_i32_328 v538
  v539.toNat
def k0_dev82 : Nat :=
  let c0_i32_339 : BitVec 32 := 0#32
  let c6_i32_337 : BitVec 32 := 6#32
  let c1_i32_338 : BitVec 32 := 1#32
  let v547 : BitVec 32 := Scalar.muli c6_i32_337 c1_i32_338
  let v548 : BitVec 32 := Scalar.addi c0_i32_339 v547
  v548.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_190 : BitVec 32 := 0#32
  let v384 : BitVec 1 := Scalar.cmpi .eq v2 c0_i32_190
  let v385 : BitVec 32 := Scalar.extui v384
  let c0_i32_191 : BitVec 32 := 0#32
  let v386 : BitVec 1 := Scalar.cmpi .ne v385 c0_i32_191
  v386

def k0_dev83 : Nat :=
  let c0_i32_268 : BitVec 32 := 0#32
  let c1_i32_266 : BitVec 32 := 1#32
  let c1_i32_267 : BitVec 32 := 1#32
  let v490 : BitVec 32 := Scalar.muli c1_i32_266 c1_i32_267
  let v491 : BitVec 32 := Scalar.addi c0_i32_268 v490
  v491.toNat
def k0_dev84 : Nat :=
  let c0_i32_277 : BitVec 32 := 0#32
  let c2_i32_275 : BitVec 32 := 2#32
  let c1_i32_276 : BitVec 32 := 1#32
  let v498 : BitVec 32 := Scalar.muli c2_i32_275 c1_i32_276
  let v499 : BitVec 32 := Scalar.addi c0_i32_277 v498
  v499.toNat
def k0_dev85 : Nat :=
  let c0_i32_286 : BitVec 32 := 0#32
  let c3_i32_284 : BitVec 32 := 3#32
  let c1_i32_285 : BitVec 32 := 1#32
  let v506 : BitVec 32 := Scalar.muli c3_i32_284 c1_i32_285
  let v507 : BitVec 32 := Scalar.addi c0_i32_286 v506
  v507.toNat
def k0_dev86 : Nat :=
  let c0_i32_295 : BitVec 32 := 0#32
  let c4_i32_293 : BitVec 32 := 4#32
  let c1_i32_294 : BitVec 32 := 1#32
  let v514 : BitVec 32 := Scalar.muli c4_i32_293 c1_i32_294
  let v515 : BitVec 32 := Scalar.addi c0_i32_295 v514
  v515.toNat
def k0_dev87 : Nat :=
  let c0_i32_304 : BitVec 32 := 0#32
  let c5_i32_302 : BitVec 32 := 5#32
  let c1_i32_303 : BitVec 32 := 1#32
  let v522 : BitVec 32 := Scalar.muli c5_i32_302 c1_i32_303
  let v523 : BitVec 32 := Scalar.addi c0_i32_304 v522
  v523.toNat
def k0_dev88 : Nat :=
  let c0_i32_313 : BitVec 32 := 0#32
  let c6_i32_311 : BitVec 32 := 6#32
  let c1_i32_312 : BitVec 32 := 1#32
  let v530 : BitVec 32 := Scalar.muli c6_i32_311 c1_i32_312
  let v531 : BitVec 32 := Scalar.addi c0_i32_313 v530
  v531.toNat
def k0_dev89 : Nat :=
  let c0_i32_322 : BitVec 32 := 0#32
  let c7_i32_320 : BitVec 32 := 7#32
  let c1_i32_321 : BitVec 32 := 1#32
  let v538 : BitVec 32 := Scalar.muli c7_i32_320 c1_i32_321
  let v539 : BitVec 32 := Scalar.addi c0_i32_322 v538
  v539.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  let v387 : BitVec 1 := Scalar.cmpi .eq v2 c1_i32_192
  let v388 : BitVec 32 := Scalar.extui v387
  let c0_i32_193 : BitVec 32 := 0#32
  let v389 : BitVec 1 := Scalar.cmpi .ne v388 c0_i32_193
  v389

def k0_dev90 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev91 : Nat :=
  let c0_i32_276 : BitVec 32 := 0#32
  let c2_i32_274 : BitVec 32 := 2#32
  let c1_i32_275 : BitVec 32 := 1#32
  let v498 : BitVec 32 := Scalar.muli c2_i32_274 c1_i32_275
  let v499 : BitVec 32 := Scalar.addi c0_i32_276 v498
  v499.toNat
def k0_dev92 : Nat :=
  let c0_i32_285 : BitVec 32 := 0#32
  let c3_i32_283 : BitVec 32 := 3#32
  let c1_i32_284 : BitVec 32 := 1#32
  let v506 : BitVec 32 := Scalar.muli c3_i32_283 c1_i32_284
  let v507 : BitVec 32 := Scalar.addi c0_i32_285 v506
  v507.toNat
def k0_dev93 : Nat :=
  let c0_i32_294 : BitVec 32 := 0#32
  let c4_i32_292 : BitVec 32 := 4#32
  let c1_i32_293 : BitVec 32 := 1#32
  let v514 : BitVec 32 := Scalar.muli c4_i32_292 c1_i32_293
  let v515 : BitVec 32 := Scalar.addi c0_i32_294 v514
  v515.toNat
def k0_dev94 : Nat :=
  let c0_i32_303 : BitVec 32 := 0#32
  let c5_i32_301 : BitVec 32 := 5#32
  let c1_i32_302 : BitVec 32 := 1#32
  let v522 : BitVec 32 := Scalar.muli c5_i32_301 c1_i32_302
  let v523 : BitVec 32 := Scalar.addi c0_i32_303 v522
  v523.toNat
def k0_dev95 : Nat :=
  let c0_i32_312 : BitVec 32 := 0#32
  let c6_i32_310 : BitVec 32 := 6#32
  let c1_i32_311 : BitVec 32 := 1#32
  let v530 : BitVec 32 := Scalar.muli c6_i32_310 c1_i32_311
  let v531 : BitVec 32 := Scalar.addi c0_i32_312 v530
  v531.toNat
def k0_dev96 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_194 : BitVec 32 := 2#32
  let v390 : BitVec 1 := Scalar.cmpi .eq v2 c2_i32_194
  let v391 : BitVec 32 := Scalar.extui v390
  let c0_i32_195 : BitVec 32 := 0#32
  let v392 : BitVec 1 := Scalar.cmpi .ne v391 c0_i32_195
  v392

def k0_dev97 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev98 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev99 : Nat :=
  let c0_i32_285 : BitVec 32 := 0#32
  let c3_i32_283 : BitVec 32 := 3#32
  let c1_i32_284 : BitVec 32 := 1#32
  let v506 : BitVec 32 := Scalar.muli c3_i32_283 c1_i32_284
  let v507 : BitVec 32 := Scalar.addi c0_i32_285 v506
  v507.toNat
def k0_dev100 : Nat :=
  let c0_i32_294 : BitVec 32 := 0#32
  let c4_i32_292 : BitVec 32 := 4#32
  let c1_i32_293 : BitVec 32 := 1#32
  let v514 : BitVec 32 := Scalar.muli c4_i32_292 c1_i32_293
  let v515 : BitVec 32 := Scalar.addi c0_i32_294 v514
  v515.toNat
def k0_dev101 : Nat :=
  let c0_i32_303 : BitVec 32 := 0#32
  let c5_i32_301 : BitVec 32 := 5#32
  let c1_i32_302 : BitVec 32 := 1#32
  let v522 : BitVec 32 := Scalar.muli c5_i32_301 c1_i32_302
  let v523 : BitVec 32 := Scalar.addi c0_i32_303 v522
  v523.toNat
def k0_dev102 : Nat :=
  let c0_i32_312 : BitVec 32 := 0#32
  let c6_i32_310 : BitVec 32 := 6#32
  let c1_i32_311 : BitVec 32 := 1#32
  let v530 : BitVec 32 := Scalar.muli c6_i32_310 c1_i32_311
  let v531 : BitVec 32 := Scalar.addi c0_i32_312 v530
  v531.toNat
def k0_dev103 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_196 : BitVec 32 := 3#32
  let v393 : BitVec 1 := Scalar.cmpi .eq v2 c3_i32_196
  let v394 : BitVec 32 := Scalar.extui v393
  let c0_i32_197 : BitVec 32 := 0#32
  let v395 : BitVec 1 := Scalar.cmpi .ne v394 c0_i32_197
  v395

def k0_dev104 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev105 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev106 : Nat :=
  let c0_i32_285 : BitVec 32 := 0#32
  let c2_i32_283 : BitVec 32 := 2#32
  let c1_i32_284 : BitVec 32 := 1#32
  let v506 : BitVec 32 := Scalar.muli c2_i32_283 c1_i32_284
  let v507 : BitVec 32 := Scalar.addi c0_i32_285 v506
  v507.toNat
def k0_dev107 : Nat :=
  let c0_i32_294 : BitVec 32 := 0#32
  let c4_i32_292 : BitVec 32 := 4#32
  let c1_i32_293 : BitVec 32 := 1#32
  let v514 : BitVec 32 := Scalar.muli c4_i32_292 c1_i32_293
  let v515 : BitVec 32 := Scalar.addi c0_i32_294 v514
  v515.toNat
def k0_dev108 : Nat :=
  let c0_i32_303 : BitVec 32 := 0#32
  let c5_i32_301 : BitVec 32 := 5#32
  let c1_i32_302 : BitVec 32 := 1#32
  let v522 : BitVec 32 := Scalar.muli c5_i32_301 c1_i32_302
  let v523 : BitVec 32 := Scalar.addi c0_i32_303 v522
  v523.toNat
def k0_dev109 : Nat :=
  let c0_i32_312 : BitVec 32 := 0#32
  let c6_i32_310 : BitVec 32 := 6#32
  let c1_i32_311 : BitVec 32 := 1#32
  let v530 : BitVec 32 := Scalar.muli c6_i32_310 c1_i32_311
  let v531 : BitVec 32 := Scalar.addi c0_i32_312 v530
  v531.toNat
def k0_dev110 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_198 : BitVec 32 := 4#32
  let v396 : BitVec 1 := Scalar.cmpi .eq v2 c4_i32_198
  let v397 : BitVec 32 := Scalar.extui v396
  let c0_i32_199 : BitVec 32 := 0#32
  let v398 : BitVec 1 := Scalar.cmpi .ne v397 c0_i32_199
  v398

def k0_dev111 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev112 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev113 : Nat :=
  let c0_i32_285 : BitVec 32 := 0#32
  let c2_i32_283 : BitVec 32 := 2#32
  let c1_i32_284 : BitVec 32 := 1#32
  let v506 : BitVec 32 := Scalar.muli c2_i32_283 c1_i32_284
  let v507 : BitVec 32 := Scalar.addi c0_i32_285 v506
  v507.toNat
def k0_dev114 : Nat :=
  let c0_i32_294 : BitVec 32 := 0#32
  let c3_i32_292 : BitVec 32 := 3#32
  let c1_i32_293 : BitVec 32 := 1#32
  let v514 : BitVec 32 := Scalar.muli c3_i32_292 c1_i32_293
  let v515 : BitVec 32 := Scalar.addi c0_i32_294 v514
  v515.toNat
def k0_dev115 : Nat :=
  let c0_i32_303 : BitVec 32 := 0#32
  let c5_i32_301 : BitVec 32 := 5#32
  let c1_i32_302 : BitVec 32 := 1#32
  let v522 : BitVec 32 := Scalar.muli c5_i32_301 c1_i32_302
  let v523 : BitVec 32 := Scalar.addi c0_i32_303 v522
  v523.toNat
def k0_dev116 : Nat :=
  let c0_i32_312 : BitVec 32 := 0#32
  let c6_i32_310 : BitVec 32 := 6#32
  let c1_i32_311 : BitVec 32 := 1#32
  let v530 : BitVec 32 := Scalar.muli c6_i32_310 c1_i32_311
  let v531 : BitVec 32 := Scalar.addi c0_i32_312 v530
  v531.toNat
def k0_dev117 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_200 : BitVec 32 := 5#32
  let v399 : BitVec 1 := Scalar.cmpi .eq v2 c5_i32_200
  let v400 : BitVec 32 := Scalar.extui v399
  let c0_i32_201 : BitVec 32 := 0#32
  let v401 : BitVec 1 := Scalar.cmpi .ne v400 c0_i32_201
  v401

def k0_dev118 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev119 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev120 : Nat :=
  let c0_i32_285 : BitVec 32 := 0#32
  let c2_i32_283 : BitVec 32 := 2#32
  let c1_i32_284 : BitVec 32 := 1#32
  let v506 : BitVec 32 := Scalar.muli c2_i32_283 c1_i32_284
  let v507 : BitVec 32 := Scalar.addi c0_i32_285 v506
  v507.toNat
def k0_dev121 : Nat :=
  let c0_i32_294 : BitVec 32 := 0#32
  let c3_i32_292 : BitVec 32 := 3#32
  let c1_i32_293 : BitVec 32 := 1#32
  let v514 : BitVec 32 := Scalar.muli c3_i32_292 c1_i32_293
  let v515 : BitVec 32 := Scalar.addi c0_i32_294 v514
  v515.toNat
def k0_dev122 : Nat :=
  let c0_i32_303 : BitVec 32 := 0#32
  let c4_i32_301 : BitVec 32 := 4#32
  let c1_i32_302 : BitVec 32 := 1#32
  let v522 : BitVec 32 := Scalar.muli c4_i32_301 c1_i32_302
  let v523 : BitVec 32 := Scalar.addi c0_i32_303 v522
  v523.toNat
def k0_dev123 : Nat :=
  let c0_i32_312 : BitVec 32 := 0#32
  let c6_i32_310 : BitVec 32 := 6#32
  let c1_i32_311 : BitVec 32 := 1#32
  let v530 : BitVec 32 := Scalar.muli c6_i32_310 c1_i32_311
  let v531 : BitVec 32 := Scalar.addi c0_i32_312 v530
  v531.toNat
def k0_dev124 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_202 : BitVec 32 := 6#32
  let v402 : BitVec 1 := Scalar.cmpi .eq v2 c6_i32_202
  let v403 : BitVec 32 := Scalar.extui v402
  let c0_i32_203 : BitVec 32 := 0#32
  let v404 : BitVec 1 := Scalar.cmpi .ne v403 c0_i32_203
  v404

def k0_dev125 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev126 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev127 : Nat :=
  let c0_i32_285 : BitVec 32 := 0#32
  let c2_i32_283 : BitVec 32 := 2#32
  let c1_i32_284 : BitVec 32 := 1#32
  let v506 : BitVec 32 := Scalar.muli c2_i32_283 c1_i32_284
  let v507 : BitVec 32 := Scalar.addi c0_i32_285 v506
  v507.toNat
def k0_dev128 : Nat :=
  let c0_i32_294 : BitVec 32 := 0#32
  let c3_i32_292 : BitVec 32 := 3#32
  let c1_i32_293 : BitVec 32 := 1#32
  let v514 : BitVec 32 := Scalar.muli c3_i32_292 c1_i32_293
  let v515 : BitVec 32 := Scalar.addi c0_i32_294 v514
  v515.toNat
def k0_dev129 : Nat :=
  let c0_i32_303 : BitVec 32 := 0#32
  let c4_i32_301 : BitVec 32 := 4#32
  let c1_i32_302 : BitVec 32 := 1#32
  let v522 : BitVec 32 := Scalar.muli c4_i32_301 c1_i32_302
  let v523 : BitVec 32 := Scalar.addi c0_i32_303 v522
  v523.toNat
def k0_dev130 : Nat :=
  let c0_i32_312 : BitVec 32 := 0#32
  let c5_i32_310 : BitVec 32 := 5#32
  let c1_i32_311 : BitVec 32 := 1#32
  let v530 : BitVec 32 := Scalar.muli c5_i32_310 c1_i32_311
  let v531 : BitVec 32 := Scalar.addi c0_i32_312 v530
  v531.toNat
def k0_dev131 : Nat :=
  let c0_i32_321 : BitVec 32 := 0#32
  let c7_i32_319 : BitVec 32 := 7#32
  let c1_i32_320 : BitVec 32 := 1#32
  let v538 : BitVec 32 := Scalar.muli c7_i32_319 c1_i32_320
  let v539 : BitVec 32 := Scalar.addi c0_i32_321 v538
  v539.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_204 : BitVec 32 := 7#32
  let v405 : BitVec 1 := Scalar.cmpi .eq v2 c7_i32_204
  let v406 : BitVec 32 := Scalar.extui v405
  let c0_i32_205 : BitVec 32 := 0#32
  let v407 : BitVec 1 := Scalar.cmpi .ne v406 c0_i32_205
  v407

def k0_dev132 : Nat :=
  let c0_i32_267 : BitVec 32 := 0#32
  let c0_i32_265 : BitVec 32 := 0#32
  let c1_i32_266 : BitVec 32 := 1#32
  let v490 : BitVec 32 := Scalar.muli c0_i32_265 c1_i32_266
  let v491 : BitVec 32 := Scalar.addi c0_i32_267 v490
  v491.toNat
def k0_dev133 : Nat :=
  let c0_i32_276 : BitVec 32 := 0#32
  let c1_i32_274 : BitVec 32 := 1#32
  let c1_i32_275 : BitVec 32 := 1#32
  let v498 : BitVec 32 := Scalar.muli c1_i32_274 c1_i32_275
  let v499 : BitVec 32 := Scalar.addi c0_i32_276 v498
  v499.toNat
def k0_dev134 : Nat :=
  let c0_i32_285 : BitVec 32 := 0#32
  let c2_i32_283 : BitVec 32 := 2#32
  let c1_i32_284 : BitVec 32 := 1#32
  let v506 : BitVec 32 := Scalar.muli c2_i32_283 c1_i32_284
  let v507 : BitVec 32 := Scalar.addi c0_i32_285 v506
  v507.toNat
def k0_dev135 : Nat :=
  let c0_i32_294 : BitVec 32 := 0#32
  let c3_i32_292 : BitVec 32 := 3#32
  let c1_i32_293 : BitVec 32 := 1#32
  let v514 : BitVec 32 := Scalar.muli c3_i32_292 c1_i32_293
  let v515 : BitVec 32 := Scalar.addi c0_i32_294 v514
  v515.toNat
def k0_dev136 : Nat :=
  let c0_i32_303 : BitVec 32 := 0#32
  let c4_i32_301 : BitVec 32 := 4#32
  let c1_i32_302 : BitVec 32 := 1#32
  let v522 : BitVec 32 := Scalar.muli c4_i32_301 c1_i32_302
  let v523 : BitVec 32 := Scalar.addi c0_i32_303 v522
  v523.toNat
def k0_dev137 : Nat :=
  let c0_i32_312 : BitVec 32 := 0#32
  let c5_i32_310 : BitVec 32 := 5#32
  let c1_i32_311 : BitVec 32 := 1#32
  let v530 : BitVec 32 := Scalar.muli c5_i32_310 c1_i32_311
  let v531 : BitVec 32 := Scalar.addi c0_i32_312 v530
  v531.toNat
def k0_dev138 : Nat :=
  let c0_i32_321 : BitVec 32 := 0#32
  let c6_i32_319 : BitVec 32 := 6#32
  let c1_i32_320 : BitVec 32 := 1#32
  let v538 : BitVec 32 := Scalar.muli c6_i32_319 c1_i32_320
  let v539 : BitVec 32 := Scalar.addi c0_i32_321 v538
  v539.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S2x256x2048 : Shape := ⟨3, ![2, 256, 2048]⟩
abbrev S2x256x32x64 : Shape := ⟨4, ![2, 256, 32, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x32x256x2048 : Shape := ⟨4, ![2, 32, 256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x2048x32x64, .f32⟩
  | .hbm, ⟨3, _⟩ => ⟨S2x2048x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S256x2048, .i32⟩
  | .hbm, ⟨48, _⟩ => ⟨S256x2048, .i32⟩
  | .hbm, ⟨49, _⟩ => ⟨S256x2048, .i1⟩
  | .hbm, ⟨50, _⟩ => ⟨S2x32x256x2048, .f32⟩
  | .hbm, ⟨51, _⟩ => ⟨S_, .f32⟩
  | .hbm, ⟨52, _⟩ => ⟨S2x32x256x2048, .f32⟩
  | .hbm, ⟨53, _⟩ => ⟨S2x32x256x2048, .f32⟩
  | .hbm, ⟨54, _⟩ => ⟨S1x1x256x2048, .i1⟩
  | .hbm, ⟨55, _⟩ => ⟨S_, .f32⟩
  | .hbm, ⟨56, _⟩ => ⟨S_, .f32⟩
  | .hbm, ⟨57, _⟩ => ⟨S2x32x256x2048, .i1⟩
  | .hbm, ⟨58, _⟩ => ⟨S2x32x256x2048, .f32⟩
  | .hbm, ⟨59, _⟩ => ⟨S2x32x256x2048, .f32⟩
  | .hbm, ⟨60, _⟩ => ⟨S_, .f32⟩
  | .hbm, ⟨61, _⟩ => ⟨S2x32x256, .f32⟩
  | .hbm, ⟨62, _⟩ => ⟨S2x32x256x1, .f32⟩
  | .hbm, ⟨63, _⟩ => ⟨S2x32x256x2048, .f32⟩
  | .hbm, ⟨64, _⟩ => ⟨S2x32x256x2048, .f32⟩
  | .hbm, ⟨65, _⟩ => ⟨S2x32x256x2048, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x32x256, .f32⟩
  | .hbm, ⟨71, _⟩ => ⟨S2x32x256x1, .f32⟩
  | .hbm, ⟨72, _⟩ => ⟨S_, .f32⟩
  | .hbm, ⟨73, _⟩ => ⟨S_, .f32⟩
  | .hbm, ⟨74, _⟩ => ⟨S2x32x256x1, .i1⟩
  | .hbm, ⟨75, _⟩ => ⟨S2x32x256x1, .f32⟩
  | .hbm, ⟨76, _⟩ => ⟨S2x32x256x1, .f32⟩
  | .hbm, ⟨77, _⟩ => ⟨S2x32x256x2048, .f32⟩
  | .hbm, ⟨78, _⟩ => ⟨S2x32x256x2048, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x32x256x2048, .i1⟩
  | .hbm, ⟨83, _⟩ => ⟨S2x32x256x2048, .f32⟩
  | .hbm, ⟨84, _⟩ => ⟨S2x32x256x2048, .f32⟩
  | .hbm, ⟨85, _⟩ => ⟨S2x32x64x256, .f32⟩
  | .hbm, ⟨86, _⟩ => ⟨S2x256x32x64, .f32⟩
  | .hbm, ⟨87, _⟩ => ⟨S2x256x2048, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]

def κ : String → Option EReal := fun
  | "mask" => some ⊥
  | _ => none
-- ==== Proof.Own.lean ====
/-
# 01_k — memrefs held at what they read

Rules that run a program's loads, stores and transfers on memrefs held as `owns c m q X` (device `c` holds the
elements `m` places, at share `q`, and reads `X` through them): the contents of the buffers never appear, only what
is read through the memref at hand. Nothing here is about one kernel.
-/
module

public import Idealize.ShloMosaic.Lib.MemrefSat
public import Idealize.ShloMosaic.Lib.Rounds
public import Idealize.ShloMosaic.Lib.Transfers
public import Idealize.ShloMosaic.Lib.Pipeline.TableIdle
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

/-- The memref held whole at some contents. -/
def anyOf (c : Thread nD τ) {sp : Space} {sh : Shape} {e : EltTy} (m : Memref sig c.2.kind sp sh e) : sProp 𝕄 :=
  iprop(∃ X, owns c m fullShare X)

instance anyOf_storable (c : Thread nD τ) {sp : Space} {sh : Shape} {e : EltTy} (m : Memref sig c.2.kind sp sh e) :
    BI.Storable (upEmb : UEmb _ 𝕄) (anyOf c m) := by unfold anyOf; infer_instance

theorem anyOf_intro (c : Thread nD τ) {sp : Space} {sh : Shape} {e : EltTy} (m : Memref sig c.2.kind sp sh e) (X : sh.Idx → Val e) :
    (owns c m fullShare X : sProp 𝕄) ⊢ anyOf c m := by
  unfold anyOf; iintro H; iexists X; iexact H

/-- A whole buffer held at some contents. -/
theorem anyOf_whole (c : Thread nD τ) (b : Ref sig c.2.kind) :
    (anyOf c (Memref.whole b) : sProp 𝕄) = iprop(∃ f : Buf Val (c.loc b), (c.loc b) ↦{fullShare} f) := by
  unfold anyOf
  exact congrArg _ (funext fun f => owns_whole c b fullShare f)

theorem set_squeeze {κ : Kind} {sp : Space} {s s' : Shape} {e : EltTy} (m : Memref sig κ sp s e) (h : s.Squeezes s') :
    (m.squeeze s' h).view.set = m.view.set := View.set_reshape _ _

/-- A memref seen at another shape of as many elements: what is read is re-indexed by row-major position. -/
theorem owns_squeeze (c : Thread nD τ) {sp : Space} {s s' : Shape} {e : EltTy} (m : Memref sig c.2.kind sp s e) (h : s.Squeezes s')
    (q : PosShare TreeShare) (X : s.Idx → Val e) :
    (owns c m q X : sProp 𝕄) ⊢ owns c (m.squeeze s' h) q (fun y => X (Shape.reshapeEquiv h.numel_eq y)) := by
  unfold owns
  iintro ⟨%f, %hf, H⟩
  iexists f
  isplitr
  · ipureintro; subst hf; rfl
  · iapply (Entails.of_eq (show (m.view.loc c ↦[m.view.set]{q} f : sProp 𝕄) = m.view.loc c ↦[(m.squeeze s' h).view.set]{q} f by rw [set_squeeze]))
    iexact H

theorem owns_unsqueeze (c : Thread nD τ) {sp : Space} {s s' : Shape} {e : EltTy} (m : Memref sig c.2.kind sp s e) (h : s.Squeezes s')
    (q : PosShare TreeShare) (X : s'.Idx → Val e) :
    (owns c (m.squeeze s' h) q X : sProp 𝕄) ⊢ owns c m q (fun y => X ((Shape.reshapeEquiv h.numel_eq).symm y)) := by
  unfold owns
  iintro ⟨%f, %hf, H⟩
  iexists f
  isplitr
  · ipureintro; subst hf; funext y
    show _ = m.view.read Val f (Shape.reshapeEquiv h.numel_eq ((Shape.reshapeEquiv h.numel_eq).symm y))
    rw [Equiv.apply_symm_apply]
  · iapply (Entails.of_eq (show (m.view.loc c ↦[(m.squeeze s' h).view.set]{q} f : sProp 𝕄) = m.view.loc c ↦[m.view.set]{q} f by rw [set_squeeze]))
    iexact H

theorem anyOf_squeeze (c : Thread nD τ) {sp : Space} {s s' : Shape} {e : EltTy} (m : Memref sig c.2.kind sp s e) (h : s.Squeezes s') :
    (anyOf c m : sProp 𝕄) ⊢ anyOf c (m.squeeze s' h) := by
  unfold anyOf
  iintro ⟨%X, H⟩
  iexists _
  iapply (owns_squeeze c m h fullShare X); iexact H

theorem anyOf_unsqueeze (c : Thread nD τ) {sp : Space} {s s' : Shape} {e : EltTy} (m : Memref sig c.2.kind sp s e) (h : s.Squeezes s') :
    (anyOf c (m.squeeze s' h) : sProp 𝕄) ⊢ anyOf c m := by
  unfold anyOf
  iintro ⟨%X, H⟩
  iexists _
  iapply (owns_unsqueeze c m h fullShare X); iexact H

/-- Held at a share, a memref is held at the shares that share is dealt into among a nonempty set of holders. -/
theorem owns_deal [∀ e, Nonempty (Val e)] (c : Thread nD τ) {sp : Space} {sh : Shape} {e : EltTy} (m : Memref sig c.2.kind sp sh e)
    {ι : Type} [LinearOrder ι] (s : Finset ι) (hs : s.Nonempty) (q : PosShare TreeShare) (X : sh.Idx → Val e) :
    (owns c m q X : sProp 𝕄) = BI.bigSep s fun i => owns c m (Transfers.dealOf q s i) X := by
  rw [owns_eq_rep]
  refine (Transfers.pointsTo_deal s hs q).trans ?_
  exact BI.bigSep_congr fun i _ => (owns_eq_rep c m _ X).symm

/-- Slices of a disjoint covering family, each held at some contents, are the memref held at some contents; -/
theorem anyOf_of_rects [∀ e, Nonempty (Val e)] (c : Thread nD τ) {sp : Space} {sh : Shape} {e : EltTy} (m : Memref sig c.2.kind sp sh e)
    {T : Type} [Fintype T] [DecidableEq T] (r : T → Rect sh) (hr : ∀ t a, (r t).stride a = 1)
    (hd : ∀ t t', t ≠ t' → Disjoint (r t).set (r t').set)
    (hcov : (Finset.univ : Finset T).biUnion (fun t => (r t).set) = Finset.univ) :
    (BI.bigSep Finset.univ fun t => anyOf c (m.slice (r t) (hr t)) : sProp 𝕄) ⊢ anyOf c m := by
  unfold anyOf
  refine (BI.bigSep_mono fun t _ => (ownsSat_true c (m.slice (r t) (hr t)) fullShare).2).trans ?_
  refine (ownsSat_of_rects c m fullShare r hr hd hcov fun _ _ => True).trans ?_
  exact (ownsSat_any c m fullShare : (ownsSat c m fullShare (fun X => ∀ t, (fun _ : _ => True) (fun j => X ((r t).emb j))) : sProp 𝕄) ⊢ _)

/-- and back. -/
theorem anyOf_rects [∀ e, Nonempty (Val e)] (c : Thread nD τ) {sp : Space} {sh : Shape} {e : EltTy} (m : Memref sig c.2.kind sp sh e)
    {T : Type} [Fintype T] [DecidableEq T] (r : T → Rect sh) (hr : ∀ t a, (r t).stride a = 1)
    (hd : ∀ t t', t ≠ t' → Disjoint (r t).set (r t').set)
    (hcov : (Finset.univ : Finset T).biUnion (fun t => (r t).set) = Finset.univ) :
    (anyOf c m : sProp 𝕄) ⊢ BI.bigSep Finset.univ fun t => anyOf c (m.slice (r t) (hr t)) := by
  refine (show (anyOf c m : sProp 𝕄) ⊢ iprop(∃ X, owns c m fullShare X) from .rfl).trans ?_
  iintro ⟨%X, H⟩
  iapply (show (owns c m fullShare X : sProp 𝕄) ⊢ BI.bigSep Finset.univ fun t => anyOf c (m.slice (r t) (hr t)) from
    (owns_rects c m fullShare r hr hd hcov X).trans (BI.bigSep_mono fun t _ => anyOf_intro c _ _))
  iexact H

section Run

variable {defs : Defs nD τ sig Val Λ} (𝒱 : Variants) (c : Thread nD τ) (bd : Option 𝒱.V) {α : Type}

/-- Load a rectangle of a held memref. -/
theorem wp_load_part {Q : α → sProp 𝕄} {cs : CoreSpace} {s : Shape} {e : EltTy} {m : Memref sig c.2.kind cs s e} {r : Rect s} {hl : m.view.LoadsAt r.toLoadRect}
    {k : (r.toLoadRect.shape.Idx → Val e) → Prog (TpuEff nD τ sig Val Λ c.2) α} {q : PosShare TreeShare} (X : s.Idx → Val e) :
    (owns c m q X : sProp 𝕄)
      ⊢ iprop((owns c m q X -∗ wp frame (wpE defs 𝒱 c bd) Set.univ (k fun j => X (r.emb j)) Q)
        -∗ wp frame (wpE defs 𝒱 c bd) Set.univ (.op (.load m r.toLoadRect hl) k) Q) := by
  unfold owns
  iintro ⟨%f, %hf, H⟩ Hk
  have hS : m.view.setOn r.toLoadRect.set ⊆ m.view.set := View.setOn_subset_set _ _
  iapply (wp_load 𝒱 c bd Set.univ (m := m) (r := r.toLoadRect) (S := m.view.set) (q := q) (f := f) hS) $$ H
  iintro H
  subst hf
  iapply Hk
  iexists f
  isplitr; · ipureintro; rfl
  iexact H

/-- Load the rectangle of a memref of which that slice alone is held. -/
theorem wp_load_slice {Q : α → sProp 𝕄} {cs : CoreSpace} {s : Shape} {e : EltTy} {m : Memref sig c.2.kind cs s e} {r : Rect s} (hr : ∀ a, r.stride a = 1)
    {hl : m.view.LoadsAt r.toLoadRect}
    {k : (r.toLoadRect.shape.Idx → Val e) → Prog (TpuEff nD τ sig Val Λ c.2) α} {q : PosShare TreeShare} (X : r.shape.Idx → Val e) :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  have hS : (m.access r).set ⊆ (m.slice r hr).view.set := Finset.Subset.refl _
  iapply (wp_load_rect 𝒱 c bd Set.univ (m := m) (r := r) (S := (m.slice r hr).view.set) (q := q) (f := f) hS) $$ H
  iintro H
  subst hf
  iapply Hk
  iexists f
  isplitr; · ipureintro; rfl
  iexact H

/-- Store the rectangle of a memref of which that slice alone is held. -/
theorem wp_store_slice {Q : α → sProp 𝕄} {cs : CoreSpace} {s : Shape} {e : EltTy} {m : Memref sig c.2.kind cs s e} {r : Rect s} (hr : ∀ a, r.stride a = 1)
    {w : r.shape.Idx → Val e} {hx : (m.access r).Stores Finset.univ} {hm : Finset.univ = Finset.univ ∨ ∀ a, r.stride a = 1}
    {k : PUnit → Prog (TpuEff nD τ sig Val Λ c.2) α} :
    (anyOf c (m.slice r hr) : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold anyOf owns
  iintro ⟨%X, %f, %hf, H⟩ Hk
  have hS : (m.access r).setOn Finset.univ ⊆ (m.slice r hr).view.set := Finset.Subset.refl _
  iapply (wp_store 𝒱 c bd Set.univ (m := m) (r := r) (Mk := Finset.univ) (S := (m.slice r hr).view.set) (f := f) hS) $$ H
  iintro H
  iapply Hk
  iexists ((m.access r).write Val f w Finset.univ)
  isplitr
  · ipureintro; exact View.read_write_univ _ _
  iexact H

/-- Store the rectangle of a memref held whole. -/
theorem wp_store_part {Q : α → sProp 𝕄} {cs : CoreSpace} {s : Shape} {e : EltTy} {m : Memref sig c.2.kind cs s e} {r : Rect s} (hr : ∀ a, r.stride a = 1)
    {w : r.shape.Idx → Val e} {hx : (m.access r).Stores Finset.univ} {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  have hS : (m.access r).setOn Finset.univ ⊆ m.view.set := m.view.set_slice_subset r
  iapply (wp_store 𝒱 c bd Set.univ (m := m) (r := r) (Mk := Finset.univ) (S := m.view.set) (f := f) hS) $$ H
  iintro H
  iapply Hk
  iexists ((m.access r).write Val f w Finset.univ)
  isplitr
  · ipureintro
    show m.view.read Val ((m.view.slice r).write Val f w Finset.univ) = _
    funext x
    by_cases hx : x ∈ r.set
    · rw [← Rect.map_emb_univ, Finset.mem_map] at hx
      obtain ⟨j, -, rfl⟩ := hx
      rw [Rect.overlay_emb]
      exact congrFun (View.read_write_univ (v := m.view.slice r) f w) j
    · rw [Rect.overlay_of_not_mem r X w hx, ← hf]
      exact View.read_slice_write_of_not_mem r f w Finset.univ (by rwa [Rect.map_emb_univ])
  iexact H

end Run

end Cert.Own

end
-- ==== Proof.Ideal.Cells.lean ====
/-
# 01_k — the memrefs and semaphore cells of the kernel

The kernel's buffers and the pieces its transfers move (a column slice of the staged K or V, a row slice of a partial
product, a slot of a landing buffer), and its semaphores by use: `Use` names one of a device's 58 transfer semaphores,
`none : Option Use` the barrier semaphore.
-/
module

public import Mathlib.Tactic.DeriveFintype
public import proofs.«01_k».proof.Proof.Own
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.KernelIdeal.Pf

open Cert.KernelIdeal Cert.KernelIdeal.Gen Cert.Own
open Idealize.ShloMosaic Idealize.ShloMosaic.TcCoe

/-! ## Rectangles -/

theorem inb_cols : ∀ (d : Fin 8) (a : Fin 3), (![0, 0, 256 * d.val] : Fin 3 → ℕ) a + S2x256x256.size a ≤ S2x256x2048.size a := by decide
theorem inb_rows : ∀ (d : Fin 8) (a : Fin 3), (![0, 32 * d.val, 0] : Fin 3 → ℕ) a + S2x32x512.size a ≤ S2x256x512.size a := by decide
theorem inb_slot : ∀ (d : Fin 8) (a : Fin 4), (![d.val, 0, 0, 0] : Fin 4 → ℕ) a + S1x2x32x512.size a ≤ S8x2x32x512.size a := by decide
theorem inb_rbuf : ∀ (t : Fin 3) (a : Fin 4), (![t.val, 0, 0, 0] : Fin 4 → ℕ) a + S1x2x256x256.size a ≤ S3x2x256x256.size a := by decide
theorem inb_half : ∀ (b : Fin 2) (a : Fin 3), (![b.val, 0, 0] : Fin 3 → ℕ) a + S1x256x512.size a ≤ S2x256x512.size a := by decide

/-- The columns of the staged K or V that device `d`'s heads use; -/
abbrev colR (d : Fin 8) : Rect S2x256x2048 := Rect.unit (s := S2x256x2048) ![0, 0, 256 * d.val] S2x256x256.size (inb_cols d)
/-- the rows of a partial product (or of the result) that device `d` reduces; -/
abbrev rowR (d : Fin 8) : Rect S2x256x512 := Rect.unit (s := S2x256x512) ![0, 32 * d.val, 0] S2x32x512.size (inb_rows d)
/-- slot `d` of a buffer of eight, -/
abbrev slotR (d : Fin 8) : Rect S8x2x32x512 := Rect.unit (s := S8x2x32x512) ![d.val, 0, 0, 0] S1x2x32x512.size (inb_slot d)
/-- of three; -/
abbrev rbufR (t : Fin 3) : Rect S3x2x256x256 := Rect.unit (s := S3x2x256x256) ![t.val, 0, 0, 0] S1x2x256x256.size (inb_rbuf t)
/-- batch `b` of a partial product. -/
abbrev halfR (b : Fin 2) : Rect S2x256x512 := Rect.unit (s := S2x256x512) ![b.val, 0, 0] S1x256x512.size (inb_half b)

/-! ## Memrefs -/

abbrev xM : Memref sig .tc .vmem S2x256x512 .f32 := Memref.whole cc0_stg0_0
abbrev wqM : Memref sig .tc .vmem S512x256 .f32 := Memref.whole cc0_stg1_0
abbrev woM : Memref sig .tc .vmem S256x512 .f32 := Memref.whole cc0_stg2_0
abbrev outM : Memref sig .tc .vmem S2x256x512 .f32 := Memref.whole cc0_stg3_0
abbrev kinM : Memref sig .tc .hbm S2x256x32x64 .f32 := Memref.whole main_arg2
abbrev vinM : Memref sig .tc .hbm S2x256x32x64 .f32 := Memref.whole main_arg3
abbrev kfM : Memref sig .tc .vmem S2x256x32x64 .f32 := Memref.whole cc0_scratch0
abbrev vfM : Memref sig .tc .vmem S2x256x32x64 .f32 := Memref.whole cc0_scratch1
abbrev kstM : Memref sig .tc .vmem S2x256x2048 .bf16 := Memref.whole cc0_scratch2
abbrev vstM : Memref sig .tc .vmem S2x256x2048 .bf16 := Memref.whole cc0_scratch3
abbrev kbM : Memref sig .tc .vmem S2x256x256 .bf16 := Memref.whole cc0_scratch4
abbrev vbM : Memref sig .tc .vmem S2x256x256 .bf16 := Memref.whole cc0_scratch5
abbrev rbM : Memref sig .tc .vmem S3x2x256x256 .bf16 := Memref.whole cc0_scratch6
abbrev partM : Memref sig .tc .vmem S2x256x512 .bf16 := Memref.whole cc0_scratch7
abbrev rsM : Memref sig .tc .vmem S8x2x32x512 .bf16 := Memref.whole cc0_scratch8
abbrev agsM : Memref sig .tc .vmem S2x32x512 .bf16 := Memref.whole cc0_scratch9
abbrev agM : Memref sig .tc .vmem S8x2x32x512 .bf16 := Memref.whole cc0_scratch10

abbrev kcolM (d : Fin 8) : Memref sig .tc .vmem S2x256x256 .bf16 := kstM.slice (colR d) (fun _ => rfl)
abbrev vcolM (d : Fin 8) : Memref sig .tc .vmem S2x256x256 .bf16 := vstM.slice (colR d) (fun _ => rfl)
abbrev prowM (d : Fin 8) : Memref sig .tc .vmem S2x32x512 .bf16 := partM.slice (rowR d) (fun _ => rfl)
abbrev orowM (d : Fin 8) : Memref sig .tc .vmem S2x32x512 .f32 := outM.slice (rowR d) (fun _ => rfl)
abbrev rs1M (s : Fin 8) : Memref sig .tc .vmem S1x2x32x512 .bf16 := rsM.slice (slotR s) (fun _ => rfl)
abbrev ag1M (s : Fin 8) : Memref sig .tc .vmem S1x2x32x512 .bf16 := agM.slice (slotR s) (fun _ => rfl)
abbrev rsSlotM (s : Fin 8) : Memref sig .tc .vmem S2x32x512 .bf16 := (rs1M s).squeeze S2x32x512 squeezes_S1x2x32x512_S2x32x512
abbrev agSlotM (s : Fin 8) : Memref sig .tc .vmem S2x32x512 .bf16 := (ag1M s).squeeze S2x32x512 squeezes_S1x2x32x512_S2x32x512
abbrev rb1M (t : Fin 3) : Memref sig .tc .vmem S1x2x256x256 .bf16 := rbM.slice (rbufR t) (fun _ => rfl)
abbrev rbSlotM (t : Fin 3) : Memref sig .tc .vmem S2x256x256 .bf16 := (rb1M t).squeeze S2x256x256 squeezes_S1x2x256x256_S2x256x256

/-! ## Semaphores -/

theorem inb_sem2 : ∀ (d : Fin 2) (a : Fin 1), (![d.val] : Fin 1 → ℕ) a + S1.size a ≤ S2.size a := by decide
theorem inb_sem3 : ∀ (d : Fin 3) (a : Fin 1), (![d.val] : Fin 1 → ℕ) a + S1.size a ≤ S3.size a := by decide
theorem inb_sem8 : ∀ (d : Fin 8) (a : Fin 1), (![d.val] : Fin 1 → ℕ) a + S1.size a ≤ S8.size a := by decide

abbrev sem2 (a : DmaSems sig S2) (d : Fin 2) : DmaSem sig := ((a.slice (Rect.unit (s := S2) ![d.val] S1.size (inb_sem2 d))).squeeze S_ squeezes_S1_S_).sem
abbrev sem3 (a : DmaSems sig S3) (d : Fin 3) : DmaSem sig := ((a.slice (Rect.unit (s := S3) ![d.val] S1.size (inb_sem3 d))).squeeze S_ squeezes_S1_S_).sem
abbrev sem8 (a : DmaSems sig S8) (d : Fin 8) : DmaSem sig := ((a.slice (Rect.unit (s := S8) ![d.val] S1.size (inb_sem8 d))).squeeze S_ squeezes_S1_S_).sem

/-- A device's transfer semaphores by use: of the copies of K and V in, of its sends of K and V slices, of what it
    receives of them, of what it relays, and, by the other end, of the partial products' exchange (send, receive) and of
    the reduced rows' exchange (send, receive). -/
inductive Use
  | copy (i : Fin 2)
  | ksend (d : Fin 8)
  | vsend (d : Fin 8)
  | krecv
  | vrecv
  | relay (t : Fin 3)
  | fwd (t : Fin 3)
  | rssend (d : Fin 8)
  | rsrecv (s : Fin 8)
  | agsend (d : Fin 8)
  | agrecv (s : Fin 8)
  deriving DecidableEq, Fintype

def ownSem : Use → DmaSem sig
  | .copy i => sem2 cc0_scratch11 i
  | .ksend d => sem8 cc0_scratch12 d
  | .vsend d => sem8 cc0_scratch13 d
  | .krecv => cc0_scratch14.sem
  | .vrecv => cc0_scratch15.sem
  | .relay t => sem3 cc0_scratch16 t
  | .fwd t => sem3 cc0_scratch17 t
  | .rssend d => sem8 cc0_scratch18 d
  | .rsrecv s => sem8 cc0_scratch19 s
  | .agsend d => sem8 cc0_scratch20 d
  | .agrecv s => sem8 cc0_scratch21 s

abbrev osem (k : Use) : SemLoc sig := .dma (ownSem k)

/-- The barrier semaphore. -/
abbrev barS : Sem sig := (SemArray.scalar (sig.barrier 0 rfl) : Sems sig S_).sem

/-- All of a device's semaphores that the kernel's protocol uses: `none` is the barrier semaphore. -/
def csem : Option Use → SemLoc sig
  | none => .reg barS
  | some k => osem k

abbrev cell (c : Dev nD) (k : Option Use) : GSem nD τ sig := ((c : Thread nD τ), csem k)

theorem ownSemFacts : Pipeline.OwnSemFacts cfg0.spec osem := by decide +kernel

theorem csem_injective : Function.Injective csem := by
  intro a b h
  cases a <;> cases b
  · rfl
  · exact absurd h (by simp [csem])
  · exact absurd h (by simp [csem])
  · exact congrArg some (ownSemFacts.inj h)

theorem cell_inj {c c' : Dev nD} {k k' : Option Use} (h : cell c k = cell c' k') : c = c' ∧ k = k' :=
  ⟨congrArg (fun g : GSem nD τ sig => g.1.1) h, csem_injective (congrArg Prod.snd h)⟩

open Classical in
/-- Which of them a semaphore is, if one. -/
def useOf (sm : SemLoc sig) : Option (Option Use) := if h : ∃ k, csem k = sm then some h.choose else none

theorem useOf_csem (k : Option Use) : useOf (csem k) = some k := by
  have h : ∃ k', csem k' = csem k := ⟨k, rfl⟩
  unfold useOf
  rw [dif_pos h]
  exact congrArg some (csem_injective h.choose_spec)

/-- The staging semaphores are none of them. -/
theorem useOf_stage (w : Fin cfg0.W) (s) : useOf (.dma ((cfg0.spec w).sem s)) = none := by
  unfold useOf
  rw [dif_neg]
  rintro ⟨_ | k, h⟩
  · exact absurd h (by simp [csem])
  · exact ownSemFacts.disj k w s h

end Cert.KernelIdeal.Pf

end
-- ==== Proof.Ideal.Protocol.lean ====
/-
# 01_k — the protocol: who hands what to whom, at which semaphore

Every semaphore is used for one round. A device's barrier semaphore is signalled once by each other device, which hands
over the landing places it will receive into from that device; a transfer semaphore is credited by one transfer, whose
receiver gets the elements written and whose sender gets its source back.
-/
module

public import proofs.«01_k».proof.Proof.Ideal.Cells
public import Idealize.ShloMosaic.Lib.Pipeline.BigSepL

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's rounds (duties `Unit`) and the kernel's (duties: the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who sends what -/

/-- The other devices, in order. -/
def others : Fin 8 → List (Fin 8) :=
  ![[1, 2, 3, 4, 5, 6, 7], [0, 2, 3, 4, 5, 6, 7], [0, 1, 3, 4, 5, 6, 7], [0, 1, 2, 4, 5, 6, 7],
    [0, 1, 2, 3, 5, 6, 7], [0, 1, 2, 3, 4, 6, 7], [0, 1, 2, 3, 4, 5, 7], [0, 1, 2, 3, 4, 5, 6]]

theorem others_nodup : ∀ c, (others c).Nodup := by decide
theorem mem_others : ∀ c d, d ∈ others c ↔ d ≠ c := by decide
theorem others_toFinset (c : Fin 8) : (others c).toFinset = Finset.univ.erase c := by
  ext d; simp [mem_others]

/-- Which transfer semaphores of device `c` a transfer credits. -/
def live (c : Dev nD) : Use → Bool
  | .copy _ => c = (0 : Fin 8)
  | .ksend d => c = (0 : Fin 8) ∧ d ≠ 0
  | .vsend d => c = (0 : Fin 8) ∧ d ≠ 0
  | .krecv => c ≠ (0 : Fin 8)
  | .vrecv => c ≠ (0 : Fin 8)
  | .relay t => c = (4 : Fin 8) ∨ c = (3 : Fin 8) ∧ t ≠ 2
  | .fwd t => c = (4 : Fin 8) ∨ c = (3 : Fin 8) ∧ t ≠ 2
  | .rssend d => d ≠ c
  | .rsrecv s => s ≠ c
  | .agsend d => d ≠ c
  | .agrecv s => s ≠ c

/-- The transfers of K and V slices that device `c` makes, in order: the receiving device and which of its semaphores; -/
def kvD : Dev nD → List (Dev nD × Use) :=
  (![[(4, .relay 0), (4, .relay 1), (4, .relay 2), (3, .relay 0), (3, .relay 1), (2, .krecv), (2, .vrecv), (1, .krecv), (1, .vrecv),
      (4, .krecv), (4, .vrecv), (3, .krecv), (3, .vrecv), (7, .krecv)],
     [], [], [(6, .krecv), (6, .vrecv)], [(5, .krecv), (5, .vrecv), (7, .vrecv)], [], [], []]
    : Fin 8 → List (Fin 8 × Use))
/-- and of all, with those of its partial product's rows and of its reduced rows. -/
def farD (c : Dev nD) : List (Dev nD × Use) :=
  kvD c ++ ((others c).map (fun d => (d, Use.rsrecv c)) ++ (others c).map (fun d => (d, Use.agrecv c)))
/-- Those of device `t` that device `p` receives. -/
def recvFrom (p t : Dev nD) : List Use := ((farD t).filter fun x => x.1 = p).map (·.2)

/-- By how much. -/
def amt : Use → ℕ
  | .copy _ => kfM.view.dmaCredit
  | .ksend _ | .vsend _ | .krecv | .vrecv | .relay _ | .fwd _ => kbM.view.dmaCredit
  | .rssend _ | .rsrecv _ | .agsend _ | .agrecv _ => agsM.view.dmaCredit

theorem amt_pos (k : Use) : 0 < amt k := by
  have h1 : 0 < kfM.view.dmaCredit := View.dmaCredit_pos _ (by decide +kernel)
  have h2 : 0 < kbM.view.dmaCredit := View.dmaCredit_pos _ (by decide +kernel)
  have h3 : 0 < agsM.view.dmaCredit := View.dmaCredit_pos _ (by decide +kernel)
  unfold amt
  split <;> assumption

/-! ## What the transfers carry -/

/-- The contents the protocol speaks of: each device's arrays K and V, device 0's staged, each device's partial product
    and each device's reduced rows. -/
structure Data (F : FTy → Type) where
  kin : Dev nD → S2x256x32x64.Idx → Elt F .f32
  vin : Dev nD → S2x256x32x64.Idx → Elt F .f32
  kst : S2x256x2048.Idx → Elt F .bf16
  vst : S2x256x2048.Idx → Elt F .bf16
  part : Dev nD → S2x256x512.Idx → Elt F .bf16
  red : Dev nD → S2x32x512.Idx → Elt F .bf16

namespace Data
variable (D : Data F)
/-- The K and V slices of device `d`, -/
def kcol (d : Fin 8) : S2x256x256.Idx → Elt F .bf16 := fun j => D.kst ((colR d).emb j)
def vcol (d : Fin 8) : S2x256x256.Idx → Elt F .bf16 := fun j => D.vst ((colR d).emb j)
/-- the rows of `s`'s partial product that `d` reduces, -/
def prow (s d : Fin 8) : S2x32x512.Idx → Elt F .bf16 := fun j => D.part s ((rowR d).emb j)
/-- what device `c` relays in its slot `t`. -/
def rel (c : Dev nD) (t : Fin 3) : S2x256x256.Idx → Elt F .bf16 :=
  match t with
  | 0 => D.kcol (if c = (4 : Fin 8) then 5 else 6)
  | 1 => D.vcol (if c = (4 : Fin 8) then 5 else 6)
  | 2 => D.vcol 7
end Data

/-- The share of its reduced rows that device `c` lends the transfer to `d`. -/
def agShare (c d : Fin 8) : PosShare TreeShare := Transfers.dealOf fullShare (Finset.univ.erase c) d

/-! ## The schedule -/

/-- The place that the transfer crediting device `p`'s semaphore `k` writes. -/
def place (p : Dev nD) : Use → sProp 𝕄
  | .krecv => anyOf (p : Thread nD τ) kbM
  | .vrecv => anyOf (p : Thread nD τ) vbM
  | .relay i => anyOf (p : Thread nD τ) (rbSlotM i)
  | .rsrecv s => anyOf (p : Thread nD τ) (rsSlotM s)
  | .agrecv s => anyOf (p : Thread nD τ) (agSlotM s)
  | _ => iprop(emp)

/-- What device `p`'s signal hands device `t`: the places `t` writes on `p`. -/
def grant (p t : Dev nD) : sProp 𝕄 := bigSepL (recvFrom p t) (place p)

/-- What the transfer crediting device `c`'s semaphore `k` hands `c`. -/
def pay (D : Data F) (c : Dev nD) : Use → sProp 𝕄
  | .copy 0 => iprop(owns (c : Thread nD τ) kfM fullShare (D.kin c) ∗ owns (c : Thread nD τ) kinM fullShare (D.kin c))
  | .copy 1 => iprop(owns (c : Thread nD τ) vfM fullShare (D.vin c) ∗ owns (c : Thread nD τ) vinM fullShare (D.vin c))
  | .ksend d => owns (c : Thread nD τ) (kcolM d) fullShare (D.kcol d)
  | .vsend d => owns (c : Thread nD τ) (vcolM d) fullShare (D.vcol d)
  | .krecv => owns (c : Thread nD τ) kbM fullShare (D.kcol c)
  | .vrecv => owns (c : Thread nD τ) vbM fullShare (D.vcol c)
  | .relay t => owns (c : Thread nD τ) (rbSlotM t) fullShare (D.rel c t)
  | .fwd t => owns (c : Thread nD τ) (rbSlotM t) fullShare (D.rel c t)
  | .rssend d => owns (c : Thread nD τ) (prowM d) fullShare (D.prow c d)
  | .rsrecv s => owns (c : Thread nD τ) (rsSlotM s) fullShare (D.prow s c)
  | .agsend d => owns (c : Thread nD τ) agsM (agShare c d) (D.red c)
  | .agrecv s => owns (c : Thread nD τ) (agSlotM s) fullShare (D.red s)

instance place_storable (p : Dev nD) (k : Use) : BI.Storable (upEmb : UEmb _ 𝕄) (place (F := F) p k) := by
  unfold place
  split <;> infer_instance

instance grant_storable (p t : Dev nD) : BI.Storable (upEmb : UEmb _ 𝕄) (grant (F := F) p t) := by
  unfold grant
  generalize recvFrom p t = l
  induction l with
  | nil => exact (inferInstance : BI.Storable (upEmb : UEmb _ 𝕄) iprop(emp))
  | cons k l ih => rw [bigSepL_cons']; infer_instance

instance pay_storable (D : Data F) (c : Dev nD) (k : Use) : BI.Storable (upEmb : UEmb _ 𝕄) (pay D c k) := by
  unfold pay
  split <;> infer_instance

/-- One round, round 0: a barrier semaphore has a duty of one unit for each other device, a live transfer semaphore one
    duty. -/
def sched (D : Data F) : Rounds.Schedule (GSem nD τ sig) (Dev nD) 𝕄 where
  duties g r := if r = 0 then (match useOf g.2 with
    | some none => Finset.univ.erase g.1.1
    | some (some k) => if live g.1.1 k then {(0 : Fin 8)} else ∅
    | none => ∅) else ∅
  unitless _ := False
  amount g _ _ := match useOf g.2 with
    | some (some k) => amt k
    | _ => 1
  payload g _ d := match useOf g.2 with
    | some none => grant d g.1.1
    | some (some k) => pay D g.1.1 k
    | none => iprop(emp)
  amount_pos g _ _ _ := by
    split
    · exact amt_pos _
    · exact Nat.one_pos

instance sched_payload_storable (D : Data F) (g : GSem nD τ sig) (r : ℕ) (d : Dev nD) :
    BI.Storable (upEmb : UEmb _ 𝕄) ((sched (F := F) D).payload g r d) := by
  show BI.Storable upEmb (match useOf g.2 with
    | some none => grant d g.1.1
    | some (some k) => pay D g.1.1 k
    | none => iprop(emp))
  split <;> infer_instance

section Sched
variable (D : Data F) (c : Dev nD)

theorem duties_bar : (sched D).duties (cell c none) 0 = Finset.univ.erase c := by
  show (if (0 : ℕ) = 0 then (match useOf (csem none) with
    | some none => Finset.univ.erase c
    | some (some k) => if live c k then {(0 : Fin 8)} else ∅
    | none => ∅) else ∅) = _
  rw [useOf_csem]; rfl
/-- A transfer semaphore's duties. -/
theorem duties_some (k : Use) : (sched D).duties (cell c (some k)) 0 = if live c k then {(0 : Fin 8)} else ∅ := by
  show (if (0 : ℕ) = 0 then (match useOf (csem (some k)) with
    | some none => Finset.univ.erase c
    | some (some k) => if live c k then {(0 : Fin 8)} else ∅
    | none => ∅) else ∅) = _
  rw [useOf_csem]; rfl
theorem duties_use (k : Use) (h : live c k = true) : (sched D).duties (cell c (some k)) 0 = {(0 : Fin 8)} := by
  rw [duties_some, h]; rfl
theorem duties_idle (k : Use) (h : live c k = false) : (sched D).duties (cell c (some k)) 0 = ∅ := by
  rw [duties_some, h]; rfl
theorem duties_later (g : GSem nD τ sig) : ∀ r, 1 ≤ r → (sched D).duties g r = ∅ :=
  fun r hr => if_neg (by omega)
theorem amount_bar (d : Dev nD) : (sched D).amount (cell c none) 0 d = 1 := by
  show (match useOf (csem none) with | some (some k) => amt k | _ => 1) = 1
  rw [useOf_csem]
theorem amount_use (k : Use) (d : Dev nD) : (sched D).amount (cell c (some k)) 0 d = amt k := by
  show (match useOf (csem (some k)) with | some (some k) => amt k | _ => 1) = amt k
  rw [useOf_csem]
theorem payload_bar (d : Dev nD) : (sched D).payload (cell c none) 0 d = grant d c := by
  show (match useOf (csem none) with | some none => grant d c | some (some k) => pay D c k | none => iprop(emp)) = _
  rw [useOf_csem]
theorem payload_use (k : Use) (d : Dev nD) : (sched D).payload (cell c (some k)) 0 d = pay D c k := by
  show (match useOf (csem (some k)) with | some none => grant d c | some (some k) => pay D c k | none => iprop(emp)) = _
  rw [useOf_csem]

theorem expect_bar : (sched D).expect (cell c none) 0 = 7 := by
  unfold Schedule.expect Schedule.amountOf
  rw [duties_bar, Finset.sum_congr rfl fun d _ => amount_bar D c d, Finset.sum_const, Finset.card_erase_of_mem (Finset.mem_univ _)]
  rfl
theorem expect_use (k : Use) (h : live c k = true) : (sched D).expect (cell c (some k)) 0 = amt k := by
  unfold Schedule.expect Schedule.amountOf
  rw [duties_use D c k h, Finset.sum_singleton, amount_use]

/-- What a wait for the whole round brings. -/
theorem rest_bar : bigSep ((sched D).duties (cell c none) 0 \ ∅) (fun d => (sched D).payload (cell c none) 0 d)
    = bigSep (Finset.univ.erase c) fun p => grant p c := by
  rw [Finset.sdiff_empty, duties_bar]; exact bigSep_congr fun d _ => payload_bar D c d
theorem rest_use (k : Use) (h : live c k = true) :
    bigSep ((sched D).duties (cell c (some k)) 0 \ ∅) (fun d => (sched D).payload (cell c (some k)) 0 d) = pay D c k := by
  rw [Finset.sdiff_empty, duties_use D c k h, bigSep_singleton, payload_use]
end Sched

/-! ## What each device owes, in the order it pays -/

abbrev Due : Type := Dev nD × Option Use

def dueAmt : Option Use → ℕ
  | none => 1
  | some k => amt k

def dueAt (p : Due) : CellTallies nD τ sig Unit := tallyAt (cell p.1 p.2) () (dueAmt p.2)
def tot (l : List Due) : CellTallies nD τ sig Unit := (l.map dueAt).sum

theorem tot_nil : tot [] = 0 := rfl
theorem tot_cons (p : Due) (l : List Due) : tot (p :: l) = tot l + dueAt p := by
  unfold tot; rw [List.map_cons, List.sum_cons, add_comm]

/-- Its signals, -/
def barL (c : Dev nD) : List Due :=
  ([1, 2, 3, 4, 5, 6, 7] : List (Fin 8)).map fun k => ((c + k : Fin 8), none)
/-- its sends of K and V slices, -/
def kvL (c : Dev nD) : List Due := (kvD c).map fun p => (p.1, some p.2)
/-- of its partial product's rows, -/
def rsL (c : Dev nD) : List Due := (others c).map fun d => (d, some (.rsrecv c))
/-- of its reduced rows. -/
def agL (c : Dev nD) : List Due := (others c).map fun d => (d, some (.agrecv c))

def dueL (c : Dev nD) : List Due := barL c ++ (kvL c ++ (rsL c ++ agL c))

/-- Waits are ordered by these levels: a device that waits owes only at higher ones. -/
def lvU : Option Use → ℕ
  | none => 1
  | some (.relay _) => 2
  | some .krecv | some .vrecv => 3
  | some (.rsrecv _) => 4
  | some (.agrecv _) => 5
  | some _ => 0

def L (g : GSem nD τ sig) : Finset Unit := if g.1.2 = .tc then {()} else ∅
def lv (g : GSem nD τ sig) (_ : Unit) : ℕ := match useOf g.2 with
  | some k => lvU k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option Use) (u : Unit) : lv (cell c k) u = lvU k := by
  show (match useOf (csem k) with | some k => lvU k | none => 0) = _
  rw [useOf_csem]

theorem tot_pos {l : List Due} {g : GSem nD τ sig} {u : Unit} (h : 0 < tot l g u) : ∃ p ∈ l, g = cell p.1 p.2 := by
  induction l with
  | nil => exact absurd h (Nat.lt_irrefl 0)
  | cons p l ih =>
    rw [tot_cons, Pi.add_apply, Finsupp.add_apply] at h
    by_cases hg : g = cell p.1 p.2
    · exact ⟨p, List.mem_cons_self, hg⟩
    · have h0 : dueAt p g u = 0 := by
        unfold dueAt; rw [tallyAt_apply, if_neg fun h' => hg h'.1]
      rw [h0, Nat.add_zero] at h
      obtain ⟨p', hp, e⟩ := ih h
      exact ⟨p', List.mem_cons_of_mem _ hp, e⟩

/-- A device may wait at a semaphore below all it owes. -/
theorem mayWait (c : Dev nD) (sm : SemLoc sig) (l : List Due) (h : ∀ p ∈ l, lv ((c : Thread nD τ), sm) () < lvU p.2) :
    (levAts L lv : sProp 𝕄) ⊢ MayWait (c : Thread nD τ) sm () (tot l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := tot_pos hg; rw [L_tc]; exact Finset.mem_singleton_self _)
    (fun p hp => by rw [Finset.mem_singleton.mp hp])
    (fun g u hg => by obtain ⟨p, hp, rfl⟩ := tot_pos hg; rw [lv_cell]; exact h p hp)

theorem dueL_pos : ∀ c, ∀ p ∈ dueL c, 0 < lvU p.2 := by decide +kernel

end Cert.KernelIdeal.Pf

end
-- ==== Proof.Ideal.Rules.lean ====
/-
# 01_k — the rules the body's proof runs on

One rule per effect of the kernel, at the protocol's cells: a signal, the barrier wait, a local copy, an addressed
transfer, a wait for a transfer, a load, a store. The persistent `env` holds every cell's invariant and the levels.
-/
module

public import proofs.«01_k».proof.Proof.Ideal.Protocol

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- Running a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The state a device's body carries -/

/-- It is at the round of its semaphore `k`; -/
def pos (c : Dev nD) (k : Option Use) : sProp 𝕄 := atPos ER (cell c k) 0 ∅ 0
/-- the semaphore is at zero, its cell closed; -/
def zero (c : Dev nD) (k : Option Use) : sProp 𝕄 := semVal (cell c k) 0
/-- the right to pay duty `d` of device `t`'s semaphore; -/
def tok (t : Dev nD) (k : Option Use) (d : Dev nD) : sProp 𝕄 := dutyTok ER (cell t k) 0 d
/-- the credit of a transfer on its own semaphore; -/
def crd (c : Dev nD) (k : Use) : sProp 𝕄 := cred (tallyAt (cell c (some k)) () (amt k))
/-- what it still owes. -/
def dues (c : Dev nD) (l : List Due) : sProp 𝕄 := iprop(∃ W, owes (c : Thread nD τ) (tot l) W)

/-- Every cell's invariant, and that its round is reached. -/
def records (D : Data F) (K : Dev nD × Option Use → ℕ) : sProp 𝕄 :=
  iprop((bigSep Finset.univ fun ck : Dev nD × Option Use => cellInv ER (sched D) (K ck) (cell ck.1 ck.2))
    ∗ bigSep Finset.univ fun ck : Dev nD × Option Use => reached ER (cell ck.1 ck.2) 0)

instance records_persistent (D : Data F) (K : Dev nD × Option Use → ℕ) : BI.Persistent (records D K) := by
  unfold records; infer_instance

def env (D : Data F) (K : Dev nD × Option Use → ℕ) : sProp 𝕄 := iprop(records D K ∗ levAts L lv)

instance env_persistent (D : Data F) (K : Dev nD × Option Use → ℕ) : BI.Persistent (env D K) := by
  unfold env; infer_instance

variable (D : Data F) (K : Dev nD × Option Use → ℕ)

theorem env_inv (c : Dev nD) (k : Option Use) : env D K ⊢ cellInv ER (sched D) (K (c, k)) (cell c k) := by
  unfold env records
  iintro ⟨⟨H, -⟩, -⟩
  iapply (show (bigSep Finset.univ fun ck : Dev nD × Option Use => (cellInv ER (sched D) (K ck) (cell ck.1 ck.2) : sProp 𝕄)) ⊢ cellInv ER (sched D) (K (c, k)) (cell c k) from
    bigSep_elim (Finset.mem_univ (c, k)))
  iexact H
theorem env_reached (c : Dev nD) (k : Option Use) : env D K ⊢ reached ER (cell c k) 0 := by
  unfold env records
  iintro ⟨⟨-, H⟩, -⟩
  iapply (show (bigSep Finset.univ fun ck : Dev nD × Option Use => (reached ER (cell ck.1 ck.2) 0 : sProp 𝕄)) ⊢ reached ER (cell c k) 0 from
    bigSep_elim (Finset.mem_univ (c, k)))
  iexact H
theorem env_lev : env D K ⊢ levAts L lv := by
  unfold env; iintro ⟨-, H⟩; iexact H

/-! ## The rules -/

/-- A signal to device `t`'s barrier semaphore. -/
theorem wp_sig (c t n : Dev nD) (hn : n = t) (h : c ≠ t) (l : List Due) {Q : PUnit → sProp 𝕄} :
    iprop(env D K ∗ dues c ((t, none) :: l) ∗ tok t none c ∗ grant c t)
      ⊢ iprop((dues c l -∗ Q ⟨⟩) -∗ run c (semSignalWord n barS 1#32) Q) := by
  subst hn
  unfold dues tok
  iintro ⟨#He, ⟨%W, Ho⟩, Ht, Hg⟩ Hk
  iapply (Rounds.wp_signal 𝒱₀ ER (sched D) (c : Thread nD τ) none (dst := (n : Thread nD τ)) (κ := K (n, none)) (r := 0)
      (d := c) (k' := 1) (by show c ∈ (sched D).duties (cell n none) 0; rw [duties_bar]; exact Finset.mem_erase.mpr ⟨h, Finset.mem_univ _⟩) (amount_bar D n c) () (tot l)
      (tot_cons (n, none) l)) $$ [Ho Ht Hg]
  · isplitr; · iapply (env_inv D K n none); iexact He
    isplitl [Ho]; · iexact Ho
    isplitl [Ht]; · iexact Ht
    isplitl [Hg]; · iapply (show grant c n ⊢ (sched D).payload ((n : Thread nD τ), SemLoc.reg barS) 0 c from Entails.of_eq (payload_bar D n c).symm); iexact Hg
    iapply (env_reached D K n none); iexact He
  iintro Ho
  rw [wp_ret]; imodintro
  iapply Hk
  iexists W; iexact Ho

/-- The wait for the seven others, closing the barrier's cell. -/
theorem wp_bar_wait (c : Dev nD) (l : List Due) (hl : ∀ p ∈ l, 1 < lvU p.2) {Q : PUnit → sProp 𝕄} :
    iprop(env D K ∗ cred (tallyAt (cell c none) () 7) ∗ dues c l ∗ pos c none)
      ⊢ iprop(((dues c l ∗ zero c none ∗ bigSep (Finset.univ.erase c) fun p => grant p c) -∗ Q ⟨⟩)
          -∗ run c (semWaitWord barS 7#32) Q) := by
  unfold dues pos zero
  iintro ⟨#He, Hc, ⟨%W, Ho⟩, Hp⟩ Hk
  iapply (Rounds.wp_wait_rest_token 𝒱₀ ER (sched D) (c : Thread nD τ) none (κ := K (c, none))
      (wpE_semWait_eq 𝒱₀ (c : Thread nD τ) none Set.univ) (Set.mem_univ _) () (O := tot l) (W := W) (R := 0) (m := 0) (T := ∅)
      (by rw [show ((c : Thread nD τ), SemLoc.reg barS) = cell c none from rfl, expect_bar]; decide)) $$ [Hc Ho Hp]
  · isplitr; · iapply (env_inv D K c none); iexact He
    isplitl [Hc]; · iexact Hc
    isplitl [Ho]; · iexact Ho
    isplitr
    · iapply (mayWait c (csem none) l (fun p hp => by rw [lv_cell]; exact hl p hp)); iapply (env_lev D K); iexact He
    iexact Hp
  iintro ⟨Ho, Hp, -, Hpay⟩
  imod (Rounds.cell_close ER (sched D) (Set.mem_univ (K (c, none))) (fun h => h) (R := 0 + 1) (duties_later D (cell c none))) $$ [Hp] with Hz
  · isplitr; · iapply (env_inv D K c none); iexact He
    iexact Hp
  rw [wp_ret]; imodintro
  iapply Hk
  isplitl [Ho]; · iexists _; iexact Ho
  isplitl [Hz]; · iexact Hz
  iapply (Entails.of_eq (rest_bar D c)); iexact Hpay

/-- A cell that receives nothing closes at once. -/
theorem close_idle (c : Dev nD) (k : Use) (h : live c k = false) :
    iprop(env D K ∗ pos c (some k)) ⊢ (|={Set.univ}=> zero c (some k) : sProp 𝕄) := by
  unfold pos zero
  iintro ⟨#He, Hp⟩
  iapply (Rounds.cell_close ER (sched D) (Set.mem_univ (K (c, some k))) (fun h => h) (R := 0) (fun r _ => by
    rcases r with _ | r
    · exact duties_idle D c k h
    · exact duties_later D _ _ (Nat.succ_le_succ (Nat.zero_le r))))
  isplitr; · iapply (env_inv D K c (some k)); iexact He
  iexact Hp

/-- A wait for the transfer crediting its semaphore `k`, closing the cell. -/
theorem wp_await (c : Dev nD) (k : Use) (hlv : live c k = true) (l : List Due) (hl : ∀ p ∈ l, lvU (some k) < lvU p.2)
    {sm : DmaSem sig} (hsm : sm = ownSem k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k) {Q : PUnit → sProp 𝕄} :
    iprop(env D K ∗ crd c k ∗ dues c l ∗ pos c (some k))
      ⊢ iprop(((dues c l ∗ zero c (some k) ∗ pay D c k) -∗ Q ⟨⟩)
          -∗ run c (Prog.lift (.waitDma2 sm src dst hsrc hdst)) Q) := by
  subst hsm
  unfold dues pos zero crd
  iintro ⟨#He, Hc, ⟨%W, Ho⟩, Hp⟩ Hk
  iapply (Rounds.wp_wait_rest_token 𝒱₀ ER (sched D) (c : Thread nD τ) none (κ := K (c, some k))
      (wpE_waitDma2_eq 𝒱₀ (c : Thread nD τ) none Set.univ) (Set.mem_univ _) () (O := tot l) (W := W) (R := 0) (m := 0) (T := ∅)
      (by rw [show ((c : Thread nD τ), SemLoc.dma (ownSem k)) = cell c (some k) from rfl, expect_use D c k hlv, hN, Nat.zero_add])) $$ [Hc Ho Hp]
  · isplitr; · iapply (env_inv D K c (some k)); iexact He
    isplitl [Hc]
    · rw [hN]; iexact Hc
    isplitl [Ho]; · iexact Ho
    isplitr
    · iapply (mayWait c (csem (some k)) l (fun p hp => by rw [lv_cell]; exact hl p hp)); iapply (env_lev D K); iexact He
    iexact Hp
  iintro ⟨Ho, Hp, -, Hpay⟩
  imod (Rounds.cell_close ER (sched D) (Set.mem_univ (K (c, some k))) (fun h => h) (R := 0 + 1) (duties_later D (cell c (some k)))) $$ [Hp] with Hz
  · isplitr; · iapply (env_inv D K c (some k)); iexact He
    iexact Hp
  rw [wp_ret]; imodintro
  iapply Hk
  isplitl [Ho]; · iexists _; iexact Ho
  isplitl [Hz]; · iexact Hz
  iapply (Entails.of_eq (rest_use D c k hlv)); iexact Hpay

/-- An addressed transfer to device `t`, crediting its semaphore `kR` and the sender's `kS`. -/
theorem wp_send (c t n : Dev nD) (hn : n = t) (kS kR : Use) (hS : live c kS = true) (hR : live t kR = true)
    {sS sR : DmaSem sig} (hsS : sS = ownSem kS) (hsR : sR = ownSem kR)
    {sh : Shape} {e : EltTy} {src : Memref sig .tc .vmem sh e} {dst : Memref sig .tc .vmem sh e}
    (q : PosShare TreeShare) (X : sh.Idx → Elt F e)
    (hN : dst.view.dmaCredit = amt kR) (hN' : amt kS = amt kR)
    (hp₁ : pay D c kS = owns (c : Thread nD τ) src q X) (hp₂ : pay D t kR = owns (t : Thread nD τ) dst fullShare X)
    {hsc : (dst : Memref sig (Dev.tc n : Thread nD τ).2.kind .vmem sh e).view.ref.isScScratch = false}
    {hsrc : src.view.WordExact} {hdst : dst.view.WordExact}
    {hsem : DmaTarget.Typed .vmem (.dma sR) (.remote (Dev.tc n : Thread nD τ) dst (.dma sS) hsc)}
    (l : List Due) {Q : PUnit → sProp 𝕄} :
    iprop(env D K ∗ owns (c : Thread nD τ) src q X ∗ anyOf (t : Thread nD τ) dst ∗ dues c ((t, some kR) :: l)
        ∗ tok c (some kS) (0 : Fin 8) ∗ tok t (some kR) (0 : Fin 8))
      ⊢ iprop(((dues c l ∗ crd c kS) -∗ Q ⟨⟩)
          -∗ run c (Prog.lift (.enqueueDma src (.remote (Dev.tc n : Thread nD τ) dst (.dma sS) hsc) (.dma sR) hsrc hdst hsem)) Q) := by
  subst hn hsS hsR
  unfold dues tok crd anyOf owns
  iintro ⟨#He, ⟨%fs, %hfs, Hs⟩, ⟨%Y, %fd, %hfd, Hd⟩, ⟨%W, Ho⟩, HtS, HtR⟩ Hk
  iapply (Rounds.wp_send_pointsTo 𝒱₀ ER (sched D) (c : Thread nD τ) none (κ₁ := K (c, some kS)) (κ₂ := K (n, some kR))
      (q := q) (r₁ := 0) (r₂ := 0) (d₁ := (0 : Fin 8)) (d₂ := (0 : Fin 8)) (fs := fs) (fd := fd)
      (by rw [duties_use D c kS hS]; exact Finset.mem_singleton_self _)
      (by rw [duties_use D n kR hR]; exact Finset.mem_singleton_self _)
      () () (amt kR) (by exact hN) ((amount_use D c kS _).trans hN') (amount_use D n kR _) (tot l) (tot_cons (n, some kR) l) (W := W)
      (by
        rw [payload_use, hp₁]
        unfold owns
        iintro H; iexists fs; isplitr; · ipureintro; exact hfs
        iexact H)
      (by
        rw [payload_use, hp₂]
        unfold owns
        iintro H; iexists (dst.view.write (Elt F) fd (src.view.read (Elt F) fs) Finset.univ)
        isplitr
        · ipureintro; exact (View.read_write_univ _ _).trans hfs
        iexact H)) $$ [Hs Hd Ho HtS HtR]
  · isplitr; · iapply (env_inv D K c (some kS)); iexact He
    isplitr; · iapply (env_inv D K n (some kR)); iexact He
    isplitl [Hs]; · iexact Hs
    isplitl [Hd]; · iexact Hd
    isplitl [Ho]; · iexact Ho
    isplitl [HtS]; · iexact HtS
    isplitr; · iapply (env_reached D K c (some kS)); iexact He
    isplitl [HtR]; · iexact HtR
    iapply (env_reached D K n (some kR)); iexact He
  iintro ⟨Hc, Ho⟩
  rw [wp_ret]; imodintro
  iapply Hk
  isplitl [Ho]; · iexists _; iexact Ho
  rw [hN']; iexact Hc

/-- A copy on the device, crediting its semaphore `k`. -/
theorem wp_copy (c : Dev nD) (k : Use) (hk : live c k = true) {sm : DmaSem sig} (hsm : sm = ownSem k)
    {sh : Shape} {e : EltTy} {sp sp' : Space} {src : Memref sig .tc sp sh e} {dst : Memref sig .tc sp' sh e} (X : sh.Idx → Elt F e)
    (hN : dst.view.dmaCredit = amt k)
    (hp : pay D c k = iprop(owns (c : Thread nD τ) dst fullShare X ∗ owns (c : Thread nD τ) src fullShare X))
    {hsrc : src.view.WordExact} {hdst : dst.view.WordExact}
    {hsem : DmaTarget.Typed (nD := nD) (τ := τ) sp (.dma sm) (.here (p := (.tc : Proc τ)) dst)} {Q : PUnit → sProp 𝕄} :
    iprop(env D K ∗ owns (c : Thread nD τ) src fullShare X ∗ anyOf (c : Thread nD τ) dst ∗ tok c (some k) (0 : Fin 8))
      ⊢ iprop((crd c k -∗ Q ⟨⟩)
          -∗ run c (Prog.lift (.enqueueDma src (.here dst) (.dma sm) hsrc hdst hsem)) Q) := by
  subst hsm
  unfold tok crd anyOf owns
  iintro ⟨#He, ⟨%fs, %hfs, Hs⟩, ⟨%Y, %fd, %hfd, Hd⟩, Ht⟩ Hk
  iapply (Rounds.wp_copy_pointsTo 𝒱₀ ER (sched D) (c : Thread nD τ) none (κ := K (c, some k)) (q := fullShare) (r := 0) (d := (0 : Fin 8)) (fs := fs) (fd := fd)
      (by rw [duties_use D c k hk]; exact Finset.mem_singleton_self _)
      () (amt k) (by exact hN) (amount_use D c k _)
      (by
        rw [payload_use, hp]
        unfold owns
        iintro ⟨Hd, Hs⟩
        isplitl [Hd]
        · iexists (dst.view.write (Elt F) fd (src.view.read (Elt F) fs) Finset.univ)
          isplitr
          · ipureintro; exact (View.read_write_univ _ _).trans hfs
          iexact Hd
        · iexists fs; isplitr; · ipureintro; exact hfs
          iexact Hs)) $$ [Hs Hd Ht]
  · isplitr; · iapply (env_inv D K c (some k)); iexact He
    isplitl [Hs]; · iexact Hs
    isplitl [Hd]; · iexact Hd
    isplitl [Ht]; · iexact Ht
    iapply (env_reached D K c (some k)); iexact He
  iintro Hc
  rw [wp_ret]; imodintro
  iapply Hk; iexact Hc

section Mem
variable (c : Dev nD) {cs : CoreSpace} {s : Shape} {e : EltTy} {m : Memref sig .tc cs s e} {r : Rect s}

theorem ld_part {hl : m.view.LoadsAt r.toLoadRect} {q : PosShare TreeShare} (X : s.Idx → Elt F e)
    {Q : (r.toLoadRect.shape.Idx → Elt F e) → sProp 𝕄} :
    (owns (c : Thread nD τ) m q X : sProp 𝕄)
      ⊢ iprop((owns (c : Thread nD τ) m q X -∗ Q fun j => X (r.emb j)) -∗ run c (Prog.lift (.load m r.toLoadRect hl)) Q) := by
  iintro H Hk
  iapply (wp_load_part 𝒱₀ (c : Thread nD τ) none X) $$ H
  iintro H; rw [wp_ret]; imodintro; iapply Hk; iexact H

/-- A load whose value is not used. -/
theorem ld_any {hl : m.view.LoadsAt r.toLoadRect} {Q : (r.toLoadRect.shape.Idx → Elt F e) → sProp 𝕄} :
    (anyOf (c : Thread nD τ) m : sProp 𝕄)
      ⊢ iprop((∀ w, anyOf (c : Thread nD τ) m -∗ Q w) -∗ run c (Prog.lift (.load m r.toLoadRect hl)) Q) := by
  unfold anyOf
  iintro ⟨%X, H⟩ Hk
  iapply (ld_part c X) $$ H
  iintro H; iapply Hk; iexists X; iexact H

theorem ld_slice (hr : ∀ a, r.stride a = 1) {hl : m.view.LoadsAt r.toLoadRect} {q : PosShare TreeShare} (X : r.shape.Idx → Elt F e)
    {Q : (r.toLoadRect.shape.Idx → Elt F e) → sProp 𝕄} :
    (owns (c : Thread nD τ) (m.slice r hr) q X : sProp 𝕄)
      ⊢ iprop((owns (c : Thread nD τ) (m.slice r hr) q X -∗ Q X) -∗ run c (Prog.lift (.load m r.toLoadRect hl)) Q) := by
  iintro H Hk
  iapply (wp_load_slice 𝒱₀ (c : Thread nD τ) none hr X) $$ H
  iintro H; rw [wp_ret]; imodintro; iapply Hk; iexact H

theorem ld_slice_any (hr : ∀ a, r.stride a = 1) {hl : m.view.LoadsAt r.toLoadRect} {Q : (r.toLoadRect.shape.Idx → Elt F e) → sProp 𝕄} :
    (anyOf (c : Thread nD τ) (m.slice r hr) : sProp 𝕄)
      ⊢ iprop((∀ w, anyOf (c : Thread nD τ) (m.slice r hr) -∗ Q w) -∗ run c (Prog.lift (.load m r.toLoadRect hl)) Q) := by
  unfold anyOf
  iintro ⟨%X, H⟩ Hk
  iapply (ld_slice c hr X) $$ H
  iintro H; iapply Hk; iexists X; iexact H

theorem st_slice (hr : ∀ a, r.stride a = 1) {w : r.shape.Idx → Elt F e} {hx : (m.access r).Stores Finset.univ}
    {hm : Finset.univ = Finset.univ ∨ ∀ a, r.stride a = 1} {Q : PUnit → sProp 𝕄} :
    (anyOf (c : Thread nD τ) (m.slice r hr) : sProp 𝕄)
      ⊢ iprop((owns (c : Thread nD τ) (m.slice r hr) fullShare w -∗ Q ⟨⟩) -∗ run c (Prog.lift (.store m r w Finset.univ hx hm)) Q) := by
  iintro H Hk
  iapply (wp_store_slice 𝒱₀ (c : Thread nD τ) none hr) $$ H
  iintro H; rw [wp_ret]; imodintro; iapply Hk; iexact H

theorem st_part (hr : ∀ a, r.stride a = 1) {w : r.shape.Idx → Elt F e} {hx : (m.access r).Stores Finset.univ}
    {hm : Finset.univ = Finset.univ ∨ ∀ a, r.stride a = 1} (X : s.Idx → Elt F e) {Q : PUnit → sProp 𝕄} :
    (owns (c : Thread nD τ) m fullShare X : sProp 𝕄)
      ⊢ iprop((owns (c : Thread nD τ) m fullShare (r.overlay X w) -∗ Q ⟨⟩) -∗ run c (Prog.lift (.store m r w Finset.univ hx hm)) Q) := by
  iintro H Hk
  iapply (wp_store_part 𝒱₀ (c : Thread nD τ) none hr X) $$ H
  iintro H; rw [wp_ret]; imodintro; iapply Hk; iexact H
end Mem

end Cert.KernelIdeal.Pf

end
-- ==== Proof.Ideal.Compact.lean ====
/-
# 01_k — the kernel's exchanges as loops

The printed body writes each device's sends and waits out, behind a test of the device's number. Here they are loops over
the other devices, with the printed text equal to them.
-/
module

public import proofs.«01_k».proof.Proof.Ideal.Rules

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

abbrev Code (α : Type) := Prog (TpuEff nD τ sig (Elt F) Λ₀ .tc) α

/-- A loop. -/
def seqL (l : List (Fin 8)) (p : Fin 8 → Code (F := F) PUnit) : Code (F := F) PUnit :=
  match l with
  | [] => pure ⟨⟩
  | d :: l => p d >>= fun _ => seqL l p

/-! ## Word alignment of the pieces -/

theorem words_rows : ∀ d : Fin 8, (rowR d).WholeWords (EltTy.packing .bf16) := by decide
theorem words_slot : ∀ d : Fin 8, (slotR d).WholeWords (EltTy.packing .bf16) := by decide
theorem words_cols : ∀ d : Fin 8, (colR d).WholeWords (EltTy.packing .bf16) := by decide
theorem words_rbuf : ∀ d : Fin 3, (rbufR d).WholeWords (EltTy.packing .bf16) := by decide
theorem packed_slot : ∀ d : Fin 8, (slotR d).PackedRows (EltTy.packing .bf16) := by decide

theorem prow_exact (d : Fin 8) : (prowM d).view.WordExact := (Memref.isWhole_whole cc0_scratch7).wordExact_slice rfl _ (words_rows d)
theorem rsSlot_exact (d : Fin 8) : (rsSlotM d).view.WordExact := ((Memref.isWhole_whole cc0_scratch8).wordExact_slice rfl _ (words_slot d)).reshape _ _
theorem agSlot_exact (d : Fin 8) : (agSlotM d).view.WordExact := ((Memref.isWhole_whole cc0_scratch10).wordExact_slice rfl _ (words_slot d)).reshape _ _
theorem ags_exact : agsM.view.WordExact := (Memref.isWhole_whole cc0_scratch9).wordExact

theorem kcol_exact (d : Fin 8) : (kcolM d).view.WordExact := (Memref.isWhole_whole cc0_scratch2).wordExact_slice rfl _ (words_cols d)
theorem vcol_exact (d : Fin 8) : (vcolM d).view.WordExact := (Memref.isWhole_whole cc0_scratch3).wordExact_slice rfl _ (words_cols d)
theorem rbSlot_exact (t : Fin 3) : (rbSlotM t).view.WordExact := ((Memref.isWhole_whole cc0_scratch6).wordExact_slice rfl _ (words_rbuf t)).reshape _ _
theorem kb_exact : kbM.view.WordExact := (Memref.isWhole_whole cc0_scratch4).wordExact
theorem vb_exact : vbM.view.WordExact := (Memref.isWhole_whole cc0_scratch5).wordExact

/-! ## The loops' bodies -/

def rsSend (s d : Fin 8) : Code (F := F) PUnit :=
  Prog.lift (.enqueueDma (prowM d) (.remote (Dev.tc (d : Dev nD)) (rsSlotM s) (.dma (sem8 cc0_scratch18 d)) rfl) (.dma (sem8 cc0_scratch19 s))
    (prow_exact d) (rsSlot_exact s) ⟨⟨rfl, Or.inl rfl⟩, trivial⟩)

def rsIssue (s : Fin 8) : Code (F := F) PUnit := do
  let v : Vec F S2x32x512 .bf16 ← Prog.lift (.load partM (rowR s).toLoadRect (View.loadsAt_vmem h_S2x32x512))
  let _w : Vec F S1x2x32x512 .bf16 ← Prog.lift (.load rsM (slotR s).toLoadRect (View.loadsAt_vmem h_S1x2x32x512))
  Prog.lift (.store rsM (slotR s) (k0_pay3 v) Finset.univ (View.stores_vmem h_S1x2x32x512 ((Memref.isWhole_whole cc0_scratch8).storeExact_slice rfl _ (packed_slot s)) (fun _ => rfl)) (.inl rfl))
  seqL (others s) (rsSend s)

def rsWait (s : Fin 8) : Code (F := F) PUnit :=
  Prog.lift (.waitDma2 (sem8 cc0_scratch19 s) (prowM 0) (rsSlotM s) (prow_exact 0) (rsSlot_exact s))

def rsLoad (s : Fin 8) : Code (F := F) (Vec F S1x2x32x512 .bf16) :=
  Prog.lift (.load rsM (slotR s).toLoadRect (View.loadsAt_vmem h_S1x2x32x512))

def rsDrain (s d : Fin 8) : Code (F := F) PUnit :=
  Prog.lift (.waitDma2 (sem8 cc0_scratch18 d) (rsSlotM s) (prowM d) (rsSlot_exact s) (prow_exact d))

def agSend (s d : Fin 8) : Code (F := F) PUnit :=
  Prog.lift (.enqueueDma agsM (.remote (Dev.tc (d : Dev nD)) (agSlotM s) (.dma (sem8 cc0_scratch20 d)) rfl) (.dma (sem8 cc0_scratch21 s))
    ags_exact (agSlot_exact s) ⟨⟨rfl, Or.inl rfl⟩, trivial⟩)

/-- Write `v` to rows `s` of the result. -/
def outRow (s : Fin 8) (v : FVec F S2x32x512 .f32) : Code (F := F) PUnit := do
  let _w : Vec F S2x32x512 .f32 ← Prog.lift (.load outM (rowR s).toLoadRect (View.loadsAt_vmem h_S2x32x512))
  Prog.lift (.store outM (rowR s) v Finset.univ (View.stores_vmem_bits_univ h_S2x32x512 rfl) (.inl rfl))

def agIssue (v : FVec F S2x32x512 .f32) (s : Fin 8) : Code (F := F) PUnit := do
  outRow s v
  seqL (others s) (agSend s)

def agRecv (s : Fin 8) : Code (F := F) PUnit := do
  Prog.lift (.waitDma2 (sem8 cc0_scratch21 s) agsM (agSlotM s) ags_exact (agSlot_exact s))
  let v : Vec F S1x2x32x512 .bf16 ← Prog.lift (.load agM (slotR s).toLoadRect (View.loadsAt_vmem h_S1x2x32x512))
  outRow s (k0_pay42 v)

def agDrain (s d : Fin 8) : Code (F := F) PUnit :=
  Prog.lift (.waitDma2 (sem8 cc0_scratch20 d) (agSlotM s) agsM (agSlot_exact s) ags_exact)

/-- The waits for device 0's sends, -/
def kDrain (d : Fin 8) : Code (F := F) PUnit :=
  Prog.lift (.waitDma2 (sem8 cc0_scratch12 d) kbM (kcolM d) kb_exact (kcol_exact d))
def vDrain (d : Fin 8) : Code (F := F) PUnit :=
  Prog.lift (.waitDma2 (sem8 cc0_scratch13 d) vbM (vcolM d) vb_exact (vcol_exact d))
/-- for those relayed, -/
def fDrainK : Code (F := F) PUnit :=
  Prog.lift (.waitDma2 (sem3 cc0_scratch17 0) kbM (rbSlotM 0) kb_exact (rbSlot_exact 0))
def fDrainV (t : Fin 3) : Code (F := F) PUnit :=
  Prog.lift (.waitDma2 (sem3 cc0_scratch17 t) vbM (rbSlotM t) vb_exact (rbSlot_exact t))
/-- in order. -/
def drain0 : Code (F := F) PUnit := do
  kDrain 1; vDrain 1; kDrain 2; vDrain 2; kDrain 3; vDrain 3; kDrain 4; vDrain 4; kDrain 7
def drain4 : Code (F := F) PUnit := do
  fDrainK; fDrainV 1; fDrainV 2
def drain3 : Code (F := F) PUnit := do
  fDrainK; fDrainV 1

/-- A printed piece at the kernel's own buffers and semaphores. -/
abbrev app {β : Sort _} (f : (arg0 : Memref sig .tc .vmem S2x256x512 .f32) → (harg0 : arg0.IsWhole) →
      (arg1 : Memref sig .tc .vmem S512x256 .f32) → (harg1 : arg1.IsWhole) →
      (arg2 : Memref sig .tc .hbm S2x256x32x64 .f32) → (harg2 : arg2.IsWhole) →
      (arg3 : Memref sig .tc .hbm S2x256x32x64 .f32) → (harg3 : arg3.IsWhole) →
      (arg4 : Memref sig .tc .vmem S256x512 .f32) → (harg4 : arg4.IsWhole) →
      (arg5 : Memref sig .tc .vmem S2x256x512 .f32) → (harg5 : arg5.IsWhole) →
      (arg6 : Memref sig .tc .vmem S2x256x32x64 .f32) → (harg6 : arg6.IsWhole) →
      (arg7 : Memref sig .tc .vmem S2x256x32x64 .f32) → (harg7 : arg7.IsWhole) →
      (arg8 : Memref sig .tc .vmem S2x256x2048 .bf16) → (harg8 : arg8.IsWhole) →
      (arg9 : Memref sig .tc .vmem S2x256x2048 .bf16) → (harg9 : arg9.IsWhole) →
      (arg10 : Memref sig .tc .vmem S2x256x256 .bf16) → (harg10 : arg10.IsWhole) →
      (arg11 : Memref sig .tc .vmem S2x256x256 .bf16) → (harg11 : arg11.IsWhole) →
      (arg12 : Memref sig .tc .vmem S3x2x256x256 .bf16) → (harg12 : arg12.IsWhole) →
      (arg13 : Memref sig .tc .vmem S2x256x512 .bf16) → (harg13 : arg13.IsWhole) →
      (arg14 : Memref sig .tc .vmem S8x2x32x512 .bf16) → (harg14 : arg14.IsWhole) →
      (arg15 : Memref sig .tc .vmem S2x32x512 .bf16) → (harg15 : arg15.IsWhole) →
      (arg16 : Memref sig .tc .vmem S8x2x32x512 .bf16) → (harg16 : arg16.IsWhole) → (arg17 : DmaSems sig S2) →
      (arg18 : DmaSems sig S8) → (arg19 : DmaSems sig S8) → (arg20 : DmaSems sig S_) → (arg21 : DmaSems sig S_) →
      (arg22 : DmaSems sig S3) → (arg23 : DmaSems sig S3) → (arg24 : DmaSems sig S8) → (arg25 : DmaSems sig S8) →
      (arg26 : DmaSems sig S8) → (arg27 : DmaSems sig S8) → β) : β :=
  f xM (Memref.isWhole_whole _) wqM (Memref.isWhole_whole _) kinM (Memref.isWhole_whole _) vinM
    (Memref.isWhole_whole _) woM (Memref.isWhole_whole _) outM (Memref.isWhole_whole _) kfM (Memref.isWhole_whole
    _) vfM (Memref.isWhole_whole _) kstM (Memref.isWhole_whole _) vstM (Memref.isWhole_whole _) kbM
    (Memref.isWhole_whole _) vbM (Memref.isWhole_whole _) rbM (Memref.isWhole_whole _) partM (Memref.isWhole_whole
    _) rsM (Memref.isWhole_whole _) agsM (Memref.isWhole_whole _) agM (Memref.isWhole_whole _) cc0_scratch11
    cc0_scratch12 cc0_scratch13 cc0_scratch14 cc0_scratch15 cc0_scratch16 cc0_scratch17 cc0_scratch18
    cc0_scratch19 cc0_scratch20 cc0_scratch21

/-- The device's number as the printed text computes it. -/
def me (d0 : Dev nD) : BitVec 32 := Scalar.remsi (Scalar.divsi (Dev.word d0) 1#32) 8#32

/-- The printed tests of it. -/
theorem word_ne : ∀ (d0 : Dev nD) (s : Fin 8),
    Scalar.cmpi .ne (Scalar.extui (Scalar.cmpi .ne (me d0) (BitVec.ofNat 32 s.val)) : BitVec 32) 0#32 = 1#1 ↔ d0 ≠ s := by
  decide +kernel
theorem word_eq : ∀ (d0 : Dev nD) (s : Fin 8),
    Scalar.cmpi .ne (Scalar.extui (Scalar.cmpi .eq (me d0) (BitVec.ofNat 32 s.val)) : BitVec 32) 0#32 = 1#1 ↔ d0 = s := by
  decide +kernel

/-- Only on device `s`; -/
def own (p : Fin 8 → Code (F := F) PUnit) (c s : Fin 8) : Code (F := F) PUnit := if c = s then p s else pure ⟨⟩
/-- on all the others. -/
def oth (p : Fin 8 → Code (F := F) PUnit) (c s : Fin 8) : Code (F := F) PUnit := if c ≠ s then p s else pure ⟨⟩

/-- A printed conditional, with what follows it. -/
theorem own_eq (c s : Fin 8) (p : Fin 8 → Code (F := F) PUnit) {α : Type} {C : Prop} [Decidable C] (hC : C ↔ c = s)
    {b : C → Code (F := F) α} {e : Code (F := F) α} {k : PUnit → Code (F := F) α} (he : e = k ⟨⟩) (hb : ∀ h, b h = (p s >>= fun _ => e)) :
    (if h : C then b h else e) = own p c s >>= k := by
  unfold own
  by_cases h : C
  · rw [dif_pos h, if_pos (hC.mp h), hb, he]
  · rw [dif_neg h, if_neg fun h' => h (hC.mpr h'), he]; rfl

theorem oth_eq (c s : Fin 8) (p : Fin 8 → Code (F := F) PUnit) {α : Type} {C : Prop} [Decidable C] (hC : C ↔ c ≠ s)
    {b : C → Code (F := F) α} {e : Code (F := F) α} {k : PUnit → Code (F := F) α} (he : e = k ⟨⟩) (hb : ∀ h, b h = (p s >>= fun _ => e)) :
    (if h : C then b h else e) = oth p c s >>= k := by
  unfold oth
  by_cases h : C
  · rw [dif_pos h, if_pos (hC.mp h), hb, he]
  · rw [dif_neg h, if_neg fun h' => h (hC.mpr h'), he]; rfl

/-- A piece run under a condition. -/
def pick (C : Prop) [Decidable C] (p : Code (F := F) PUnit) : Code (F := F) PUnit := if C then p else pure ⟨⟩

theorem pick_eq (p : Code (F := F) PUnit) {α : Type} {C : Prop} [Decidable C]
    {b : C → Code (F := F) α} {e : Code (F := F) α} {k : PUnit → Code (F := F) α} (he : e = k ⟨⟩) (hb : ∀ h, b h = (p >>= fun _ => e)) :
    (if h : C then b h else e) = pick C p >>= k := by
  unfold pick
  by_cases h : C
  · rw [dif_pos h, if_pos h, hb, he]
  · rw [dif_neg h, if_neg h, he]; rfl

theorem pick_own {C : Prop} [Decidable C] (c s : Fin 8) (p : Fin 8 → Code (F := F) PUnit) (h : C ↔ c = s) : pick C (p s) = own p c s := by
  unfold pick own; simp only [h]

/-- What devices 0, 4 and 3 do, the others nothing. -/
def byDev (c : Fin 8) (p0 p4 p3 : Code (F := F) PUnit) : Code (F := F) PUnit :=
  if c = 0 then p0 else if c = 4 then p4 else if c = 3 then p3 else pure ⟨⟩

theorem run_byDev (c : Dev nD) (p0 p4 p3 : Code (F := F) PUnit) {β : Type} (k : Code (F := F) β) (Q : β → sProp 𝕄) :
    (run c (own (fun _ => p0) c 0) fun _ => run c (own (fun _ => p4) c 4) fun _ => run c (own (fun _ => p3) c 3) fun _ => run c k Q)
    = run c (byDev c p0 p4 p3) fun _ => run c k Q := by
  revert c
  intro (c : Fin 8)
  fin_cases c <;> simp [wp_pure, own, byDev]

/-- Eight pieces, of which device `c` runs the one of its number; -/
theorem run_own (c : Dev nD) (p : Fin 8 → Code (F := F) PUnit) {β : Type} (k : Code (F := F) β) (Q : β → sProp 𝕄) :
    (run c (own p c 0) fun _ => run c (own p c 1) fun _ =>
      run c (own p c 2) fun _ => run c (own p c 3) fun _ =>
      run c (own p c 4) fun _ => run c (own p c 5) fun _ =>
      run c (own p c 6) fun _ => run c (own p c 7) fun _ => run c k Q)
    = run c (p c) fun _ => run c k Q := by
  revert c
  intro (c : Fin 8)
  fin_cases c <;> simp [wp_pure, own]
/-- or those of the others' numbers. -/
theorem run_others (c : Dev nD) (p : Fin 8 → Code (F := F) PUnit) {β : Type} (k : Code (F := F) β) (Q : β → sProp 𝕄) :
    (run c (oth p c 0) fun _ => run c (oth p c 1) fun _ =>
      run c (oth p c 2) fun _ => run c (oth p c 3) fun _ =>
      run c (oth p c 4) fun _ => run c (oth p c 5) fun _ =>
      run c (oth p c 6) fun _ => run c (oth p c 7) fun _ => run c k Q)
    = run c (seqL (others c) p) fun _ => run c k Q := by
  revert c
  intro (c : Fin 8)
  fin_cases c <;> simp [wp_pure, oth, others, seqL]

end Cert.KernelIdeal.Pf

end
-- ==== Proof.Ideal.ShapeFront.lean ====
/-
# 01_k — the printed text before the exchanges

The signals and the barrier wait, and what devices 0, 4 and 3 do to spread K and V.
-/
module

public import proofs.«01_k».proof.Proof.Ideal.Compact

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Spreading K and V -/

/-- Device 0 copies its arrays in, -/
def copyK : Code (F := F) PUnit :=
  Prog.lift (.enqueueDma kinM (.here kfM) (.dma (sem2 cc0_scratch11 0)) (Memref.isWhole_whole main_arg2).wordExact (Memref.isWhole_whole cc0_scratch0).wordExact ⟨Or.inl rfl, trivial⟩)
def copyV : Code (F := F) PUnit :=
  Prog.lift (.enqueueDma vinM (.here vfM) (.dma (sem2 cc0_scratch11 1)) (Memref.isWhole_whole main_arg3).wordExact (Memref.isWhole_whole cc0_scratch1).wordExact ⟨Or.inl rfl, trivial⟩)
def copyKWait : Code (F := F) PUnit :=
  Prog.lift (.waitDma2 (sem2 cc0_scratch11 0) kinM kfM (Memref.isWhole_whole main_arg2).wordExact (Memref.isWhole_whole cc0_scratch0).wordExact)
def copyVWait : Code (F := F) PUnit :=
  Prog.lift (.waitDma2 (sem2 cc0_scratch11 1) vinM vfM (Memref.isWhole_whole main_arg3).wordExact (Memref.isWhole_whole cc0_scratch1).wordExact)
/-- stages them, -/
def stageK : Code (F := F) PUnit := do
  let v : Vec F S2x256x32x64 .f32 ← Prog.lift (.load kfM (Rect.unit (s := S2x256x32x64) ![0, 0, 0, 0] S2x256x32x64.size inb_S2x256x32x64_S2x256x32x64_0_0_0_0).toLoadRect (View.loadsAt_vmem h_S2x256x32x64))
  let _w : Vec F S2x256x2048 .bf16 ← Prog.lift (.load kstM (Rect.unit (s := S2x256x2048) ![0, 0, 0] S2x256x2048.size inb_S2x256x2048_S2x256x2048_0_0_0).toLoadRect (View.loadsAt_vmem h_S2x256x2048))
  Prog.lift (.store kstM (Rect.unit (s := S2x256x2048) ![0, 0, 0] S2x256x2048.size inb_S2x256x2048_S2x256x2048_0_0_0) (k0_pay1 v) Finset.univ
    (View.stores_vmem h_S2x256x2048 ((Memref.isWhole_whole cc0_scratch2).storeExact_slice rfl _ packedbf16_S2x256x2048_S2x256x2048_0_0_0) (fun _ => rfl)) (.inl rfl))
def stageV : Code (F := F) PUnit := do
  let v : Vec F S2x256x32x64 .f32 ← Prog.lift (.load vfM (Rect.unit (s := S2x256x32x64) ![0, 0, 0, 0] S2x256x32x64.size inb_S2x256x32x64_S2x256x32x64_0_0_0_0).toLoadRect (View.loadsAt_vmem h_S2x256x32x64))
  let _w : Vec F S2x256x2048 .bf16 ← Prog.lift (.load vstM (Rect.unit (s := S2x256x2048) ![0, 0, 0] S2x256x2048.size inb_S2x256x2048_S2x256x2048_0_0_0).toLoadRect (View.loadsAt_vmem h_S2x256x2048))
  Prog.lift (.store vstM (Rect.unit (s := S2x256x2048) ![0, 0, 0] S2x256x2048.size inb_S2x256x2048_S2x256x2048_0_0_0) (k0_pay2 v) Finset.univ
    (View.stores_vmem h_S2x256x2048 ((Memref.isWhole_whole cc0_scratch3).storeExact_slice rfl _ packedbf16_S2x256x2048_S2x256x2048_0_0_0) (fun _ => rfl)) (.inl rfl))
/-- sends device `d`'s slice to a relaying device `t`, slot `i`, -/
def kRelay (d t : Fin 8) (i : Fin 3) : Code (F := F) PUnit :=
  Prog.lift (.enqueueDma (kcolM d) (.remote (Dev.tc (t : Dev nD)) (rbSlotM i) (.dma (sem8 cc0_scratch12 d)) rfl) (.dma (sem3 cc0_scratch16 i))
    (kcol_exact d) (rbSlot_exact i) ⟨⟨rfl, Or.inl rfl⟩, trivial⟩)
def vRelay (d t : Fin 8) (i : Fin 3) : Code (F := F) PUnit :=
  Prog.lift (.enqueueDma (vcolM d) (.remote (Dev.tc (t : Dev nD)) (rbSlotM i) (.dma (sem8 cc0_scratch13 d)) rfl) (.dma (sem3 cc0_scratch16 i))
    (vcol_exact d) (rbSlot_exact i) ⟨⟨rfl, Or.inl rfl⟩, trivial⟩)
/-- waits for that send, -/
def kRelayed (d : Fin 8) (i : Fin 3) : Code (F := F) PUnit :=
  Prog.lift (.waitDma2 (sem8 cc0_scratch12 d) (rbSlotM i) (kcolM d) (rbSlot_exact i) (kcol_exact d))
def vRelayed (d : Fin 8) (i : Fin 3) : Code (F := F) PUnit :=
  Prog.lift (.waitDma2 (sem8 cc0_scratch13 d) (rbSlotM i) (vcolM d) (rbSlot_exact i) (vcol_exact d))
/-- or sends to device `d` itself; -/
def kSend (d : Fin 8) : Code (F := F) PUnit :=
  Prog.lift (.enqueueDma (kcolM d) (.remote (Dev.tc (d : Dev nD)) kbM (.dma (sem8 cc0_scratch12 d)) rfl) (.dma cc0_scratch14.sem)
    (kcol_exact d) kb_exact ⟨⟨rfl, Or.inl rfl⟩, trivial⟩)
def vSend (d : Fin 8) : Code (F := F) PUnit :=
  Prog.lift (.enqueueDma (vcolM d) (.remote (Dev.tc (d : Dev nD)) vbM (.dma (sem8 cc0_scratch13 d)) rfl) (.dma cc0_scratch15.sem)
    (vcol_exact d) vb_exact ⟨⟨rfl, Or.inl rfl⟩, trivial⟩)
/-- its own slice it copies through registers. -/
def keepK : Code (F := F) PUnit := do
  let v : Vec F S2x256x256 .bf16 ← Prog.lift (.load kstM (colR 0).toLoadRect (View.loadsAt_vmem h_S2x256x256))
  let _w : Vec F S2x256x256 .bf16 ← Prog.lift (.load kbM (Rect.unit (s := S2x256x256) ![0, 0, 0] S2x256x256.size inb_S2x256x256_S2x256x256_0_0_0).toLoadRect (View.loadsAt_vmem h_S2x256x256))
  Prog.lift (.store kbM (Rect.unit (s := S2x256x256) ![0, 0, 0] S2x256x256.size inb_S2x256x256_S2x256x256_0_0_0) (k0_pay11 v) Finset.univ
    (View.stores_vmem h_S2x256x256 ((Memref.isWhole_whole cc0_scratch4).storeExact_slice rfl _ packedbf16_S2x256x256_S2x256x256_0_0_0) (fun _ => rfl)) (.inl rfl))
def keepV : Code (F := F) PUnit := do
  let v : Vec F S2x256x256 .bf16 ← Prog.lift (.load vstM (colR 0).toLoadRect (View.loadsAt_vmem h_S2x256x256))
  let _w : Vec F S2x256x256 .bf16 ← Prog.lift (.load vbM (Rect.unit (s := S2x256x256) ![0, 0, 0] S2x256x256.size inb_S2x256x256_S2x256x256_0_0_0).toLoadRect (View.loadsAt_vmem h_S2x256x256))
  Prog.lift (.store vbM (Rect.unit (s := S2x256x256) ![0, 0, 0] S2x256x256.size inb_S2x256x256_S2x256x256_0_0_0) (k0_pay12 v) Finset.univ
    (View.stores_vmem h_S2x256x256 ((Memref.isWhole_whole cc0_scratch5).storeExact_slice rfl _ packedbf16_S2x256x256_S2x256x256_0_0_0) (fun _ => rfl)) (.inl rfl))
/-- A relaying device waits for its slot `i` -/
def relayWait (i : Fin 3) : Code (F := F) PUnit :=
  Prog.lift (.waitDma2 (sem3 cc0_scratch16 i) (rbSlotM i) (rbSlotM i) (rbSlot_exact i) (rbSlot_exact i))
/-- and passes it on to `t`. -/
def fwdK (t : Fin 8) : Code (F := F) PUnit :=
  Prog.lift (.enqueueDma (rbSlotM 0) (.remote (Dev.tc (t : Dev nD)) kbM (.dma (sem3 cc0_scratch17 0)) rfl) (.dma cc0_scratch14.sem)
    (rbSlot_exact 0) kb_exact ⟨⟨rfl, Or.inl rfl⟩, trivial⟩)
def fwdV (i : Fin 3) (t : Fin 8) : Code (F := F) PUnit :=
  Prog.lift (.enqueueDma (rbSlotM i) (.remote (Dev.tc (t : Dev nD)) vbM (.dma (sem3 cc0_scratch17 i)) rfl) (.dma cc0_scratch15.sem)
    (rbSlot_exact i) vb_exact ⟨⟨rfl, Or.inl rfl⟩, trivial⟩)

def spread0 : Code (F := F) PUnit := do
  copyK; copyV; copyKWait; copyVWait; stageK; stageV
  kRelay 5 4 0; vRelay 5 4 1; vRelay 7 4 2; kRelay 6 3 0; vRelay 6 3 1
  kSend 2; vSend 2; kSend 1; vSend 1
  kRelayed 5 0; vRelayed 5 1; vRelayed 7 2
  kSend 4; vSend 4
  kRelayed 6 0; vRelayed 6 1
  kSend 3; vSend 3; kSend 7
  keepK; keepV
def spread4 : Code (F := F) PUnit := do
  relayWait 0; fwdK 5; relayWait 1; fwdV 1 5; relayWait 2; fwdV 2 7
def spread3 : Code (F := F) PUnit := do
  relayWait 0; fwdK 6; relayWait 1; fwdV 1 6

/-- The signal to the device `k` further on. -/
def sigTo (c k : Fin 8) : Code (F := F) PUnit := semSignalWord ((c + k : Fin 8) : Dev nD) barS 1#32

theorem dev_eq (c k : Fin 8) (n : ℕ) (h : n < 8) (e : n = (c.val + k.val) % 8) : (⟨n, h⟩ : Dev nD) = (c + k : Fin 8) :=
  Fin.ext (by subst e; exact (Fin.val_add c k).symm)

theorem part66_eq : app (k0_part66 (F := F)) = (do
      let d0 : Dev nD ← Prog.lift .deviceId
      sigTo d0 1; sigTo d0 2; sigTo d0 3; sigTo d0 4; sigTo d0 5
      pure ⟨d0, me d0, SemArray.scalar (sig.barrier 0 rfl), Scalar.addi (me d0) 6#32, 8#32⟩) := by
  unfold app
  rw [k0_part66_eq_skeleton]
  unfold k0_part66_skel sigTo
  refine congrArg (_ >>= ·) (funext fun d0 => ?_)
  rw [dev_eq d0 1 _ (k0_dev1_lt d0) (k0_dev1_eq d0), dev_eq d0 2 _ (k0_dev2_lt d0) (k0_dev2_eq d0), dev_eq d0 3 _ (k0_dev3_lt d0) (k0_dev3_eq d0),
    dev_eq d0 4 _ (k0_dev4_lt d0) (k0_dev4_eq d0), dev_eq d0 5 _ (k0_dev5_lt d0) (k0_dev5_eq d0)]
  rfl

theorem part67_eq (d0 : Dev nD) (v24 c8) : app (k0_part67 (F := F)) d0 (me d0) (SemArray.scalar (sig.barrier 0 rfl)) v24 c8 = (do
      sigTo d0 6; sigTo d0 7
      semWaitWord barS 7#32
      own (fun _ => spread0) d0 0
      own (fun _ => spread4) d0 4
      own (fun _ => spread3) d0 3
      let v41 : Vec F S512x256 .f32 ← Prog.lift (.load wqM (Rect.unit (s := S512x256) ![0, 0] S512x256.size inb_S512x256_S512x256_0_0).toLoadRect (View.loadsAt_vmem h_S512x256))
      let v44 : Vec F S1x256x512 .f32 ← Prog.lift (.load xM (halfR 0).toLoadRect (View.loadsAt_vmem h_S1x256x512))
      let v51 : Vec F S1x256x512 .f32 ← Prog.lift (.load xM (halfR 1).toLoadRect (View.loadsAt_vmem h_S1x256x512))
      pure ⟨k0_pay13 v41, k0_pay14 v41 v44, k0_pay15 v51⟩) := by
  unfold app
  rw [k0_part67_eq_skeleton]
  unfold k0_part67_skel sigTo
  rw [dev_eq d0 6 _ (k0_dev6_lt d0) (k0_dev6_eq d0), dev_eq d0 7 _ (k0_dev7_lt d0) (k0_dev7_eq d0)]
  refine congrArg (_ >>= ·) (funext fun _ => congrArg (_ >>= ·) (funext fun _ => congrArg (_ >>= ·) (funext fun _ => ?_)))
  refine own_eq d0 0 (fun _ => spread0) (by revert d0; decide +kernel) ?_ (fun h => rfl)
  refine own_eq d0 4 (fun _ => spread4) (by revert d0; decide +kernel) ?_ (fun h => rfl)
  refine own_eq d0 3 (fun _ => spread3) (by revert d0; decide +kernel) ?_ (fun h => rfl)
  rfl

/-- All but device 0 wait for their slices. -/
def sliceWait : Code (F := F) PUnit := do
  Prog.lift (.waitDma2 cc0_scratch14.sem kbM kbM kb_exact kb_exact)
  Prog.lift (.waitDma2 cc0_scratch15.sem vbM vbM vb_exact vb_exact)

theorem part68_eq (d0 : Dev nD) (v43 v52) : app (k0_part68 (F := F)) (me d0) v43 v52 = (do
      oth (fun _ => sliceWait) d0 0
      pure ⟨k0_pay16 v43 v52, k0_pay17, iota .tc S256x256 32 [1] iota_S256x256_d1_w32, 64#32, k0_pay18, k0_pay19, Scalar.cmpi .sgt 64#32 0#32⟩) := by
  unfold app
  rw [k0_part68_eq_skeleton]
  unfold k0_part68_skel
  refine oth_eq d0 0 (fun _ => sliceWait) (word_ne d0 0) ?_ (fun h => rfl)
  rfl

end Cert.KernelIdeal.Pf

end
-- ==== Proof.Ideal.ShapeRs.lean ====
/-
# 01_k — the printed exchange of partial products

Each window of the printed text in terms of the loops' bodies.
-/
module

public import proofs.«01_k».proof.Proof.Ideal.Compact

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem part73_eq (d0 : Dev nD) (v2) (v57) (v111) (v114) (v209) (v211) (v254) (v272) :
    app (k0_part73 (F := F)) d0 v2 v57 v111 v114 v209 v211 v254 v272 = (do
      let _w : Vec F S1x256x512 .bf16 ← Prog.lift (.load partM (halfR 1).toLoadRect (View.loadsAt_vmem h_S1x256x512))
      Prog.lift (.store partM (halfR 1) (k0_pay37 v57 v111 v114 v209 v211 v254 v272) Finset.univ
        (View.stores_vmem h_S1x256x512 ((Memref.isWhole_whole cc0_scratch7).storeExact_slice rfl _ packedbf16_S2x256x512_S1x256x512_1_0_0) (fun _ => rfl)) (.inl rfl))
      own rsIssue d0 0
      own rsIssue d0 1
      own rsIssue d0 2
      pure (Scalar.extui (Scalar.cmpi .eq v2 3#32))) := by
  unfold app
  rw [k0_part73_eq_skeleton]
  unfold k0_part73_skel
  refine congrArg (_ >>= ·) (funext fun _ => congrArg (_ >>= ·) (funext fun _ => ?_))
  refine own_eq d0 0 rsIssue (by revert d0; decide +kernel) ?_ (fun h => rfl)
  refine own_eq d0 1 rsIssue (by revert d0; decide +kernel) ?_ (fun h => rfl)
  refine own_eq d0 2 rsIssue (by revert d0; decide +kernel) ?_ (fun h => rfl)
  rfl

theorem part74_eq (d0 : Dev nD) (v311) :
    app (k0_part74 (F := F)) d0 (me d0) v311 = (do
      own rsIssue d0 3
      own rsIssue d0 4
      own rsIssue d0 5
      own rsIssue d0 6
      own rsIssue d0 7
      oth rsWait d0 0
      oth rsWait d0 1
      oth rsWait d0 2
      oth rsWait d0 3
      oth rsWait d0 4
      pure (Scalar.extui (Scalar.cmpi .ne (me d0) 5#32))) := by
  unfold app
  rw [k0_part74_eq_skeleton]
  unfold k0_part74_skel
  refine own_eq d0 3 rsIssue (by revert d0; decide +kernel) ?_ (fun h => rfl)
  refine own_eq d0 4 rsIssue (by revert d0; decide +kernel) ?_ (fun h => rfl)
  refine own_eq d0 5 rsIssue (by revert d0; decide +kernel) ?_ (fun h => rfl)
  refine own_eq d0 6 rsIssue (by revert d0; decide +kernel) ?_ (fun h => rfl)
  refine own_eq d0 7 rsIssue (by revert d0; decide +kernel) ?_ (fun h => rfl)
  refine oth_eq d0 0 rsWait (word_ne d0 0) ?_ (fun h => rfl)
  refine oth_eq d0 1 rsWait (word_ne d0 1) ?_ (fun h => rfl)
  refine oth_eq d0 2 rsWait (word_ne d0 2) ?_ (fun h => rfl)
  refine oth_eq d0 3 rsWait (word_ne d0 3) ?_ (fun h => rfl)
  refine oth_eq d0 4 rsWait (word_ne d0 4) ?_ (fun h => rfl)
  rfl

theorem part75_eq (d0 : Dev nD) :
    app (k0_part75 (F := F)) (me d0) (Scalar.extui (Scalar.cmpi .ne (me d0) 5#32)) = (do
      oth rsWait d0 5
      oth rsWait d0 6
      oth rsWait d0 7
      let v349 ← rsLoad 0
      let v352 ← rsLoad 1
      let v356 ← rsLoad 2
      let v360 ← rsLoad 3
      let v364 ← rsLoad 4
      let v368 ← rsLoad 5
      pure ⟨k0_pay38 v349 v352 v356 v360 v364, k0_pay39 v368⟩) := by
  unfold app
  rw [k0_part75_eq_skeleton]
  unfold k0_part75_skel
  refine oth_eq d0 5 rsWait (word_ne d0 5) ?_ (fun h => rfl)
  refine oth_eq d0 6 rsWait (word_ne d0 6) ?_ (fun h => rfl)
  refine oth_eq d0 7 rsWait (word_ne d0 7) ?_ (fun h => rfl)
  rfl

end Cert.KernelIdeal.Pf

end
-- ==== Proof.Ideal.ShapeAg.lean ====
/-
# 01_k — the printed exchange of reduced rows, and the closing waits

Each window of the printed text in terms of the loops' bodies.
-/
module

public import proofs.«01_k».proof.Proof.Ideal.Compact

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem part76_eq (d0 : Dev nD) (v367) (v369) :
    app (k0_part76 (F := F)) d0 (me d0) v367 v369 = (do
      let v372 ← rsLoad 6
      let v376 ← rsLoad 7
      let _w : Vec F S2x32x512 .bf16 ← Prog.lift (.load agsM (Rect.unit (s := S2x32x512) ![0, 0, 0] S2x32x512.size inb_S2x32x512_S2x32x512_0_0_0).toLoadRect (View.loadsAt_vmem h_S2x32x512))
      Prog.lift (.store agsM (Rect.unit (s := S2x32x512) ![0, 0, 0] S2x32x512.size inb_S2x32x512_S2x32x512_0_0_0) (k0_pay41 v367 v369 v372 v376) Finset.univ
        (View.stores_vmem h_S2x32x512 ((Memref.isWhole_whole cc0_scratch9).storeExact_slice rfl _ packedbf16_S2x32x512_S2x32x512_0_0_0) (fun _ => rfl)) (.inl rfl))
      own (agIssue (k0_pay40 v367 v369 v372 v376)) d0 0
      own (agIssue (k0_pay40 v367 v369 v372 v376)) d0 1
      own (agIssue (k0_pay40 v367 v369 v372 v376)) d0 2
      own (agIssue (k0_pay40 v367 v369 v372 v376)) d0 3
      own (agIssue (k0_pay40 v367 v369 v372 v376)) d0 4
      pure ⟨k0_pay40 v367 v369 v372 v376, Scalar.extui (Scalar.cmpi .eq (me d0) 5#32), 0#32⟩) := by
  unfold app
  rw [k0_part76_eq_skeleton]
  unfold k0_part76_skel
  refine congrArg (_ >>= ·) (funext fun _ => congrArg (_ >>= ·) (funext fun _ => congrArg (_ >>= ·) (funext fun _ =>
    congrArg (_ >>= ·) (funext fun _ => ?_))))
  refine own_eq d0 0 (agIssue _) (by revert d0; decide +kernel) ?_ (fun h => rfl)
  refine own_eq d0 1 (agIssue _) (by revert d0; decide +kernel) ?_ (fun h => rfl)
  refine own_eq d0 2 (agIssue _) (by revert d0; decide +kernel) ?_ (fun h => rfl)
  refine own_eq d0 3 (agIssue _) (by revert d0; decide +kernel) ?_ (fun h => rfl)
  refine own_eq d0 4 (agIssue _) (by revert d0; decide +kernel) ?_ (fun h => rfl)
  rfl

theorem part77_eq (d0 : Dev nD) (v379) (v400) (v401) :
    app (k0_part77 (F := F)) d0 (me d0) v379 v400 v401 = (do
      own (agIssue (v379)) d0 5
      own (agIssue (v379)) d0 6
      own (agIssue (v379)) d0 7
      own (fun s => seqL (others s) (rsDrain s)) d0 0
      own (fun s => seqL (others s) (rsDrain s)) d0 1
      own (fun s => seqL (others s) (rsDrain s)) d0 2
      own (fun s => seqL (others s) (rsDrain s)) d0 3
      own (fun s => seqL (others s) (rsDrain s)) d0 4
      own (fun s => seqL (others s) (rsDrain s)) d0 5
      own (fun s => seqL (others s) (rsDrain s)) d0 6
      pure ⟨Scalar.extui (Scalar.cmpi .eq (me d0) 7#32), 0#32⟩) := by
  unfold app
  rw [k0_part77_eq_skeleton]
  unfold k0_part77_skel
  refine own_eq d0 5 (agIssue _) (by revert d0; decide +kernel) ?_ (fun h => rfl)
  refine own_eq d0 6 (agIssue _) (by revert d0; decide +kernel) ?_ (fun h => rfl)
  refine own_eq d0 7 (agIssue _) (by revert d0; decide +kernel) ?_ (fun h => rfl)
  refine own_eq d0 0 (fun s => seqL (others s) (rsDrain s)) (word_eq d0 0) ?_ (fun h => rfl)
  refine own_eq d0 1 (fun s => seqL (others s) (rsDrain s)) (word_eq d0 1) ?_ (fun h => rfl)
  refine own_eq d0 2 (fun s => seqL (others s) (rsDrain s)) (word_eq d0 2) ?_ (fun h => rfl)
  refine own_eq d0 3 (fun s => seqL (others s) (rsDrain s)) (word_eq d0 3) ?_ (fun h => rfl)
  refine own_eq d0 4 (fun s => seqL (others s) (rsDrain s)) (word_eq d0 4) ?_ (fun h => rfl)
  refine own_eq d0 5 (fun s => seqL (others s) (rsDrain s)) (word_eq d0 5) ?_ (fun h => rfl)
  refine own_eq d0 6 (fun s => seqL (others s) (rsDrain s)) (word_eq d0 6) ?_ (fun h => rfl)
  rfl

theorem part78_eq (d0 : Dev nD) :
    app (k0_part78 (F := F)) (me d0) (Scalar.extui (Scalar.cmpi .eq (me d0) 7#32)) 0#32 = (do
      own (fun s => seqL (others s) (rsDrain s)) d0 7
      oth agRecv d0 0
      oth agRecv d0 1
      oth agRecv d0 2
      oth agRecv d0 3
      oth agRecv d0 4
      oth agRecv d0 5
      oth agRecv d0 6
      oth agRecv d0 7
      own (fun s => seqL (others s) (agDrain s)) d0 0
      pure ⟨Scalar.extui (Scalar.cmpi .eq (me d0) 1#32), 0#32⟩) := by
  unfold app
  rw [k0_part78_eq_skeleton]
  unfold k0_part78_skel
  refine own_eq d0 7 (fun s => seqL (others s) (rsDrain s)) (word_eq d0 7) ?_ (fun h => rfl)
  refine oth_eq d0 0 agRecv (word_ne d0 0) ?_ (fun h => rfl)
  refine oth_eq d0 1 agRecv (word_ne d0 1) ?_ (fun h => rfl)
  refine oth_eq d0 2 agRecv (word_ne d0 2) ?_ (fun h => rfl)
  refine oth_eq d0 3 agRecv (word_ne d0 3) ?_ (fun h => rfl)
  refine oth_eq d0 4 agRecv (word_ne d0 4) ?_ (fun h => rfl)
  refine oth_eq d0 5 agRecv (word_ne d0 5) ?_ (fun h => rfl)
  refine oth_eq d0 6 agRecv (word_ne d0 6) ?_ (fun h => rfl)
  refine oth_eq d0 7 agRecv (word_ne d0 7) ?_ (fun h => rfl)
  refine own_eq d0 0 (fun s => seqL (others s) (agDrain s)) (word_eq d0 0) ?_ (fun h => rfl)
  rfl

end Cert.KernelIdeal.Pf

end
-- ==== Proof.Ideal.Body.lean ====
/-
# 01_k — the body as one short program

The body `code c` of device `c`: the signals and the barrier wait, the spreading of K and V, the partial product of each
batch (`half0`, `half1`), the exchange of its rows, the sum, the exchange of the reduced rows, and the closing waits. The
printed body runs as it does.
-/
module

public import proofs.«01_k».proof.Proof.Ideal.ShapeFront
public import proofs.«01_k».proof.Proof.Ideal.ShapeRs
public import proofs.«01_k».proof.Proof.Ideal.ShapeAg
public import proofs.«01_k».proof.Proof.Gen.KernelIdeal.Points

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem inb_kb : ∀ (b : Fin 2) (a : Fin 3), (![b.val, 0, 0] : Fin 3 → ℕ) a + S1x256x256.size a ≤ S2x256x256.size a := by decide
/-- Batch `b` of a device's K or V slice. -/
abbrev kbR (b : Fin 2) : Rect S2x256x256 := Rect.unit (s := S2x256x256) ![b.val, 0, 0] S1x256x256.size (inb_kb b)

/-- Which keys a query sees. -/
def maskI : IVec S256x256 1 :=
  k0_pay20 k0_pay17 (iota .tc S256x256 32 [1] iota_S256x256_d1_w32) 64#32 k0_pay18 k0_pay19 (Scalar.cmpi .sgt 64#32 0#32)

/-- Batch 0 of the partial product, from Wq, the batch of x, Wo, and the batch of K and V; -/
def half0 (wq : Vec F S512x256 .f32) (x : Vec F S1x256x512 .f32) (wo : Vec F S256x512 .f32) (k v : Vec F S1x256x256 .bf16) : FVec F S1x256x512 .bf16 :=
  k0_pay29 maskI (k0_pay21 wo) (k0_pay23 v)
    (k0_pay27 (k0_pay14 wq x) maskI (k0_pay21 wo) (k0_pay22 k) (k0_pay23 v) (k0_pay24 (F := F))
      (k0_pay25 (k0_pay14 wq x) k0_pay17 (iota .tc S256x256 32 [1] iota_S256x256_d1_w32) 64#32 k0_pay18 k0_pay19 (Scalar.cmpi .sgt 64#32 0#32) k v)
      (k0_pay26 wo) (constant S256x512 .f32 0x00000000#32))
    (k0_pay28 (k0_pay14 wq x) (k0_pay22 k))
/-- batch 1. -/
def half1 (wq : Vec F S512x256 .f32) (x : Vec F S1x256x512 .f32) (wo : Vec F S256x512 .f32) (k v : Vec F S1x256x256 .bf16) : FVec F S1x256x512 .bf16 :=
  let q := k0_pay16 (k0_pay13 wq) (k0_pay15 x)
  k0_pay37 q maskI (k0_pay21 wo) (k0_pay30 k) (k0_pay31 v)
    (k0_pay35 q maskI (k0_pay21 wo) (k0_pay30 k) (k0_pay31 v) (k0_pay32 (F := F)) (k0_pay33 q maskI k) (k0_pay34 q maskI k))
    (k0_pay36 q maskI (k0_pay30 k) (k0_pay31 v))

/-- The eight rows' sum in single precision, -/
def sum8 (r : Fin 8 → Vec F S1x2x32x512 .bf16) : FVec F S2x32x512 .f32 :=
  k0_pay40 (k0_pay38 (r 0) (r 1) (r 2) (r 3) (r 4)) (k0_pay39 (r 5)) (r 6) (r 7)
/-- and rounded. -/
def sum8b (r : Fin 8 → Vec F S1x2x32x512 .bf16) : FVec F S2x32x512 .bf16 :=
  k0_pay41 (k0_pay38 (r 0) (r 1) (r 2) (r 3) (r 4)) (k0_pay39 (r 5)) (r 6) (r 7)

/-- The partial product: load, compute, store, batch by batch. -/
def partial_ (c : Fin 8) : Code (F := F) PUnit := do
  let wq : Vec F S512x256 .f32 ← Prog.lift (.load wqM (Rect.unit (s := S512x256) ![0, 0] S512x256.size inb_S512x256_S512x256_0_0).toLoadRect (View.loadsAt_vmem h_S512x256))
  let x0 : Vec F S1x256x512 .f32 ← Prog.lift (.load xM (halfR 0).toLoadRect (View.loadsAt_vmem h_S1x256x512))
  let x1 : Vec F S1x256x512 .f32 ← Prog.lift (.load xM (halfR 1).toLoadRect (View.loadsAt_vmem h_S1x256x512))
  oth (fun _ => sliceWait) c 0
  let wo : Vec F S256x512 .f32 ← Prog.lift (.load woM (Rect.unit (s := S256x512) ![0, 0] S256x512.size inb_S256x512_S256x512_0_0).toLoadRect (View.loadsAt_vmem h_S256x512))
  let k0 : Vec F S1x256x256 .bf16 ← Prog.lift (.load kbM (kbR 0).toLoadRect (View.loadsAt_vmem h_S1x256x256))
  let v0 : Vec F S1x256x256 .bf16 ← Prog.lift (.load vbM (kbR 0).toLoadRect (View.loadsAt_vmem h_S1x256x256))
  let _w : Vec F S1x256x512 .bf16 ← Prog.lift (.load partM (halfR 0).toLoadRect (View.loadsAt_vmem h_S1x256x512))
  Prog.lift (.store partM (halfR 0) (half0 wq x0 wo k0 v0) Finset.univ
    (View.stores_vmem h_S1x256x512 ((Memref.isWhole_whole cc0_scratch7).storeExact_slice rfl _ packedbf16_S2x256x512_S1x256x512_0_0_0) (fun _ => rfl)) (.inl rfl))
  let k1 : Vec F S1x256x256 .bf16 ← Prog.lift (.load kbM (kbR 1).toLoadRect (View.loadsAt_vmem h_S1x256x256))
  let v1 : Vec F S1x256x256 .bf16 ← Prog.lift (.load vbM (kbR 1).toLoadRect (View.loadsAt_vmem h_S1x256x256))
  let _w : Vec F S1x256x512 .bf16 ← Prog.lift (.load partM (halfR 1).toLoadRect (View.loadsAt_vmem h_S1x256x512))
  Prog.lift (.store partM (halfR 1) (half1 wq x1 wo k1 v1) Finset.univ
    (View.stores_vmem h_S1x256x512 ((Memref.isWhole_whole cc0_scratch7).storeExact_slice rfl _ packedbf16_S2x256x512_S1x256x512_1_0_0) (fun _ => rfl)) (.inl rfl))

/-- The eight received rows, -/
def loads : Code (F := F) (Fin 8 → Vec F S1x2x32x512 .bf16) := do
  let r0 ← rsLoad 0
  let r1 ← rsLoad 1
  let r2 ← rsLoad 2
  let r3 ← rsLoad 3
  let r4 ← rsLoad 4
  let r5 ← rsLoad 5
  let r6 ← rsLoad 6
  let r7 ← rsLoad 7
  pure ![r0, r1, r2, r3, r4, r5, r6, r7]
/-- their sum kept for the others. -/
def keepSum (r : Fin 8 → Vec F S1x2x32x512 .bf16) : Code (F := F) PUnit := do
  let _w : Vec F S2x32x512 .bf16 ← Prog.lift (.load agsM (Rect.unit (s := S2x32x512) ![0, 0, 0] S2x32x512.size inb_S2x32x512_S2x32x512_0_0_0).toLoadRect (View.loadsAt_vmem h_S2x32x512))
  Prog.lift (.store agsM (Rect.unit (s := S2x32x512) ![0, 0, 0] S2x32x512.size inb_S2x32x512_S2x32x512_0_0_0) (sum8b r) Finset.univ
    (View.stores_vmem h_S2x32x512 ((Memref.isWhole_whole cc0_scratch9).storeExact_slice rfl _ packedbf16_S2x32x512_S2x32x512_0_0_0) (fun _ => rfl)) (.inl rfl))

def code (c : Fin 8) : Code (F := F) PUnit := do
  seqL [1, 2, 3, 4, 5, 6, 7] (sigTo c)
  semWaitWord barS 7#32
  byDev c spread0 spread4 spread3
  partial_ c
  rsIssue c
  seqL (others c) rsWait
  let r ← loads
  keepSum r
  agIssue (sum8 r) c
  seqL (others c) (rsDrain c)
  seqL (others c) agRecv
  seqL (others c) (agDrain c)
  byDev c drain0 drain4 drain3
  pure ⟨⟩

theorem part69_eq (v50 v85 v86 c64 v88 v95 v96) : app (k0_part69 (F := F)) v50 v85 v86 c64 v88 v95 v96 = (do
      let wo : Vec F S256x512 .f32 ← Prog.lift (.load woM (Rect.unit (s := S256x512) ![0, 0] S256x512.size inb_S256x512_S256x512_0_0).toLoadRect (View.loadsAt_vmem h_S256x512))
      let k0 : Vec F S1x256x256 .bf16 ← Prog.lift (.load kbM (kbR 0).toLoadRect (View.loadsAt_vmem h_S1x256x256))
      let v0 : Vec F S1x256x256 .bf16 ← Prog.lift (.load vbM (kbR 0).toLoadRect (View.loadsAt_vmem h_S1x256x256))
      pure ⟨k0_pay20 v85 v86 c64 v88 v95 v96, k0_pay21 wo, k0_pay22 k0, k0_pay23 v0, k0_pay24 (F := F), k0_pay25 v50 v85 v86 c64 v88 v95 v96 k0 v0, k0_pay26 wo,
        constant S256x512 .f32 0x00000000#32⟩) := by
  unfold app; rw [k0_part69_eq_skeleton]; rfl

theorem part70_eq (v50 v111 v114 v116 v118 v119 v137 v138 z) : app (k0_part70 (F := F)) v50 v111 v114 v116 v118 v119 v137 v138 z =
    pure ⟨k0_pay27 v50 v111 v114 v116 v118 v119 v137 v138 z, k0_pay28 v50 v116⟩ := by
  unfold app; rw [k0_part70_eq_skeleton]; rfl

theorem part71_eq (v57 v111 v114 v118 v182 v185) : app (k0_part71 (F := F)) v57 v111 v114 v118 v182 v185 = (do
      let _w : Vec F S1x256x512 .bf16 ← Prog.lift (.load partM (halfR 0).toLoadRect (View.loadsAt_vmem h_S1x256x512))
      Prog.lift (.store partM (halfR 0) (k0_pay29 v111 v114 v118 v182 v185) Finset.univ
        (View.stores_vmem h_S1x256x512 ((Memref.isWhole_whole cc0_scratch7).storeExact_slice rfl _ packedbf16_S2x256x512_S1x256x512_0_0_0) (fun _ => rfl)) (.inl rfl))
      let k1 : Vec F S1x256x256 .bf16 ← Prog.lift (.load kbM (kbR 1).toLoadRect (View.loadsAt_vmem h_S1x256x256))
      let v1 : Vec F S1x256x256 .bf16 ← Prog.lift (.load vbM (kbR 1).toLoadRect (View.loadsAt_vmem h_S1x256x256))
      pure ⟨k0_pay30 k1, k0_pay31 v1, k0_pay32 (F := F), k0_pay33 v57 v111 k1, k0_pay34 v57 v111 k1⟩) := by
  unfold app; rw [k0_part71_eq_skeleton]; rfl

theorem part72_eq (v57 v111 v114 v209 v211 v212 v222 v225) : app (k0_part72 (F := F)) v57 v111 v114 v209 v211 v212 v222 v225 =
    pure ⟨k0_pay35 v57 v111 v114 v209 v211 v212 v222 v225, k0_pay36 v57 v111 v209 v211⟩ := by
  unfold app; rw [k0_part72_eq_skeleton]; rfl

theorem part79_eq : app (k0_part79 (F := F)) = (do
      let ⟨d0, v2, v3, v24, c8⟩ ← app (k0_part66 (F := F))
      let ⟨v43, v50, v52⟩ ← app (k0_part67 (F := F)) d0 v2 v3 v24 c8
      let ⟨v57, v85, v86, c64, v88, v95, v96⟩ ← app (k0_part68 (F := F)) v2 v43 v52
      let ⟨v111, v114, v116, v118, v119, v137, v138, z⟩ ← app (k0_part69 (F := F)) v50 v85 v86 c64 v88 v95 v96
      let ⟨v182, v185⟩ ← app (k0_part70 (F := F)) v50 v111 v114 v116 v118 v119 v137 v138 z
      let ⟨v209, v211, v212, v222, v225⟩ ← app (k0_part71 (F := F)) v57 v111 v114 v118 v182 v185
      let ⟨v254, v272⟩ ← app (k0_part72 (F := F)) v57 v111 v114 v209 v211 v212 v222 v225
      let v311 ← app (k0_part73 (F := F)) d0 v2 v57 v111 v114 v209 v211 v254 v272
      let v341 ← app (k0_part74 (F := F)) d0 v2 v311
      let ⟨v367, v369⟩ ← app (k0_part75 (F := F)) v2 v341
      let ⟨v379, v400, z400⟩ ← app (k0_part76 (F := F)) d0 v2 v367 v369
      let ⟨v430, z430⟩ ← app (k0_part77 (F := F)) d0 v2 v379 v400 z400
      let ⟨v460, z460⟩ ← app (k0_part78 (F := F)) v2 v430 z430
      pick (Scalar.cmpi .ne v460 z460 = 1#1) (seqL (others 1) (agDrain 1))
      pick (Scalar.cmpi .ne (Scalar.extui (Scalar.cmpi .eq v2 2#32) : BitVec 32) 0#32 = 1#1) (seqL (others 2) (agDrain 2))
      pick (Scalar.cmpi .ne (Scalar.extui (Scalar.cmpi .eq v2 3#32) : BitVec 32) 0#32 = 1#1) (seqL (others 3) (agDrain 3))
      pick (Scalar.cmpi .ne (Scalar.extui (Scalar.cmpi .eq v2 4#32) : BitVec 32) 0#32 = 1#1) (seqL (others 4) (agDrain 4))
      pick (Scalar.cmpi .ne (Scalar.extui (Scalar.cmpi .eq v2 5#32) : BitVec 32) 0#32 = 1#1) (seqL (others 5) (agDrain 5))
      pick (Scalar.cmpi .ne (Scalar.extui (Scalar.cmpi .eq v2 6#32) : BitVec 32) 0#32 = 1#1) (seqL (others 6) (agDrain 6))
      pick (Scalar.cmpi .ne (Scalar.extui (Scalar.cmpi .eq v2 7#32) : BitVec 32) 0#32 = 1#1) (seqL (others 7) (agDrain 7))
      pick (Scalar.cmpi .ne (Scalar.extui (Scalar.cmpi .eq v2 0#32) : BitVec 32) 0#32 = 1#1) drain0
      pure ⟨v2, Scalar.extui (Scalar.cmpi .eq v2 4#32)⟩) := by
  unfold app
  rw [k0_part79_eq_skeleton]
  unfold k0_part79_skel
  refine congrArg (_ >>= ·) (funext fun ⟨d0, v2, v3, v24, c8⟩ => congrArg (_ >>= ·) (funext fun ⟨v43, v50, v52⟩ =>
    congrArg (_ >>= ·) (funext fun ⟨v57, v85, v86, c64, v88, v95, v96⟩ => congrArg (_ >>= ·) (funext fun ⟨v111, v114, v116, v118, v119, v137, v138, z⟩ =>
    congrArg (_ >>= ·) (funext fun ⟨v182, v185⟩ => congrArg (_ >>= ·) (funext fun ⟨v209, v211, v212, v222, v225⟩ =>
    congrArg (_ >>= ·) (funext fun ⟨v254, v272⟩ => congrArg (_ >>= ·) (funext fun v311 => congrArg (_ >>= ·) (funext fun v341 =>
    congrArg (_ >>= ·) (funext fun ⟨v367, v369⟩ => congrArg (_ >>= ·) (funext fun ⟨v379, v400, z400⟩ => congrArg (_ >>= ·) (funext fun ⟨v430, z430⟩ =>
    congrArg (_ >>= ·) (funext fun ⟨v460, z460⟩ => ?_)))))))))))))
  refine pick_eq (seqL (others 1) (agDrain 1)) ?_ (fun h => rfl)
  refine pick_eq (seqL (others 2) (agDrain 2)) ?_ (fun h => rfl)
  refine pick_eq (seqL (others 3) (agDrain 3)) ?_ (fun h => rfl)
  refine pick_eq (seqL (others 4) (agDrain 4)) ?_ (fun h => rfl)
  refine pick_eq (seqL (others 5) (agDrain 5)) ?_ (fun h => rfl)
  refine pick_eq (seqL (others 6) (agDrain 6)) ?_ (fun h => rfl)
  refine pick_eq (seqL (others 7) (agDrain 7)) ?_ (fun h => rfl)
  refine pick_eq drain0 ?_ (fun h => rfl)
  rfl

theorem cc0_body_eq : app (cc0_body (F := F)) = (do
      let ⟨v2, v484⟩ ← app (k0_part79 (F := F))
      pick (Scalar.cmpi .ne v484 0#32 = 1#1) drain4
      pick (Scalar.cmpi .ne (Scalar.extui (Scalar.cmpi .eq v2 3#32) : BitVec 32) 0#32 = 1#1) drain3
      pure ⟨⟩) := by
  unfold app
  rw [cc0_body_eq_skeleton]
  unfold cc0_body_skel
  refine congrArg (_ >>= ·) (funext fun ⟨v2, v484⟩ => ?_)
  refine pick_eq drain4 ?_ (fun h => rfl)
  refine pick_eq drain3 ?_ (fun h => rfl)
  rfl

end Cert.KernelIdeal.Pf

end
-- ==== Proof.Ideal.Geom.lean ====
/-
# 01_k — the pieces of the buffers

Columns, rows, slots and halves are disjoint and cover their buffers; whole loads and stores; loops.
-/
module

public import Mathlib.Tactic.Ring
public import proofs.«01_k».proof.Proof.Ideal.Rules
public import proofs.«01_k».proof.Proof.Ideal.Body
public import Idealize.ShloMosaic.Lib.VecWindow
public import Idealize.ShloMosaic.Lib.Pipeline.BigSepL

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families of rectangles that split one axis -/

theorem axis_disjoint {n w : ℕ} {s : Shape} (a : Fin s.rank) {off : Fin n → Fin s.rank → ℕ} {size : Fin s.rank → ℕ}
    {inb : ∀ t b, off t b + size b ≤ s.size b} (ho : ∀ t, off t a = w * t.val) (hs : size a = w) (t t' : Fin n) (h : t ≠ t') :
    Disjoint (Rect.unit (s := s) (off t) size (inb t)).set (Rect.unit (s := s) (off t') size (inb t')).set := by
  refine Rect.unit_disjoint a ?_
  rw [ho, ho, hs]
  rcases Nat.lt_or_gt_of_ne (fun e => h (Fin.ext e)) with h | h
  · left; calc w * t.val + w = w * (t.val + 1) := by ring
      _ ≤ w * t'.val := Nat.mul_le_mul_left _ h
  · right; calc w * t'.val + w = w * (t'.val + 1) := by ring
      _ ≤ w * t.val := Nat.mul_le_mul_left _ h

theorem axis_cover {n w : ℕ} (hw : 0 < w) {s : Shape} (a : Fin s.rank) {off : Fin n → Fin s.rank → ℕ} {size : Fin s.rank → ℕ}
    {inb : ∀ t b, off t b + size b ≤ s.size b} (ho : ∀ t, off t a = w * t.val) (hs : size a = w) (hn : s.size a = w * n)
    (hr : ∀ t b, b ≠ a → off t b = 0 ∧ size b = s.size b) :
    (Finset.univ : Finset (Fin n)).biUnion (fun t => (Rect.unit (s := s) (off t) size (inb t)).set) = Finset.univ := by
  refine Finset.eq_univ_of_forall fun i => Finset.mem_biUnion.mpr ?_
  have hi : (i a).val < w * n := hn ▸ (i a).isLt
  have hq : (i a).val / w < n := Nat.div_lt_of_lt_mul hi
  refine ⟨⟨(i a).val / w, hq⟩, Finset.mem_univ _, Rect.mem_set_unit.mpr fun b => ?_⟩
  by_cases hb : b = a
  · subst hb
    rw [ho, hs]
    exact ⟨Nat.mul_div_le _ _, by have := Nat.lt_mul_div_succ (i b).val hw; rwa [Nat.mul_add, Nat.mul_one] at this⟩
  · rw [(hr _ b hb).1, (hr ⟨_, hq⟩ b hb).2]
    exact ⟨Nat.zero_le _, by rw [Nat.zero_add]; exact (i b).isLt⟩

theorem colR_disj : ∀ d d', d ≠ d' → Disjoint (colR d).set (colR d').set := axis_disjoint (w := 256) (s := S2x256x2048) (2 : Fin 3) (fun _ => rfl) rfl
theorem colR_cov : (Finset.univ : Finset (Fin 8)).biUnion (fun d => (colR d).set) = Finset.univ :=
  axis_cover (w := 256) (by decide) (s := S2x256x2048) (2 : Fin 3) (fun _ => rfl) rfl rfl (by decide)
theorem rowR_disj : ∀ d d', d ≠ d' → Disjoint (rowR d).set (rowR d').set := axis_disjoint (w := 32) (s := S2x256x512) (1 : Fin 3) (fun _ => rfl) rfl
theorem rowR_cov : (Finset.univ : Finset (Fin 8)).biUnion (fun d => (rowR d).set) = Finset.univ :=
  axis_cover (w := 32) (by decide) (s := S2x256x512) (1 : Fin 3) (fun _ => rfl) rfl rfl (by decide)
theorem slotR_disj : ∀ d d', d ≠ d' → Disjoint (slotR d).set (slotR d').set :=
  axis_disjoint (w := 1) (s := S8x2x32x512) (0 : Fin 4) (fun t => (Nat.one_mul t.val).symm) rfl
theorem slotR_cov : (Finset.univ : Finset (Fin 8)).biUnion (fun d => (slotR d).set) = Finset.univ :=
  axis_cover (w := 1) (by decide) (s := S8x2x32x512) (0 : Fin 4) (fun t => (Nat.one_mul t.val).symm) rfl rfl (by decide)
theorem rbufR_disj : ∀ d d', d ≠ d' → Disjoint (rbufR d).set (rbufR d').set :=
  axis_disjoint (w := 1) (s := S3x2x256x256) (0 : Fin 4) (fun t => (Nat.one_mul t.val).symm) rfl
theorem rbufR_cov : (Finset.univ : Finset (Fin 3)).biUnion (fun d => (rbufR d).set) = Finset.univ :=
  axis_cover (w := 1) (by decide) (s := S3x2x256x256) (0 : Fin 4) (fun t => (Nat.one_mul t.val).symm) rfl rfl (by decide)
theorem halfR_disj : ∀ d d', d ≠ d' → Disjoint (halfR d).set (halfR d').set :=
  axis_disjoint (w := 1) (s := S2x256x512) (0 : Fin 3) (fun t => (Nat.one_mul t.val).symm) rfl
theorem halfR_cov : (Finset.univ : Finset (Fin 2)).biUnion (fun d => (halfR d).set) = Finset.univ :=
  axis_cover (w := 1) (by decide) (s := S2x256x512) (0 : Fin 3) (fun t => (Nat.one_mul t.val).symm) rfl rfl (by decide)

/-! ## Whole loads and stores -/

section Whole
variable (c : Dev nD) {cs : CoreSpace} {s : Shape} {e : EltTy} {m : Memref sig .tc cs s e} {off : Fin s.rank → ℕ} {inb : ∀ a, off a + s.size a ≤ s.size a}

theorem ld_whole {hl : m.view.LoadsAt (Rect.unit off s.size inb).toLoadRect} {q : PosShare TreeShare} (X : s.Idx → Elt F e)
    {Q : (s.Idx → Elt F e) → sProp 𝕄} :
    (owns (c : Thread nD τ) m q X : sProp 𝕄)
      ⊢ iprop((owns (c : Thread nD τ) m q X -∗ Q X) -∗ run c (Prog.lift (.load m (Rect.unit off s.size inb).toLoadRect hl)) Q) := by
  have h := ld_part (F := F) c (m := m) (r := Rect.unit off s.size inb) (hl := hl) (q := q) X (Q := Q)
  rwa [show (fun j => X ((Rect.unit off s.size inb).emb j)) = X from funext fun j => congrArg X (Rect.emb_unit_full inb j)] at h

theorem st_whole {w : s.Idx → Elt F e} {hx : (m.access (Rect.unit off s.size inb)).Stores Finset.univ}
    {hm : Finset.univ = Finset.univ ∨ ∀ a, (Rect.unit off s.size inb).stride a = 1} {Q : PUnit → sProp 𝕄} :
    (anyOf (c : Thread nD τ) m : sProp 𝕄)
      ⊢ iprop((owns (c : Thread nD τ) m fullShare w -∗ Q ⟨⟩) -∗ run c (Prog.lift (.store m (Rect.unit off s.size inb) w Finset.univ hx hm)) Q) := by
  unfold anyOf
  iintro ⟨%X, H⟩
  have h := st_part (F := F) c (m := m) (r := Rect.unit off s.size inb) (fun _ => rfl) (w := w) (hx := hx) (hm := hm) X (Q := Q)
  rw [show (Rect.unit off s.size inb).overlay X w = w from funext fun j => by
    conv_lhs => rw [← Rect.emb_unit_full inb j]
    exact Rect.overlay_emb _ _ _ _] at h
  iapply h; iexact H
end Whole

/-! ## Loops -/

theorem run_seq (c : Dev nD) {α β : Type} (p : Code (F := F) α) (k : α → Code (F := F) β) (Q : β → sProp 𝕄) :
    (run c p fun a => run c (k a) Q) ⊢ run c (p >>= k) Q := Entails.of_eq (wp_bind _ _ _ p k Q).symm

theorem run_pure (c : Dev nD) {Q : PUnit → sProp 𝕄} : Q ⟨⟩ ⊢ run c (pure ⟨⟩ : Code (F := F) PUnit) Q := by
  show Q ⟨⟩ ⊢ wp frame _ Set.univ (.ret PUnit.unit) Q
  rw [wp_ret]; iintro H; imodintro; iexact H

/-- A loop over devices: the part `I` that goes round, and what each turn takes and leaves. -/
theorem run_loop (c : Dev nD) (P : sProp 𝕄) [BI.Persistent P] (I : List (Fin 8) → sProp 𝕄) (A B : Fin 8 → sProp 𝕄) (p : Fin 8 → Code (F := F) PUnit)
    (l : List (Fin 8)) (h : ∀ d ∈ l, ∀ l', ∀ Q : PUnit → sProp 𝕄, iprop(P ∗ I (d :: l') ∗ A d) ⊢ iprop(((I l' ∗ B d) -∗ Q ⟨⟩) -∗ run c (p d) Q))
    {Q : PUnit → sProp 𝕄} :
    iprop(P ∗ I l ∗ bigSepL l A) ⊢ iprop(((I [] ∗ bigSepL l B) -∗ Q ⟨⟩) -∗ run c (seqL l p) Q) := by
  induction l generalizing Q with
  | nil =>
    iintro ⟨-, HI, HA⟩ Hk
    unfold seqL
    iapply run_pure
    iapply Hk; isplitl [HI]; · iexact HI
    iexact HA
  | cons d l ih =>
    rw [bigSepL_cons', bigSepL_cons']
    unfold seqL
    iintro ⟨#HP, HI, HA, Hl⟩ Hk
    iapply run_seq
    iapply (h d List.mem_cons_self l _) $$ [HI HA]
    · isplitr; · iexact HP
      isplitl [HI]; · iexact HI
      iexact HA
    iintro ⟨HI, HB⟩
    iapply (ih (fun d' hd' => h d' (List.mem_cons_of_mem _ hd'))) $$ [HI Hl]
    · isplitr; · iexact HP
      isplitl [HI]; · iexact HI
      iexact Hl
    iintro ⟨HI, HBl⟩
    iapply Hk
    isplitl [HI]; · iexact HI
    isplitl [HB]; · iexact HB
    iexact HBl

/-- Over the other devices. -/
theorem others_sep (c : Fin 8) (A : Fin 8 → sProp 𝕄) : bigSep (Finset.univ.erase c) A = bigSepL (others c) A := by
  rw [← others_toFinset]; exact bigSep_eq_bigSepL _ (others_nodup c) A
theorem split_sep (c : Fin 8) (A : Fin 8 → sProp 𝕄) : bigSep Finset.univ A = iprop(A c ∗ bigSepL (others c) A) := by
  have h := bigSep_insert (Φ := A) (Finset.notMem_erase c Finset.univ)
  rw [Finset.insert_erase (Finset.mem_univ c)] at h
  rw [← others_sep]; exact h

end Cert.KernelIdeal.Pf

end
-- ==== Proof.Ideal.Kv.lean ====
/-
# 01_k — spreading K and V: the rules of its transfers

The lists of a device's waits, sends and places, and one rule for each kind of transfer and wait of this phase.
-/
module

public import proofs.«01_k».proof.Proof.Ideal.Geom
public import Idealize.ShloMosaic.Lib.Pointwise.Reshape

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem sepL_two {I : Type} (i j : I) (l : List I) (Φ : I → sProp 𝕄) : bigSepL (i :: j :: l) Φ = iprop(Φ i ∗ bigSepL (j :: l) Φ) := rfl

/-! ## A device's waits and sends, in order -/

/-- The waits of device `c` while it spreads K and V, -/
def spreadW : Dev nD → List Use :=
  (![[.copy 0, .copy 1, .ksend 5, .vsend 5, .vsend 7, .ksend 6, .vsend 6], [], [], [.relay 0, .relay 1], [.relay 0, .relay 1, .relay 2], [], [], []]
    : Fin 8 → List Use)
/-- for its own slices, -/
def sliceW : Dev nD → List Use :=
  (![[], [.krecv, .vrecv], [.krecv, .vrecv], [.krecv, .vrecv], [.krecv, .vrecv], [.krecv, .vrecv], [.krecv, .vrecv], [.krecv, .vrecv]] : Fin 8 → List Use)
/-- at the end. -/
def drainW : Dev nD → List Use :=
  (![[.ksend 1, .vsend 1, .ksend 2, .vsend 2, .ksend 3, .vsend 3, .ksend 4, .vsend 4, .ksend 7], [], [], [.fwd 0, .fwd 1], [.fwd 0, .fwd 1, .fwd 2], [], [], []]
    : Fin 8 → List Use)
/-- What of the waits while spreading others pay for, -/
def relayW : Dev nD → List Use := (![[], [], [], [.relay 0, .relay 1], [.relay 0, .relay 1, .relay 2], [], [], []] : Fin 8 → List Use)
/-- its own copies and sends of K and V slices, -/
def kvS : Dev nD → List Use :=
  (![[.copy 0, .copy 1, .ksend 5, .vsend 5, .vsend 7, .ksend 6, .vsend 6, .ksend 2, .vsend 2, .ksend 1, .vsend 1, .ksend 4, .vsend 4, .ksend 3, .vsend 3, .ksend 7],
    [], [], [.fwd 0, .fwd 1], [.fwd 0, .fwd 1, .fwd 2], [], [], []] : Fin 8 → List Use)
/-- the places for K and V that it keeps. -/
def keptL : Dev nD → List Use :=
  (![[.krecv, .vrecv, .relay 0, .relay 1, .relay 2], [.relay 0, .relay 1, .relay 2], [.relay 0, .relay 1, .relay 2], [.relay 2], [],
    [.relay 0, .relay 1, .relay 2], [.relay 0, .relay 1, .relay 2], [.relay 0, .relay 1, .relay 2]] : Fin 8 → List Use)

variable (D : Data F) (K : Dev nD × Option Use → ℕ)

/-! ## What comes back -/

theorem pay_ksend (c d : Fin 8) : pay D c (.ksend d) ⊢ owns (Dev.tc c) (kcolM d) fullShare (D.kcol d) := .rfl
theorem pay_vsend (c d : Fin 8) : pay D c (.vsend d) ⊢ owns (Dev.tc c) (vcolM d) fullShare (D.vcol d) := .rfl
theorem pay_fwd (c : Fin 8) (i : Fin 3) : pay D c (.fwd i) ⊢ place c (.relay i) :=
  anyOf_intro (Dev.tc c) (rbSlotM i) (D.rel c i)

/-! ## Sends -/

section Sends
variable (l : List Due)

theorem kRelay_rule (d t : Fin 8) (i : Fin 3) (hS : live (0 : Fin 8) (.ksend d) = true) (hR : live t (.relay i) = true) (hX : D.rel t i = D.kcol d) {Q : PUnit → sProp 𝕄} :
    env D K ⊢ iprop(dues (0 : Fin 8) ((t, some (.relay i)) :: l) -∗ owns ((0 : Dev nD) : Thread nD τ) (kcolM d) fullShare (D.kcol d) -∗ place t (.relay i)
      -∗ tok (0 : Fin 8) (some (.ksend d)) (0 : Fin 8) -∗ tok t (some (.relay i)) (0 : Fin 8)
      -∗ ((dues (0 : Fin 8) l ∗ crd (0 : Fin 8) (.ksend d)) -∗ Q ⟨⟩) -∗ run (0 : Fin 8) (kRelay d t i) Q) := by
  unfold kRelay place
  iintro #He Ho Hs Hp HtS HtR
  iapply (wp_send (src := kcolM d) (dst := rbSlotM i) (sS := sem8 cc0_scratch12 d) (sR := sem3 cc0_scratch16 i) D K (0 : Fin 8) t t rfl (.ksend d) (.relay i) hS hR rfl rfl fullShare (D.kcol d) rfl rfl rfl (congrArg (owns (t : Thread nD τ) (rbSlotM i) fullShare) hX) l)
  isplitr; · iexact He
  isplitl [Hs]; · iexact Hs
  isplitl [Hp]; · iexact Hp
  isplitl [Ho]; · iexact Ho
  isplitl [HtS]; · iexact HtS
  iexact HtR

theorem vRelay_rule (d t : Fin 8) (i : Fin 3) (hS : live (0 : Fin 8) (.vsend d) = true) (hR : live t (.relay i) = true) (hX : D.rel t i = D.vcol d) {Q : PUnit → sProp 𝕄} :
    env D K ⊢ iprop(dues (0 : Fin 8) ((t, some (.relay i)) :: l) -∗ owns ((0 : Dev nD) : Thread nD τ) (vcolM d) fullShare (D.vcol d) -∗ place t (.relay i)
      -∗ tok (0 : Fin 8) (some (.vsend d)) (0 : Fin 8) -∗ tok t (some (.relay i)) (0 : Fin 8)
      -∗ ((dues (0 : Fin 8) l ∗ crd (0 : Fin 8) (.vsend d)) -∗ Q ⟨⟩) -∗ run (0 : Fin 8) (vRelay d t i) Q) := by
  unfold vRelay place
  iintro #He Ho Hs Hp HtS HtR
  iapply (wp_send (src := vcolM d) (dst := rbSlotM i) (sS := sem8 cc0_scratch13 d) (sR := sem3 cc0_scratch16 i) D K (0 : Fin 8) t t rfl (.vsend d) (.relay i) hS hR rfl rfl fullShare (D.vcol d) rfl rfl rfl (congrArg (owns (t : Thread nD τ) (rbSlotM i) fullShare) hX) l)
  isplitr; · iexact He
  isplitl [Hs]; · iexact Hs
  isplitl [Hp]; · iexact Hp
  isplitl [Ho]; · iexact Ho
  isplitl [HtS]; · iexact HtS
  iexact HtR

theorem kSend_rule (d : Fin 8) (hS : live (0 : Fin 8) (.ksend d) = true) (hR : live d .krecv = true) {Q : PUnit → sProp 𝕄} :
    env D K ⊢ iprop(dues (0 : Fin 8) ((d, some .krecv) :: l) -∗ owns ((0 : Dev nD) : Thread nD τ) (kcolM d) fullShare (D.kcol d) -∗ place d .krecv
      -∗ tok (0 : Fin 8) (some (.ksend d)) (0 : Fin 8) -∗ tok d (some .krecv) (0 : Fin 8)
      -∗ ((dues (0 : Fin 8) l ∗ crd (0 : Fin 8) (.ksend d)) -∗ Q ⟨⟩) -∗ run (0 : Fin 8) (kSend d) Q) := by
  unfold kSend place
  iintro #He Ho Hs Hp HtS HtR
  iapply (wp_send (src := kcolM d) (dst := kbM) (sS := sem8 cc0_scratch12 d) (sR := cc0_scratch14.sem) D K (0 : Fin 8) d d rfl (.ksend d) .krecv hS hR rfl rfl fullShare (D.kcol d) rfl rfl rfl rfl l)
  isplitr; · iexact He
  isplitl [Hs]; · iexact Hs
  isplitl [Hp]; · iexact Hp
  isplitl [Ho]; · iexact Ho
  isplitl [HtS]; · iexact HtS
  iexact HtR

theorem vSend_rule (d : Fin 8) (hS : live (0 : Fin 8) (.vsend d) = true) (hR : live d .vrecv = true) {Q : PUnit → sProp 𝕄} :
    env D K ⊢ iprop(dues (0 : Fin 8) ((d, some .vrecv) :: l) -∗ owns ((0 : Dev nD) : Thread nD τ) (vcolM d) fullShare (D.vcol d) -∗ place d .vrecv
      -∗ tok (0 : Fin 8) (some (.vsend d)) (0 : Fin 8) -∗ tok d (some .vrecv) (0 : Fin 8)
      -∗ ((dues (0 : Fin 8) l ∗ crd (0 : Fin 8) (.vsend d)) -∗ Q ⟨⟩) -∗ run (0 : Fin 8) (vSend d) Q) := by
  unfold vSend place
  iintro #He Ho Hs Hp HtS HtR
  iapply (wp_send (src := vcolM d) (dst := vbM) (sS := sem8 cc0_scratch13 d) (sR := cc0_scratch15.sem) D K (0 : Fin 8) d d rfl (.vsend d) .vrecv hS hR rfl rfl fullShare (D.vcol d) rfl rfl rfl rfl l)
  isplitr; · iexact He
  isplitl [Hs]; · iexact Hs
  isplitl [Hp]; · iexact Hp
  isplitl [Ho]; · iexact Ho
  isplitl [HtS]; · iexact HtS
  iexact HtR

theorem fwdK_rule (c t : Fin 8) (hS : live c (.fwd 0) = true) (hR : live t .krecv = true) (hX : D.rel c 0 = D.kcol t) {Q : PUnit → sProp 𝕄} :
    env D K ⊢ iprop(dues c ((t, some .krecv) :: l) -∗ pay D c (.relay 0) -∗ place t .krecv
      -∗ tok c (some (.fwd 0)) (0 : Fin 8) -∗ tok t (some .krecv) (0 : Fin 8)
      -∗ ((dues c l ∗ crd c (.fwd 0)) -∗ Q ⟨⟩) -∗ run c (fwdK t) Q) := by
  unfold fwdK place
  iintro #He Ho Hs Hp HtS HtR
  iapply (wp_send (src := rbSlotM 0) (dst := kbM) (sS := sem3 cc0_scratch17 0) (sR := cc0_scratch14.sem) D K c t t rfl (.fwd 0) .krecv hS hR rfl rfl fullShare (D.rel c 0) rfl rfl rfl (congrArg (owns (t : Thread nD τ) kbM fullShare) hX.symm) l)
  isplitr; · iexact He
  isplitl [Hs]; · iapply (show pay D c (.relay 0) ⊢ owns (c : Thread nD τ) (rbSlotM 0) fullShare (D.rel c 0) from .rfl); iexact Hs
  isplitl [Hp]; · iexact Hp
  isplitl [Ho]; · iexact Ho
  isplitl [HtS]; · iexact HtS
  iexact HtR

theorem fwdV_rule (c t : Fin 8) (i : Fin 3) (hS : live c (.fwd i) = true) (hR : live t .vrecv = true) (hX : D.rel c i = D.vcol t) {Q : PUnit → sProp 𝕄} :
    env D K ⊢ iprop(dues c ((t, some .vrecv) :: l) -∗ pay D c (.relay i) -∗ place t .vrecv
      -∗ tok c (some (.fwd i)) (0 : Fin 8) -∗ tok t (some .vrecv) (0 : Fin 8)
      -∗ ((dues c l ∗ crd c (.fwd i)) -∗ Q ⟨⟩) -∗ run c (fwdV i t) Q) := by
  unfold fwdV place
  iintro #He Ho Hs Hp HtS HtR
  iapply (wp_send (src := rbSlotM i) (dst := vbM) (sS := sem3 cc0_scratch17 i) (sR := cc0_scratch15.sem) D K c t t rfl (.fwd i) .vrecv hS hR rfl rfl fullShare (D.rel c i) rfl rfl rfl (congrArg (owns (t : Thread nD τ) vbM fullShare) hX.symm) l)
  isplitr; · iexact He
  isplitl [Hs]; · iapply (show pay D c (.relay i) ⊢ owns (c : Thread nD τ) (rbSlotM i) fullShare (D.rel c i) from .rfl); iexact Hs
  isplitl [Hp]; · iexact Hp
  isplitl [Ho]; · iexact Ho
  isplitl [HtS]; · iexact HtS
  iexact HtR
end Sends

/-! ## Waits -/

/-- What a wait at semaphore `k` of device `c` does, of the program `p`. -/
def Awaits (c : Dev nD) (k : Use) (p : Code (F := F) PUnit) : Prop :=
  ∀ (l : List Due), (∀ x ∈ l, lvU (some k) < lvU x.2) → ∀ Q : PUnit → sProp 𝕄,
    env D K ⊢ iprop(dues c l -∗ crd c k -∗ pos c (some k) -∗ ((dues c l ∗ zero c (some k) ∗ pay D c k) -∗ Q ⟨⟩) -∗ run c p Q)

theorem awaits (c : Dev nD) (k : Use) (hlv : live c k = true) {sm : DmaSem sig} (hsm : sm = ownSem k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k) :
    Awaits D K c k (Prog.lift (.waitDma2 sm src dst hsrc hdst)) := by
  intro l hl Q
  iintro #He Ho Hc Hp
  iapply (wp_await D K c k hlv l hl hsm hN)
  isplitr; · iexact He
  isplitl [Hc]; · iexact Hc
  isplitl [Ho]; · iexact Ho
  iexact Hp

theorem copyKWait_rule : Awaits D K (0 : Fin 8) (.copy 0) copyKWait := awaits (src := kinM) (dst := kfM) (sm := sem2 cc0_scratch11 0) D K _ _ rfl rfl rfl
theorem copyVWait_rule : Awaits D K (0 : Fin 8) (.copy 1) copyVWait := awaits (src := vinM) (dst := vfM) (sm := sem2 cc0_scratch11 1) D K _ _ rfl rfl rfl
theorem kRelayed_rule (d : Fin 8) (i) (h : live (0 : Fin 8) (.ksend d) = true) : Awaits D K (0 : Fin 8) (.ksend d) (kRelayed d i) := awaits (src := rbSlotM i) (dst := kcolM d) (sm := sem8 cc0_scratch12 d) D K _ _ h rfl rfl
theorem vRelayed_rule (d : Fin 8) (i) (h : live (0 : Fin 8) (.vsend d) = true) : Awaits D K (0 : Fin 8) (.vsend d) (vRelayed d i) := awaits (src := rbSlotM i) (dst := vcolM d) (sm := sem8 cc0_scratch13 d) D K _ _ h rfl rfl
theorem kDrain_rule (d : Fin 8) (h : live (0 : Fin 8) (.ksend d) = true) : Awaits D K (0 : Fin 8) (.ksend d) (kDrain d) := awaits (src := kbM) (dst := kcolM d) (sm := sem8 cc0_scratch12 d) D K _ _ h rfl rfl
theorem vDrain_rule (d : Fin 8) (h : live (0 : Fin 8) (.vsend d) = true) : Awaits D K (0 : Fin 8) (.vsend d) (vDrain d) := awaits (src := vbM) (dst := vcolM d) (sm := sem8 cc0_scratch13 d) D K _ _ h rfl rfl
theorem relayWait_rule (c : Fin 8) (i) (h : live c (.relay i) = true) : Awaits D K c (.relay i) (relayWait i) := awaits (src := rbSlotM i) (dst := rbSlotM i) (sm := sem3 cc0_scratch16 i) D K _ _ h rfl rfl
theorem fDrainK_rule (c : Fin 8) (h : live c (.fwd 0) = true) : Awaits D K c (.fwd 0) fDrainK := awaits (src := kbM) (dst := rbSlotM 0) (sm := sem3 cc0_scratch17 0) D K _ _ h rfl rfl
theorem fDrainV_rule (c : Fin 8) (i) (h : live c (.fwd i) = true) : Awaits D K c (.fwd i) (fDrainV i) := awaits (src := vbM) (dst := rbSlotM i) (sm := sem3 cc0_scratch17 i) D K _ _ h rfl rfl

/-- All but device 0 wait for their slices. -/
theorem sliceWait_rule (c : Fin 8) (hk : live c .krecv = true) (hv : live c .vrecv = true) (l : List Due) (hl : ∀ x ∈ l, 3 < lvU x.2) {Q : PUnit → sProp 𝕄} :
    env D K ⊢ iprop(dues c l -∗ crd c .krecv -∗ crd c .vrecv -∗ pos c (some .krecv) -∗ pos c (some .vrecv)
      -∗ ((dues c l ∗ zero c (some .krecv) ∗ zero c (some .vrecv) ∗ owns (c : Thread nD τ) kbM fullShare (D.kcol c) ∗ owns (c : Thread nD τ) vbM fullShare (D.vcol c)) -∗ Q ⟨⟩)
      -∗ run c sliceWait Q) := by
  unfold sliceWait
  iintro #He Ho Hck Hcv Hpk Hpv Hk
  iapply run_seq
  iapply (awaits (src := kbM) (dst := kbM) (sm := cc0_scratch14.sem) (hsrc := kb_exact) (hdst := kb_exact) D K c .krecv hk rfl rfl l hl _) $$ He Ho Hck Hpk
  iintro ⟨Ho, Hzk, Hkb⟩
  iapply (awaits (src := vbM) (dst := vbM) (sm := cc0_scratch15.sem) (hsrc := vb_exact) (hdst := vb_exact) D K c .vrecv hv rfl rfl l hl _) $$ He Ho Hcv Hpv
  iintro ⟨Ho, Hzv, Hvb⟩
  iapply Hk
  isplitl [Ho]; · iexact Ho
  isplitl [Hzk]; · iexact Hzk
  isplitl [Hzv]; · iexact Hzv
  isplitl [Hkb]; · iapply (show pay D c .krecv ⊢ owns (c : Thread nD τ) kbM fullShare (D.kcol c) from .rfl); iexact Hkb
  iapply (show pay D c .vrecv ⊢ owns (c : Thread nD τ) vbM fullShare (D.vcol c) from .rfl); iexact Hvb

/-! ## Device 0's staging -/

theorem pay11_eq (v : Vec F S2x256x256 .bf16) : k0_pay11 v = v := by
  unfold k0_pay11; exact shapeCast_id _ _
theorem pay12_eq (v : Vec F S2x256x256 .bf16) : k0_pay12 v = v := by
  unfold k0_pay12; exact shapeCast_id _ _

section Stage

theorem copyK_rule {Q : PUnit → sProp 𝕄} :
    env D K ⊢ iprop(owns ((0 : Dev nD) : Thread nD τ) kinM fullShare (D.kin (0 : Fin 8)) -∗ anyOf ((0 : Dev nD) : Thread nD τ) kfM -∗ tok (0 : Fin 8) (some (.copy 0)) (0 : Fin 8)
      -∗ (crd (0 : Fin 8) (.copy 0) -∗ Q ⟨⟩) -∗ run (0 : Fin 8) copyK Q) := by
  unfold copyK
  iintro #He Hs Hd Ht
  iapply (wp_copy (src := kinM) (dst := kfM) (sm := sem2 cc0_scratch11 0) D K (0 : Fin 8) (.copy 0) rfl rfl (D.kin (0 : Fin 8)) rfl rfl)
  isplitr; · iexact He
  isplitl [Hs]; · iexact Hs
  isplitl [Hd]; · iexact Hd
  iexact Ht
theorem copyV_rule {Q : PUnit → sProp 𝕄} :
    env D K ⊢ iprop(owns ((0 : Dev nD) : Thread nD τ) vinM fullShare (D.vin (0 : Fin 8)) -∗ anyOf ((0 : Dev nD) : Thread nD τ) vfM -∗ tok (0 : Fin 8) (some (.copy 1)) (0 : Fin 8)
      -∗ (crd (0 : Fin 8) (.copy 1) -∗ Q ⟨⟩) -∗ run (0 : Fin 8) copyV Q) := by
  unfold copyV
  iintro #He Hs Hd Ht
  iapply (wp_copy (src := vinM) (dst := vfM) (sm := sem2 cc0_scratch11 1) D K (0 : Fin 8) (.copy 1) rfl rfl (D.vin (0 : Fin 8)) rfl rfl)
  isplitr; · iexact He
  isplitl [Hs]; · iexact Hs
  isplitl [Hd]; · iexact Hd
  iexact Ht

theorem stageK_rule (X : S2x256x32x64.Idx → Elt F .f32) {Q : PUnit → sProp 𝕄} :
    (owns ((0 : Dev nD) : Thread nD τ) kfM fullShare X : sProp 𝕄) ⊢ iprop(anyOf ((0 : Dev nD) : Thread nD τ) kstM
      -∗ ((owns ((0 : Dev nD) : Thread nD τ) kfM fullShare X ∗ owns ((0 : Dev nD) : Thread nD τ) kstM fullShare (k0_pay1 X)) -∗ Q ⟨⟩) -∗ run (0 : Fin 8) stageK Q) := by
  unfold stageK
  iintro Hf Hst Hk
  iapply run_seq
  iapply (ld_whole (0 : Fin 8) X) $$ Hf
  iintro Hf
  iapply run_seq
  iapply (ld_any (0 : Fin 8)) $$ Hst
  iintro %w Hst
  iapply (st_whole (0 : Fin 8)) $$ Hst
  iintro Hst
  iapply Hk; isplitl [Hf]; · iexact Hf
  iexact Hst
theorem stageV_rule (X : S2x256x32x64.Idx → Elt F .f32) {Q : PUnit → sProp 𝕄} :
    (owns ((0 : Dev nD) : Thread nD τ) vfM fullShare X : sProp 𝕄) ⊢ iprop(anyOf ((0 : Dev nD) : Thread nD τ) vstM
      -∗ ((owns ((0 : Dev nD) : Thread nD τ) vfM fullShare X ∗ owns ((0 : Dev nD) : Thread nD τ) vstM fullShare (k0_pay2 X)) -∗ Q ⟨⟩) -∗ run (0 : Fin 8) stageV Q) := by
  unfold stageV
  iintro Hf Hst Hk
  iapply run_seq
  iapply (ld_whole (0 : Fin 8) X) $$ Hf
  iintro Hf
  iapply run_seq
  iapply (ld_any (0 : Fin 8)) $$ Hst
  iintro %w Hst
  iapply (st_whole (0 : Fin 8)) $$ Hst
  iintro Hst
  iapply Hk; isplitl [Hf]; · iexact Hf
  iexact Hst

theorem keepK_rule (X : S2x256x256.Idx → Elt F .bf16) {Q : PUnit → sProp 𝕄} :
    (owns ((0 : Dev nD) : Thread nD τ) (kcolM 0) fullShare X : sProp 𝕄) ⊢ iprop(anyOf ((0 : Dev nD) : Thread nD τ) kbM
      -∗ ((owns ((0 : Dev nD) : Thread nD τ) (kcolM 0) fullShare X ∗ owns ((0 : Dev nD) : Thread nD τ) kbM fullShare X) -∗ Q ⟨⟩) -∗ run (0 : Fin 8) keepK Q) := by
  unfold keepK
  iintro Hf Hst Hk
  iapply run_seq
  iapply (ld_slice (0 : Fin 8) (fun _ => rfl) X) $$ Hf
  iintro Hf
  iapply run_seq
  iapply (ld_any (0 : Fin 8)) $$ Hst
  iintro %w Hst
  iapply (st_whole (0 : Fin 8)) $$ Hst
  iintro Hst
  iapply Hk; isplitl [Hf]; · iexact Hf
  iapply (Entails.of_eq (show (owns ((0 : Dev nD) : Thread nD τ) kbM fullShare (k0_pay11 X) : sProp 𝕄) = owns ((0 : Dev nD) : Thread nD τ) kbM fullShare X by rw [pay11_eq]))
  iexact Hst
theorem keepV_rule (X : S2x256x256.Idx → Elt F .bf16) {Q : PUnit → sProp 𝕄} :
    (owns ((0 : Dev nD) : Thread nD τ) (vcolM 0) fullShare X : sProp 𝕄) ⊢ iprop(anyOf ((0 : Dev nD) : Thread nD τ) vbM
      -∗ ((owns ((0 : Dev nD) : Thread nD τ) (vcolM 0) fullShare X ∗ owns ((0 : Dev nD) : Thread nD τ) vbM fullShare X) -∗ Q ⟨⟩) -∗ run (0 : Fin 8) keepV Q) := by
  unfold keepV
  iintro Hf Hst Hk
  iapply run_seq
  iapply (ld_slice (0 : Fin 8) (fun _ => rfl) X) $$ Hf
  iintro Hf
  iapply run_seq
  iapply (ld_any (0 : Fin 8)) $$ Hst
  iintro %w Hst
  iapply (st_whole (0 : Fin 8)) $$ Hst
  iintro Hst
  iapply Hk; isplitl [Hf]; · iexact Hf
  iapply (Entails.of_eq (show (owns ((0 : Dev nD) : Thread nD τ) vbM fullShare (k0_pay12 X) : sProp 𝕄) = owns ((0 : Dev nD) : Thread nD τ) vbM fullShare X by rw [pay12_eq]))
  iexact Hst
end Stage

end Cert.KernelIdeal.Pf

end
-- ==== Proof.Ideal.Spread.lean ====
/-
# 01_k — spreading K and V

Device 0 stages its K and V and sends each device its slices, those for devices 5, 6 and the V slice for device 7 through
devices 4 and 3, which pass them on.
-/
module

public import proofs.«01_k».proof.Proof.Ideal.Kv

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (K : Dev nD × Option Use → ℕ)

/-! ## Columns -/

abbrev eight : List (Fin 8) := [0, 1, 2, 3, 4, 5, 6, 7]

theorem kcols (X : S2x256x2048.Idx → Elt F .bf16) :
    (owns (Dev.tc (0 : Fin 8)) kstM fullShare X : sProp 𝕄)
      ⊢ bigSepL eight fun d : Fin 8 => owns (Dev.tc (0 : Fin 8)) (kcolM d) fullShare fun j => X ((colR d).emb j) := by
  refine (owns_rects (Dev.tc (0 : Fin 8) : Thread nD τ) kstM fullShare colR (fun _ _ => rfl) colR_disj colR_cov X).trans (Entails.of_eq ?_)
  exact bigSep_eq_bigSepL_of_eq eight (by decide) (by decide) _
theorem vcols (X : S2x256x2048.Idx → Elt F .bf16) :
    (owns (Dev.tc (0 : Fin 8)) vstM fullShare X : sProp 𝕄)
      ⊢ bigSepL eight fun d : Fin 8 => owns (Dev.tc (0 : Fin 8)) (vcolM d) fullShare fun j => X ((colR d).emb j) := by
  refine (owns_rects (Dev.tc (0 : Fin 8) : Thread nD τ) vstM fullShare colR (fun _ _ => rfl) colR_disj colR_cov X).trans (Entails.of_eq ?_)
  exact bigSep_eq_bigSepL_of_eq eight (by decide) (by decide) _
theorem kcols_back (X : Fin 8 → S2x256x256.Idx → Elt F .bf16) :
    (bigSepL eight fun d : Fin 8 => owns (Dev.tc (0 : Fin 8)) (kcolM d) fullShare (X d)) ⊢ (anyOf (Dev.tc (0 : Fin 8)) kstM : sProp 𝕄) := by
  refine (bigSepL_mono fun d _ => anyOf_intro _ _ (X d)).trans ?_
  refine (Entails.of_eq (bigSep_eq_bigSepL_of_eq (S := Finset.univ) eight (by decide) (by decide) _).symm).trans ?_
  exact anyOf_of_rects (Dev.tc (0 : Fin 8) : Thread nD τ) kstM colR (fun _ _ => rfl) colR_disj colR_cov
theorem vcols_back (X : Fin 8 → S2x256x256.Idx → Elt F .bf16) :
    (bigSepL eight fun d : Fin 8 => owns (Dev.tc (0 : Fin 8)) (vcolM d) fullShare (X d)) ⊢ (anyOf (Dev.tc (0 : Fin 8)) vstM : sProp 𝕄) := by
  refine (bigSepL_mono fun d _ => anyOf_intro _ _ (X d)).trans ?_
  refine (Entails.of_eq (bigSep_eq_bigSepL_of_eq (S := Finset.univ) eight (by decide) (by decide) _).symm).trans ?_
  exact anyOf_of_rects (Dev.tc (0 : Fin 8) : Thread nD τ) vstM colR (fun _ _ => rfl) colR_disj colR_cov

/-- What device `c` brings to this phase: its dues, the places it writes and the right to, the places and credits of its
    own waits. -/
def kvIn (c : Fin 8) (l : List Due) : sProp 𝕄 :=
  iprop(dues c (kvL c ++ l) ∗ bigSepL (kvD c) (fun p => place p.1 p.2) ∗ bigSepL (kvD c) (fun p => tok p.1 (some p.2) (0 : Fin 8))
    ∗ bigSepL (kvS c) (fun k => tok c (some k) (0 : Fin 8)) ∗ bigSepL (spreadW c) (fun k => pos c (some k)) ∗ bigSepL (relayW c) (fun k => crd c k))
/-- What it takes on: its waits done, the credits of those at the end. -/
def kvMid (c : Fin 8) (l : List Due) : sProp 𝕄 :=
  iprop(dues c l ∗ bigSepL (spreadW c) (fun k => zero c (some k)) ∗ bigSepL (drainW c) (fun k => crd c k))

/-- Device 0 holds, meanwhile, the columns it does not lend. -/
def cols0 : sProp 𝕄 :=
  iprop(owns (Dev.tc (0 : Fin 8)) (kcolM 0) fullShare (D.kcol 0) ∗ owns (Dev.tc (0 : Fin 8)) (kcolM 5) fullShare (D.kcol 5)
    ∗ owns (Dev.tc (0 : Fin 8)) (kcolM 6) fullShare (D.kcol 6)
    ∗ owns (Dev.tc (0 : Fin 8)) (vcolM 0) fullShare (D.vcol 0) ∗ owns (Dev.tc (0 : Fin 8)) (vcolM 5) fullShare (D.vcol 5)
    ∗ owns (Dev.tc (0 : Fin 8)) (vcolM 6) fullShare (D.vcol 6) ∗ owns (Dev.tc (0 : Fin 8)) (vcolM 7) fullShare (D.vcol 7))

/-! ## Device 0 -/

set_option maxHeartbeats 4000000 in
theorem spread0_rule (hk : D.kst = k0_pay1 (D.kin (0 : Fin 8))) (hv : D.vst = k0_pay2 (D.vin (0 : Fin 8)))
    (l : List Due) (hl : ∀ p ∈ l, 0 < lvU p.2) {Q : PUnit → sProp 𝕄} :
    env D K ⊢ iprop((owns (Dev.tc (0 : Fin 8)) kinM fullShare (D.kin (0 : Fin 8)) ∗ owns (Dev.tc (0 : Fin 8)) vinM fullShare (D.vin (0 : Fin 8))
        ∗ anyOf (Dev.tc (0 : Fin 8)) kfM ∗ anyOf (Dev.tc (0 : Fin 8)) vfM ∗ anyOf (Dev.tc (0 : Fin 8)) kstM ∗ anyOf (Dev.tc (0 : Fin 8)) vstM
        ∗ anyOf (Dev.tc (0 : Fin 8)) kbM ∗ anyOf (Dev.tc (0 : Fin 8)) vbM ∗ kvIn (0 : Fin 8) l)
      -∗ ((owns (Dev.tc (0 : Fin 8)) kinM fullShare (D.kin (0 : Fin 8)) ∗ owns (Dev.tc (0 : Fin 8)) vinM fullShare (D.vin (0 : Fin 8))
        ∗ anyOf (Dev.tc (0 : Fin 8)) kfM ∗ anyOf (Dev.tc (0 : Fin 8)) vfM ∗ cols0 D
        ∗ owns (Dev.tc (0 : Fin 8)) kbM fullShare (D.kcol 0) ∗ owns (Dev.tc (0 : Fin 8)) vbM fullShare (D.vcol 0) ∗ kvMid (0 : Fin 8) l) -∗ Q ⟨⟩)
      -∗ run (0 : Fin 8) spread0 Q) := by
  unfold kvIn kvMid cols0 kvL
  rw [show kvD (0 : Fin 8) = [(4, .relay 0), (4, .relay 1), (4, .relay 2), (3, .relay 0), (3, .relay 1), (2, .krecv), (2, .vrecv), (1, .krecv), (1, .vrecv),
      (4, .krecv), (4, .vrecv), (3, .krecv), (3, .vrecv), (7, .krecv)] from rfl,
    show kvS (0 : Fin 8) = [.copy 0, .copy 1, .ksend 5, .vsend 5, .vsend 7, .ksend 6, .vsend 6, .ksend 2, .vsend 2, .ksend 1, .vsend 1, .ksend 4, .vsend 4,
      .ksend 3, .vsend 3, .ksend 7] from rfl,
    show spreadW (0 : Fin 8) = [.copy 0, .copy 1, .ksend 5, .vsend 5, .vsend 7, .ksend 6, .vsend 6] from rfl,
    show drainW (0 : Fin 8) = [.ksend 1, .vsend 1, .ksend 2, .vsend 2, .ksend 3, .vsend 3, .ksend 4, .vsend 4, .ksend 7] from rfl]
  simp only [sepL_two, bigSepL_singleton, List.map_cons, List.map_nil, List.cons_append, List.nil_append]
  unfold spread0
  iintro #He ⟨Hki, Hvi, Hkf, Hvf, Hks, Hvs, Hkb, Hvb, Ho, ⟨p1, p2, p3, p4, p5, p6, p7, p8, p9, p10, p11, p12, p13, p14⟩,
    ⟨t1, t2, t3, t4, t5, t6, t7, t8, t9, t10, t11, t12, t13, t14⟩,
    ⟨sc0, sc1, sk5, sv5, sv7, sk6, sv6, sk2, sv2, sk1, sv1, sk4, sv4, sk3, sv3, sk7⟩, ⟨zc0, zc1, zk5, zv5, zv7, zk6, zv6⟩, -⟩ Hk
  iapply run_seq; iapply (copyK_rule D K) $$ He Hki Hkf sc0
  iintro cc0
  iapply run_seq; iapply (copyV_rule D K) $$ He Hvi Hvf sc1
  iintro cc1
  have hpos : ∀ p ∈ ([(4, some (.relay 0)), (4, some (.relay 1)), (4, some (.relay 2)), (3, some (.relay 0)), (3, some (.relay 1)),
      (2, some .krecv), (2, some .vrecv), (1, some .krecv), (1, some .vrecv), (4, some .krecv), (4, some .vrecv),
      (3, some .krecv), (3, some .vrecv), (7, some .krecv)] : List Due) ++ l, 0 < lvU p.2 := fun p hp => (List.mem_append.mp hp).elim
        ((by decide +kernel : ∀ p ∈ ([(4, some (.relay 0)), (4, some (.relay 1)), (4, some (.relay 2)), (3, some (.relay 0)), (3, some (.relay 1)),
      (2, some .krecv), (2, some .vrecv), (1, some .krecv), (1, some .vrecv), (4, some .krecv), (4, some .vrecv),
      (3, some .krecv), (3, some .vrecv), (7, some .krecv)] : List Due), 0 < lvU p.2) p) (hl p)
  have h5 : ∀ p ∈ ([(4, some .krecv), (4, some .vrecv), (3, some .krecv), (3, some .vrecv), (7, some .krecv)] : List Due) ++ l, 0 < lvU p.2 :=
    fun p hp => hpos p (List.mem_of_mem_drop (i := 9) hp)
  have h3 : ∀ p ∈ ([(3, some .krecv), (3, some .vrecv), (7, some .krecv)] : List Due) ++ l, 0 < lvU p.2 :=
    fun p hp => hpos p (List.mem_of_mem_drop (i := 11) hp)
  simp only [List.cons_append, List.nil_append] at hpos h5 h3
  iapply run_seq; iapply (copyKWait_rule D K _ hpos _) $$ He Ho cc0 zc0
  iintro ⟨Ho, zc0, Hc⟩
  icases (show pay D (0 : Fin 8) (.copy 0) ⊢ iprop(owns (Dev.tc (0 : Fin 8)) kfM fullShare (D.kin (0 : Fin 8)) ∗ owns (Dev.tc (0 : Fin 8)) kinM fullShare (D.kin (0 : Fin 8))) from .rfl) $$ Hc with ⟨Hkf, Hki⟩
  iapply run_seq; iapply (copyVWait_rule D K _ hpos _) $$ He Ho cc1 zc1
  iintro ⟨Ho, zc1, Hc⟩
  icases (show pay D (0 : Fin 8) (.copy 1) ⊢ iprop(owns (Dev.tc (0 : Fin 8)) vfM fullShare (D.vin (0 : Fin 8)) ∗ owns (Dev.tc (0 : Fin 8)) vinM fullShare (D.vin (0 : Fin 8))) from .rfl) $$ Hc with ⟨Hvf, Hvi⟩
  iapply run_seq; iapply (stageK_rule _) $$ Hkf Hks
  iintro ⟨Hkf, Hks⟩
  iapply run_seq; iapply (stageV_rule _) $$ Hvf Hvs
  iintro ⟨Hvf, Hvs⟩
  rw [← hk, ← hv]
  icases (show (owns (Dev.tc (0 : Fin 8)) kstM fullShare D.kst : sProp 𝕄) ⊢ iprop(owns (Dev.tc (0 : Fin 8)) (kcolM 0) fullShare (D.kcol 0)
      ∗ owns (Dev.tc (0 : Fin 8)) (kcolM 1) fullShare (D.kcol 1) ∗ owns (Dev.tc (0 : Fin 8)) (kcolM 2) fullShare (D.kcol 2)
      ∗ owns (Dev.tc (0 : Fin 8)) (kcolM 3) fullShare (D.kcol 3) ∗ owns (Dev.tc (0 : Fin 8)) (kcolM 4) fullShare (D.kcol 4)
      ∗ owns (Dev.tc (0 : Fin 8)) (kcolM 5) fullShare (D.kcol 5) ∗ owns (Dev.tc (0 : Fin 8)) (kcolM 6) fullShare (D.kcol 6)
      ∗ owns (Dev.tc (0 : Fin 8)) (kcolM 7) fullShare (D.kcol 7)) from kcols D.kst) $$ Hks with ⟨k0, k1, k2, k3, k4, k5, k6, k7⟩
  icases (show (owns (Dev.tc (0 : Fin 8)) vstM fullShare D.vst : sProp 𝕄) ⊢ iprop(owns (Dev.tc (0 : Fin 8)) (vcolM 0) fullShare (D.vcol 0)
      ∗ owns (Dev.tc (0 : Fin 8)) (vcolM 1) fullShare (D.vcol 1) ∗ owns (Dev.tc (0 : Fin 8)) (vcolM 2) fullShare (D.vcol 2)
      ∗ owns (Dev.tc (0 : Fin 8)) (vcolM 3) fullShare (D.vcol 3) ∗ owns (Dev.tc (0 : Fin 8)) (vcolM 4) fullShare (D.vcol 4)
      ∗ owns (Dev.tc (0 : Fin 8)) (vcolM 5) fullShare (D.vcol 5) ∗ owns (Dev.tc (0 : Fin 8)) (vcolM 6) fullShare (D.vcol 6)
      ∗ owns (Dev.tc (0 : Fin 8)) (vcolM 7) fullShare (D.vcol 7)) from vcols D.vst) $$ Hvs with ⟨v0, v1, v2, v3, v4, v5, v6, v7⟩
  iapply run_seq; iapply (kRelay_rule D K _ 5 4 0 rfl rfl rfl) $$ He Ho k5 p1 sk5 t1
  iintro ⟨Ho, ck5⟩
  iapply run_seq; iapply (vRelay_rule D K _ 5 4 1 rfl rfl rfl) $$ He Ho v5 p2 sv5 t2
  iintro ⟨Ho, cv5⟩
  iapply run_seq; iapply (vRelay_rule D K _ 7 4 2 rfl rfl rfl) $$ He Ho v7 p3 sv7 t3
  iintro ⟨Ho, cv7⟩
  iapply run_seq; iapply (kRelay_rule D K _ 6 3 0 rfl rfl rfl) $$ He Ho k6 p4 sk6 t4
  iintro ⟨Ho, ck6⟩
  iapply run_seq; iapply (vRelay_rule D K _ 6 3 1 rfl rfl rfl) $$ He Ho v6 p5 sv6 t5
  iintro ⟨Ho, cv6⟩
  iapply run_seq; iapply (kSend_rule D K _ 2 rfl rfl) $$ He Ho k2 p6 sk2 t6
  iintro ⟨Ho, ck2⟩
  iapply run_seq; iapply (vSend_rule D K _ 2 rfl rfl) $$ He Ho v2 p7 sv2 t7
  iintro ⟨Ho, cv2⟩
  iapply run_seq; iapply (kSend_rule D K _ 1 rfl rfl) $$ He Ho k1 p8 sk1 t8
  iintro ⟨Ho, ck1⟩
  iapply run_seq; iapply (vSend_rule D K _ 1 rfl rfl) $$ He Ho v1 p9 sv1 t9
  iintro ⟨Ho, cv1⟩
  iapply run_seq; iapply (kRelayed_rule D K 5 0 rfl _ h5 _) $$ He Ho ck5 zk5
  iintro ⟨Ho, zk5, k5⟩
  iapply run_seq; iapply (vRelayed_rule D K 5 1 rfl _ h5 _) $$ He Ho cv5 zv5
  iintro ⟨Ho, zv5, v5⟩
  iapply run_seq; iapply (vRelayed_rule D K 7 2 rfl _ h5 _) $$ He Ho cv7 zv7
  iintro ⟨Ho, zv7, v7⟩
  iapply run_seq; iapply (kSend_rule D K _ 4 rfl rfl) $$ He Ho k4 p10 sk4 t10
  iintro ⟨Ho, ck4⟩
  iapply run_seq; iapply (vSend_rule D K _ 4 rfl rfl) $$ He Ho v4 p11 sv4 t11
  iintro ⟨Ho, cv4⟩
  iapply run_seq; iapply (kRelayed_rule D K 6 0 rfl _ h3 _) $$ He Ho ck6 zk6
  iintro ⟨Ho, zk6, k6⟩
  iapply run_seq; iapply (vRelayed_rule D K 6 1 rfl _ h3 _) $$ He Ho cv6 zv6
  iintro ⟨Ho, zv6, v6⟩
  iapply run_seq; iapply (kSend_rule D K _ 3 rfl rfl) $$ He Ho k3 p12 sk3 t12
  iintro ⟨Ho, ck3⟩
  iapply run_seq; iapply (vSend_rule D K _ 3 rfl rfl) $$ He Ho v3 p13 sv3 t13
  iintro ⟨Ho, cv3⟩
  iapply run_seq; iapply (kSend_rule D K _ 7 rfl rfl) $$ He Ho k7 p14 sk7 t14
  iintro ⟨Ho, ck7⟩
  iapply run_seq; iapply (keepK_rule _) $$ k0 Hkb
  iintro ⟨k0, Hkb⟩
  iapply (keepV_rule _) $$ v0 Hvb
  iintro ⟨v0, Hvb⟩
  iapply Hk
  iframe
  isplitl [Hkf]; · iapply (anyOf_intro _ _ _); iexact Hkf
  isplitl [Hvf]; · iapply (anyOf_intro _ _ _); iexact Hvf
  isplitl [k5]; · iapply (pay_ksend D (0 : Fin 8) 5); iexact k5
  isplitl [k6]; · iapply (pay_ksend D (0 : Fin 8) 6); iexact k6
  isplitl [v5]; · iapply (pay_vsend D (0 : Fin 8) 5); iexact v5
  isplitl [v6]; · iapply (pay_vsend D (0 : Fin 8) 6); iexact v6
  iapply (pay_vsend D (0 : Fin 8) 7); iexact v7

/-! ## The relaying devices, and all -/

/-- The K and V buffers of device `c` at the start: its arrays, their copies, the staged ones, and the places it keeps; -/
def kvMem (c : Fin 8) : sProp 𝕄 :=
  iprop(owns (Dev.tc c) kinM fullShare (D.kin c) ∗ owns (Dev.tc c) vinM fullShare (D.vin c) ∗ anyOf (Dev.tc c) kfM ∗ anyOf (Dev.tc c) vfM
    ∗ anyOf (Dev.tc c) kstM ∗ anyOf (Dev.tc c) vstM ∗ bigSepL (keptL c) (place c))
/-- once its own slices are taken out: what it holds; -/
def kvRest (c : Fin 8) : sProp 𝕄 :=
  iprop(owns (Dev.tc c) kinM fullShare (D.kin c) ∗ owns (Dev.tc c) vinM fullShare (D.vin c) ∗ anyOf (Dev.tc c) kfM ∗ anyOf (Dev.tc c) vfM
    ∗ if c = 0 then iprop(cols0 D ∗ bigSepL [.relay 0, .relay 1, .relay 2] (place c))
      else iprop(anyOf (Dev.tc c) kstM ∗ anyOf (Dev.tc c) vstM ∗ bigSepL (keptL c) (place c)))
/-- and device 0 has them at once; -/
def kvHold (c : Fin 8) : sProp 𝕄 :=
  iprop(kvRest D c ∗ if c = 0 then iprop(owns (Dev.tc c) kbM fullShare (D.kcol c) ∗ owns (Dev.tc c) vbM fullShare (D.vcol c)) else iprop(emp))
/-- and at the end. -/
def kvEnd (c : Fin 8) : sProp 𝕄 :=
  iprop(owns (Dev.tc c) kinM fullShare (D.kin c) ∗ owns (Dev.tc c) vinM fullShare (D.vin c) ∗ anyOf (Dev.tc c) kfM ∗ anyOf (Dev.tc c) vfM
    ∗ anyOf (Dev.tc c) kstM ∗ anyOf (Dev.tc c) vstM ∗ anyOf (Dev.tc c) kbM ∗ anyOf (Dev.tc c) vbM
    ∗ bigSepL [.relay 0, .relay 1, .relay 2] (place c))

theorem lists_other : ∀ c : Fin 8, c ≠ 0 → c ≠ 4 → c ≠ 3 → kvD c = [] ∧ kvS c = [] ∧ spreadW c = [] ∧ relayW c = [] ∧ drainW c = []
    ∧ keptL c = [.relay 0, .relay 1, .relay 2] := by decide
theorem lists_slice : ∀ c : Fin 8, c ≠ 0 → sliceW c = [.krecv, .vrecv] ∧ live c .krecv = true ∧ live c .vrecv = true := by decide

theorem spread4_rule (l : List Due) (hl : ∀ p ∈ l, 2 < lvU p.2) {Q : PUnit → sProp 𝕄} :
    env D K ⊢ iprop(kvIn (4 : Fin 8) l -∗ (kvMid (4 : Fin 8) l -∗ Q ⟨⟩) -∗ run (4 : Fin 8) spread4 Q) := by
  unfold kvIn kvMid kvL
  rw [show kvD (4 : Fin 8) = [(5, .krecv), (5, .vrecv), (7, .vrecv)] from rfl, show kvS (4 : Fin 8) = [.fwd 0, .fwd 1, .fwd 2] from rfl,
    show spreadW (4 : Fin 8) = [.relay 0, .relay 1, .relay 2] from rfl, show relayW (4 : Fin 8) = [.relay 0, .relay 1, .relay 2] from rfl,
    show drainW (4 : Fin 8) = [.fwd 0, .fwd 1, .fwd 2] from rfl]
  simp only [sepL_two, bigSepL_singleton, List.map_cons, List.map_nil, List.cons_append, List.nil_append]
  unfold spread4
  have h1 : ∀ p ∈ ((7, some .vrecv) :: l : List Due), 2 < lvU p.2 := List.forall_mem_cons.mpr ⟨by decide, hl⟩
  have h2 : ∀ p ∈ ((5, some .vrecv) :: (7, some .vrecv) :: l : List Due), 2 < lvU p.2 := List.forall_mem_cons.mpr ⟨by decide, h1⟩
  have h3 : ∀ p ∈ ((5, some .krecv) :: (5, some .vrecv) :: (7, some .vrecv) :: l : List Due), 2 < lvU p.2 := List.forall_mem_cons.mpr ⟨by decide, h2⟩
  iintro #He ⟨Ho, ⟨p1, p2, p3⟩, ⟨t1, t2, t3⟩, ⟨s0, s1, s2⟩, ⟨z0, z1, z2⟩, c0, c1, c2⟩ Hk
  iapply run_seq; iapply (relayWait_rule D K 4 0 rfl _ h3 _) $$ He Ho c0 z0
  iintro ⟨Ho, z0, r0⟩
  iapply run_seq; iapply (fwdK_rule D K _ 4 5 rfl rfl rfl) $$ He Ho r0 p1 s0 t1
  iintro ⟨Ho, f0⟩
  iapply run_seq; iapply (relayWait_rule D K 4 1 rfl _ h2 _) $$ He Ho c1 z1
  iintro ⟨Ho, z1, r1⟩
  iapply run_seq; iapply (fwdV_rule D K _ 4 5 1 rfl rfl rfl) $$ He Ho r1 p2 s1 t2
  iintro ⟨Ho, f1⟩
  iapply run_seq; iapply (relayWait_rule D K 4 2 rfl _ h1 _) $$ He Ho c2 z2
  iintro ⟨Ho, z2, r2⟩
  iapply (fwdV_rule D K _ 4 7 2 rfl rfl rfl) $$ He Ho r2 p3 s2 t3
  iintro ⟨Ho, f2⟩
  iapply Hk
  iframe

theorem spread3_rule (l : List Due) (hl : ∀ p ∈ l, 2 < lvU p.2) {Q : PUnit → sProp 𝕄} :
    env D K ⊢ iprop(kvIn (3 : Fin 8) l -∗ (kvMid (3 : Fin 8) l -∗ Q ⟨⟩) -∗ run (3 : Fin 8) spread3 Q) := by
  unfold kvIn kvMid kvL
  rw [show kvD (3 : Fin 8) = [(6, .krecv), (6, .vrecv)] from rfl, show kvS (3 : Fin 8) = [.fwd 0, .fwd 1] from rfl,
    show spreadW (3 : Fin 8) = [.relay 0, .relay 1] from rfl, show relayW (3 : Fin 8) = [.relay 0, .relay 1] from rfl,
    show drainW (3 : Fin 8) = [.fwd 0, .fwd 1] from rfl]
  simp only [sepL_two, bigSepL_singleton, List.map_cons, List.map_nil, List.cons_append, List.nil_append]
  unfold spread3
  have h1 : ∀ p ∈ ((6, some .vrecv) :: l : List Due), 2 < lvU p.2 := List.forall_mem_cons.mpr ⟨by decide, hl⟩
  have h2 : ∀ p ∈ ((6, some .krecv) :: (6, some .vrecv) :: l : List Due), 2 < lvU p.2 := List.forall_mem_cons.mpr ⟨by decide, h1⟩
  iintro #He ⟨Ho, ⟨p1, p2⟩, ⟨t1, t2⟩, ⟨s0, s1⟩, ⟨z0, z1⟩, c0, c1⟩ Hk
  iapply run_seq; iapply (relayWait_rule D K 3 0 rfl _ h2 _) $$ He Ho c0 z0
  iintro ⟨Ho, z0, r0⟩
  iapply run_seq; iapply (fwdK_rule D K _ 3 6 rfl rfl rfl) $$ He Ho r0 p1 s0 t1
  iintro ⟨Ho, f0⟩
  iapply run_seq; iapply (relayWait_rule D K 3 1 rfl _ h1 _) $$ He Ho c1 z1
  iintro ⟨Ho, z1, r1⟩
  iapply (fwdV_rule D K _ 3 6 1 rfl rfl rfl) $$ He Ho r1 p2 s1 t2
  iintro ⟨Ho, f1⟩
  iapply Hk
  iframe

theorem spread_rule (hk : D.kst = k0_pay1 (D.kin (0 : Fin 8))) (hv : D.vst = k0_pay2 (D.vin (0 : Fin 8)))
    (c : Fin 8) (l : List Due) (hl : ∀ p ∈ l, 2 < lvU p.2) {Q : PUnit → sProp 𝕄} :
    env D K ⊢ iprop(kvMem D c -∗ kvIn c l -∗ ((kvHold D c ∗ kvMid c l) -∗ Q ⟨⟩) -∗ run c (byDev c spread0 spread4 spread3) Q) := by
  unfold kvMem kvHold kvRest byDev
  have hl0 : ∀ p ∈ l, 0 < lvU p.2 := fun p hp => lt_trans (by decide) (hl p hp)
  by_cases h0 : c = 0
  · subst h0
    rw [if_pos rfl, if_pos rfl, if_pos rfl, show keptL (0 : Fin 8) = [.krecv, .vrecv, .relay 0, .relay 1, .relay 2] from rfl, sepL_two, sepL_two]
    iintro #He ⟨Hki, Hvi, Hkf, Hvf, Hks, Hvs, Hkb, Hvb, Hrb⟩ Hin Hk
    iapply (spread0_rule D K hk hv l hl0) $$ He [Hki Hvi Hkf Hvf Hks Hvs Hkb Hvb Hin]
    · iframe
      isplitl [Hkb]; · iapply (show place (0 : Fin 8) .krecv ⊢ (anyOf (Dev.tc (0 : Fin 8)) kbM : sProp 𝕄) from .rfl); iexact Hkb
      iapply (show place (0 : Fin 8) .vrecv ⊢ (anyOf (Dev.tc (0 : Fin 8)) vbM : sProp 𝕄) from .rfl); iexact Hvb
    iintro ⟨Hki, Hvi, Hkf, Hvf, Hc, Hkb, Hvb, Hm⟩
    iapply Hk
    iframe
  rw [if_neg h0, if_neg h0, if_neg h0]
  by_cases h4 : c = 4
  · subst h4
    rw [if_pos rfl]
    iintro #He ⟨Hki, Hvi, Hkf, Hvf, Hks, Hvs, Hkp⟩ Hin Hk
    iapply (spread4_rule D K l hl) $$ He Hin
    iintro Hm
    iapply Hk
    iframe
  rw [if_neg h4]
  by_cases h3 : c = 3
  · subst h3
    rw [if_pos rfl]
    iintro #He ⟨Hki, Hvi, Hkf, Hvf, Hks, Hvs, Hkp⟩ Hin Hk
    iapply (spread3_rule D K l hl) $$ He Hin
    iintro Hm
    iapply Hk
    iframe
  rw [if_neg h3]
  obtain ⟨e1, e2, e3, e4, e5, -⟩ := lists_other c h0 h4 h3
  unfold kvIn kvMid kvL
  rw [e1, e2, e3, e4, e5]
  iintro #He ⟨Hki, Hvi, Hkf, Hvf, Hks, Hvs, Hkp⟩ ⟨Ho, -, -, -, Hz, Hc⟩ Hk
  iapply run_pure
  iapply Hk
  isplitl [Hki Hvi Hkf Hvf Hks Hvs Hkp]
  · iframe
  isplitl [Ho]; · iexact Ho
  isplitl [Hz]; · iexact Hz
  iexact Hc

/-- All have their own slices. -/
theorem slice_rule (c : Fin 8) (l : List Due) (hl : ∀ p ∈ l, 3 < lvU p.2) {Q : PUnit → sProp 𝕄} :
    env D K ⊢ iprop(kvHold D c -∗ dues c l -∗ bigSepL (sliceW c) (fun k => crd c k) -∗ bigSepL (sliceW c) (fun k => pos c (some k))
      -∗ ((kvRest D c ∗ owns (Dev.tc c) kbM fullShare (D.kcol c) ∗ owns (Dev.tc c) vbM fullShare (D.vcol c) ∗ dues c l
          ∗ bigSepL (sliceW c) (fun k => zero c (some k))) -∗ Q ⟨⟩)
      -∗ run c (oth (fun _ => sliceWait) c 0) Q) := by
  unfold kvHold oth
  by_cases h0 : c = 0
  · subst h0
    rw [if_pos rfl, if_neg fun h => h rfl]
    iintro #He ⟨Hr, Hkb, Hvb⟩ Ho Hc Hp Hk
    iapply run_pure
    iapply Hk
    isplitl [Hr]; · iexact Hr
    isplitl [Hkb]; · iexact Hkb
    isplitl [Hvb]; · iexact Hvb
    isplitl [Ho]; · iexact Ho
    iexact Hp
  · obtain ⟨e, hk, hv⟩ := lists_slice c h0
    rw [if_neg h0, if_pos h0, e]
    simp only [sepL_two, bigSepL_singleton]
    iintro #He ⟨Hr, -⟩ Ho ⟨c1, c2⟩ ⟨p1, p2⟩ Hk
    iapply (sliceWait_rule D K c hk hv l hl) $$ He Ho c1 c2 p1 p2
    iintro ⟨Ho, z1, z2, Hkb, Hvb⟩
    iapply Hk
    iframe

/-! ## The waits at the end -/

theorem drain0_rule {Q : PUnit → sProp 𝕄} :
    env D K ⊢ iprop(cols0 D -∗ dues (0 : Fin 8) [] -∗ bigSepL (drainW (0 : Fin 8)) (fun k => crd (0 : Fin 8) k) -∗ bigSepL (drainW (0 : Fin 8)) (fun k => pos (0 : Fin 8) (some k))
      -∗ ((anyOf (Dev.tc (0 : Fin 8)) kstM ∗ anyOf (Dev.tc (0 : Fin 8)) vstM ∗ dues (0 : Fin 8) [] ∗ bigSepL (drainW (0 : Fin 8)) (fun k => zero (0 : Fin 8) (some k))) -∗ Q ⟨⟩)
      -∗ run (0 : Fin 8) drain0 Q) := by
  unfold cols0 drain0
  rw [show drainW (0 : Fin 8) = [.ksend 1, .vsend 1, .ksend 2, .vsend 2, .ksend 3, .vsend 3, .ksend 4, .vsend 4, .ksend 7] from rfl]
  simp only [sepL_two, bigSepL_singleton]
  have h0 : ∀ p ∈ ([] : List Due), 0 < lvU p.2 := fun p hp => absurd hp (List.not_mem_nil)
  iintro #He ⟨k0, k5, k6, v0, v5, v6, v7⟩ Ho ⟨ck1, cv1, ck2, cv2, ck3, cv3, ck4, cv4, ck7⟩ ⟨zk1, zv1, zk2, zv2, zk3, zv3, zk4, zv4, zk7⟩ Hk
  iapply run_seq; iapply (kDrain_rule D K 1 rfl _ h0 _) $$ He Ho ck1 zk1
  iintro ⟨Ho, zk1, k1⟩
  iapply run_seq; iapply (vDrain_rule D K 1 rfl _ h0 _) $$ He Ho cv1 zv1
  iintro ⟨Ho, zv1, v1⟩
  iapply run_seq; iapply (kDrain_rule D K 2 rfl _ h0 _) $$ He Ho ck2 zk2
  iintro ⟨Ho, zk2, k2⟩
  iapply run_seq; iapply (vDrain_rule D K 2 rfl _ h0 _) $$ He Ho cv2 zv2
  iintro ⟨Ho, zv2, v2⟩
  iapply run_seq; iapply (kDrain_rule D K 3 rfl _ h0 _) $$ He Ho ck3 zk3
  iintro ⟨Ho, zk3, k3⟩
  iapply run_seq; iapply (vDrain_rule D K 3 rfl _ h0 _) $$ He Ho cv3 zv3
  iintro ⟨Ho, zv3, v3⟩
  iapply run_seq; iapply (kDrain_rule D K 4 rfl _ h0 _) $$ He Ho ck4 zk4
  iintro ⟨Ho, zk4, k4⟩
  iapply run_seq; iapply (vDrain_rule D K 4 rfl _ h0 _) $$ He Ho cv4 zv4
  iintro ⟨Ho, zv4, v4⟩
  iapply (kDrain_rule D K 7 rfl _ h0 _) $$ He Ho ck7 zk7
  iintro ⟨Ho, zk7, k7⟩
  iapply Hk
  isplitl [k0 k1 k2 k3 k4 k5 k6 k7]
  · iapply (kcols_back D.kcol)
    simp only [sepL_two, bigSepL_singleton]
    isplitl [k0]; · iexact k0
    isplitl [k1]; · iapply (pay_ksend D (0 : Fin 8) 1); iexact k1
    isplitl [k2]; · iapply (pay_ksend D (0 : Fin 8) 2); iexact k2
    isplitl [k3]; · iapply (pay_ksend D (0 : Fin 8) 3); iexact k3
    isplitl [k4]; · iapply (pay_ksend D (0 : Fin 8) 4); iexact k4
    isplitl [k5]; · iexact k5
    isplitl [k6]; · iexact k6
    iapply (pay_ksend D (0 : Fin 8) 7); iexact k7
  isplitl [v0 v1 v2 v3 v4 v5 v6 v7]
  · iapply (vcols_back D.vcol)
    simp only [sepL_two, bigSepL_singleton]
    isplitl [v0]; · iexact v0
    isplitl [v1]; · iapply (pay_vsend D (0 : Fin 8) 1); iexact v1
    isplitl [v2]; · iapply (pay_vsend D (0 : Fin 8) 2); iexact v2
    isplitl [v3]; · iapply (pay_vsend D (0 : Fin 8) 3); iexact v3
    isplitl [v4]; · iapply (pay_vsend D (0 : Fin 8) 4); iexact v4
    isplitl [v5]; · iexact v5
    isplitl [v6]; · iexact v6
    iexact v7
  iframe

theorem drain_rule (c : Fin 8) {Q : PUnit → sProp 𝕄} :
    env D K ⊢ iprop((kvRest D c ∗ anyOf (Dev.tc c) kbM ∗ anyOf (Dev.tc c) vbM) -∗ dues c [] -∗ bigSepL (drainW c) (fun k => crd c k) -∗ bigSepL (drainW c) (fun k => pos c (some k))
      -∗ ((kvEnd D c ∗ dues c [] ∗ bigSepL (drainW c) (fun k => zero c (some k))) -∗ Q ⟨⟩)
      -∗ run c (byDev c drain0 drain4 drain3) Q) := by
  unfold kvRest kvEnd byDev
  have hn : ∀ p ∈ ([] : List Due), 0 < lvU p.2 := fun p hp => absurd hp (List.not_mem_nil)
  by_cases h0 : c = 0
  · subst h0
    rw [if_pos rfl, if_pos rfl]
    iintro #He ⟨⟨Hki, Hvi, Hkf, Hvf, Hc, Hrb⟩, Hkb, Hvb⟩ Ho Hcr Hps Hk
    iapply (drain0_rule D K) $$ He Hc Ho Hcr Hps
    iintro ⟨Hks, Hvs, Ho, Hz⟩
    iapply Hk
    iframe
  rw [if_neg h0, if_neg h0]
  by_cases h4 : c = 4
  · subst h4
    rw [if_pos rfl, show drainW (4 : Fin 8) = [.fwd 0, .fwd 1, .fwd 2] from rfl]
    simp only [sepL_two, bigSepL_singleton]
    unfold drain4
    iintro #He ⟨⟨Hki, Hvi, Hkf, Hvf, Hks, Hvs, -⟩, Hkb, Hvb⟩ Ho ⟨c0, c1, c2⟩ ⟨z0, z1, z2⟩ Hk
    iapply run_seq; iapply (fDrainK_rule D K 4 rfl _ hn _) $$ He Ho c0 z0
    iintro ⟨Ho, z0, f0⟩
    iapply run_seq; iapply (fDrainV_rule D K 4 1 rfl _ hn _) $$ He Ho c1 z1
    iintro ⟨Ho, z1, f1⟩
    iapply (fDrainV_rule D K 4 2 rfl _ hn _) $$ He Ho c2 z2
    iintro ⟨Ho, z2, f2⟩
    iapply Hk
    iframe
    isplitl [f0]; · iapply (pay_fwd D (4 : Fin 8) 0); iexact f0
    isplitl [f1]; · iapply (pay_fwd D (4 : Fin 8) 1); iexact f1
    iapply (pay_fwd D (4 : Fin 8) 2); iexact f2
  rw [if_neg h4]
  by_cases h3 : c = 3
  · subst h3
    rw [if_pos rfl, show drainW (3 : Fin 8) = [.fwd 0, .fwd 1] from rfl, show keptL (3 : Fin 8) = [.relay 2] from rfl]
    simp only [sepL_two, bigSepL_singleton]
    unfold drain3
    iintro #He ⟨⟨Hki, Hvi, Hkf, Hvf, Hks, Hvs, Hrb⟩, Hkb, Hvb⟩ Ho ⟨c0, c1⟩ ⟨z0, z1⟩ Hk
    iapply run_seq; iapply (fDrainK_rule D K 3 rfl _ hn _) $$ He Ho c0 z0
    iintro ⟨Ho, z0, f0⟩
    iapply (fDrainV_rule D K 3 1 rfl _ hn _) $$ He Ho c1 z1
    iintro ⟨Ho, z1, f1⟩
    iapply Hk
    iframe
    isplitl [f0]; · iapply (pay_fwd D (3 : Fin 8) 0); iexact f0
    iapply (pay_fwd D (3 : Fin 8) 1); iexact f1
  rw [if_neg h3]
  obtain ⟨-, -, -, -, e5, e6⟩ := lists_other c h0 h4 h3
  rw [e5, e6]
  iintro #He ⟨⟨Hki, Hvi, Hkf, Hvf, Hks, Hvs, Hrb⟩, Hkb, Hvb⟩ Ho Hc Hp Hk
  iapply run_pure
  iapply Hk
  isplitl [Hki Hvi Hkf Hvf Hks Hvs Hkb Hvb Hrb]
  · iframe
  isplitl [Ho]; · iexact Ho
  iexact Hp

end Cert.KernelIdeal.Pf

end
-- ==== Proof.Ideal.Exchange.lean ====
/-
# 01_k — the partial product and the two exchanges

What each device computes, and the rules of the phases that compute and exchange it.
-/
module

public import proofs.«01_k».proof.Proof.Ideal.Spread

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (K : Dev nD × Option Use → ℕ)

/-! ## What is computed -/

/-- A device's partial product, batch by batch; -/
def halves (wq : Vec F S512x256 .f32) (x : Vec F S2x256x512 .f32) (wo : Vec F S256x512 .f32) (k v : Vec F S2x256x256 .bf16) :
    (b : Fin 2) → (halfR b).shape.Idx → Elt F .bf16 := fun b => match b with
  | 0 => half0 wq (fun j => x ((halfR 0).emb j)) wo (fun j => k ((kbR 0).emb j)) (fun j => v ((kbR 0).emb j))
  | 1 => half1 wq (fun j => x ((halfR 1).emb j)) wo (fun j => k ((kbR 1).emb j)) (fun j => v ((kbR 1).emb j))
def partOf (wq : Vec F S512x256 .f32) (x : Vec F S2x256x512 .f32) (wo : Vec F S256x512 .f32) (k v : Vec F S2x256x256 .bf16) : S2x256x512.Idx → Elt F .bf16 :=
  Rect.glue halfR halfR_cov (halves wq x wo k v)
/-- the rows device `c` reduces; -/
def rows (c : Fin 8) : Fin 8 → Vec F S1x2x32x512 .bf16 := fun s => k0_pay3 (D.prow s c)
/-- and the result, its own rows kept in single precision. -/
def outRows (c s : Fin 8) : (rowR s).shape.Idx → Elt F .f32 :=
  if s = c then sum8 (rows D c) else k0_pay42 (k0_pay3 (D.red s))
def outOf (c : Fin 8) : S2x256x512.Idx → Elt F .f32 := Rect.glue rowR rowR_cov (outRows D c)

/-! ## Families of slices -/

theorem sepL_sep (c : Fin 8) (A B : Fin 8 → sProp 𝕄) :
    bigSepL (others c) (fun i => iprop(A i ∗ B i)) = iprop(bigSepL (others c) A ∗ bigSepL (others c) B) := by
  rw [← others_sep, ← others_sep, ← others_sep]; exact bigSep_sep' _ _ _

theorem owns_glue (c : Thread nD τ) {sp : Space} {sh : Shape} {e : EltTy} (m : Memref sig c.2.kind sp sh e) {T : Type} [Fintype T] [DecidableEq T]
    (r : T → Rect sh) (hr : ∀ t a, (r t).stride a = 1) (hd : ∀ t t', t ≠ t' → Disjoint (r t).set (r t').set)
    (hcov : (Finset.univ : Finset T).biUnion (fun t => (r t).set) = Finset.univ) (Z : (t : T) → (r t).shape.Idx → Elt F e) :
    (bigSep Finset.univ fun t => owns c (m.slice (r t) (hr t)) fullShare (Z t) : sProp 𝕄) ⊢ owns c m fullShare (Rect.glue r hcov Z) := by
  refine (Entails.of_eq (bigSep_congr fun t _ => ?_)).trans (owns_of_rects c m fullShare r hr hd hcov (Rect.glue r hcov Z))
  rw [show (fun j => Rect.glue r hcov Z ((r t).emb j)) = Z t from funext fun j => Rect.glue_emb r hcov hd Z t j]

theorem unsq_eq (X : S2x32x512.Idx → Elt F .bf16) :
    (fun y => X ((Shape.reshapeEquiv squeezes_S1x2x32x512_S2x32x512.numel_eq).symm y)) = k0_pay3 X := by
  unfold k0_pay3 shapeCast
  rw [Shape.reshapeEquiv_symm]

/-! ## The partial product -/

theorem partial_rule (c : Fin 8) (l : List Due) (hl : ∀ p ∈ l, 3 < lvU p.2) (x : Vec F S2x256x512 .f32) (wq : Vec F S512x256 .f32) (wo : Vec F S256x512 .f32)
    {Q : PUnit → sProp 𝕄} :
    env D K ⊢ iprop((owns (Dev.tc c) xM fullShare x ∗ owns (Dev.tc c) wqM fullShare wq ∗ owns (Dev.tc c) woM fullShare wo ∗ anyOf (Dev.tc c) partM)
      -∗ kvHold D c -∗ dues c l -∗ bigSepL (sliceW c) (fun k => crd c k) -∗ bigSepL (sliceW c) (fun k => pos c (some k))
      -∗ ((owns (Dev.tc c) xM fullShare x ∗ owns (Dev.tc c) wqM fullShare wq ∗ owns (Dev.tc c) woM fullShare wo
          ∗ owns (Dev.tc c) partM fullShare (partOf wq x wo (D.kcol c) (D.vcol c))
          ∗ kvRest D c ∗ owns (Dev.tc c) kbM fullShare (D.kcol c) ∗ owns (Dev.tc c) vbM fullShare (D.vcol c) ∗ dues c l
          ∗ bigSepL (sliceW c) (fun k => zero c (some k))) -∗ Q ⟨⟩)
      -∗ run c (partial_ c) Q) := by
  unfold partial_
  iintro #He ⟨Hx, Hwq, Hwo, Hp⟩ Hkv Ho Hc Hps Hk
  iapply run_seq; iapply (ld_whole c wq) $$ Hwq
  iintro Hwq
  iapply run_seq; iapply (ld_part c x) $$ Hx
  iintro Hx
  iapply run_seq; iapply (ld_part c x) $$ Hx
  iintro Hx
  iapply run_seq; iapply (slice_rule D K c l hl) $$ He Hkv Ho Hc Hps
  iintro ⟨Hr, Hkb, Hvb, Ho, Hz⟩
  iapply run_seq; iapply (ld_whole c wo) $$ Hwo
  iintro Hwo
  iapply run_seq; iapply (ld_part c (D.kcol c)) $$ Hkb
  iintro Hkb
  iapply run_seq; iapply (ld_part c (D.vcol c)) $$ Hvb
  iintro Hvb
  icases (show (anyOf (Dev.tc c) partM : sProp 𝕄) ⊢ iprop(anyOf (Dev.tc c) (partM.slice (halfR 0) fun _ => rfl) ∗ anyOf (Dev.tc c) (partM.slice (halfR 1) fun _ => rfl)) from
    (anyOf_rects (Dev.tc c : Thread nD τ) partM halfR (fun _ _ => rfl) halfR_disj halfR_cov).trans (Entails.of_eq (bigSep_fin_two _))) $$ Hp with ⟨Hp0, Hp1⟩
  iapply run_seq; iapply (ld_slice_any c fun _ => rfl) $$ Hp0
  iintro %w Hp0
  iapply run_seq; iapply (st_slice c fun _ => rfl) $$ Hp0
  iintro Hp0
  iapply run_seq; iapply (ld_part c (D.kcol c)) $$ Hkb
  iintro Hkb
  iapply run_seq; iapply (ld_part c (D.vcol c)) $$ Hvb
  iintro Hvb
  iapply run_seq; iapply (ld_slice_any c fun _ => rfl) $$ Hp1
  iintro %w' Hp1
  iapply (st_slice c fun _ => rfl) $$ Hp1
  iintro Hp1
  iapply Hk
  iframe
  unfold partOf
  iapply (show iprop(owns (Dev.tc c) (partM.slice (halfR 0) fun _ => rfl) fullShare (halves wq x wo (D.kcol c) (D.vcol c) 0)
      ∗ owns (Dev.tc c) (partM.slice (halfR 1) fun _ => rfl) fullShare (halves wq x wo (D.kcol c) (D.vcol c) 1)) ⊢ (owns (Dev.tc c) partM fullShare _ : sProp 𝕄) from
    (Entails.of_eq (bigSep_fin_two (fun b => (owns (Dev.tc c) (partM.slice (halfR b) fun _ => rfl) fullShare (halves wq x wo (D.kcol c) (D.vcol c) b) : sProp 𝕄))).symm).trans
      (owns_glue (Dev.tc c) partM halfR (fun _ _ => rfl) halfR_disj halfR_cov (halves wq x wo (D.kcol c) (D.vcol c))))
  isplitl [Hp0]; · iexact Hp0
  iexact Hp1

/-! ## The exchange of partial products -/

theorem rsSend_rule (c d : Fin 8) (h : d ≠ c) (l : List Due) {Q : PUnit → sProp 𝕄} :
    env D K ⊢ iprop(dues c ((d, some (.rsrecv c)) :: l) -∗ owns (Dev.tc c) (prowM d) fullShare (D.prow c d) -∗ place d (.rsrecv c)
      -∗ tok c (some (.rssend d)) (0 : Fin 8) -∗ tok d (some (.rsrecv c)) (0 : Fin 8)
      -∗ ((dues c l ∗ crd c (.rssend d)) -∗ Q ⟨⟩) -∗ run c (rsSend c d) Q) := by
  unfold rsSend place
  iintro #He Ho Hs Hp HtS HtR
  iapply (wp_send (src := prowM d) (dst := rsSlotM c) (sS := sem8 cc0_scratch18 d) (sR := sem8 cc0_scratch19 c) D K c d d rfl (.rssend d) (.rsrecv c)
    (by unfold live; exact decide_eq_true h) (by unfold live; exact decide_eq_true h.symm) rfl rfl fullShare (D.prow c d) rfl rfl rfl rfl l)
  isplitr; · iexact He
  isplitl [Hs]; · iexact Hs
  isplitl [Hp]; · iexact Hp
  isplitl [Ho]; · iexact Ho
  isplitl [HtS]; · iexact HtS
  iexact HtR

theorem agSend_rule (c d : Fin 8) (h : d ≠ c) (l : List Due) {Q : PUnit → sProp 𝕄} :
    env D K ⊢ iprop(dues c ((d, some (.agrecv c)) :: l) -∗ owns (Dev.tc c) agsM (agShare c d) (D.red c) -∗ place d (.agrecv c)
      -∗ tok c (some (.agsend d)) (0 : Fin 8) -∗ tok d (some (.agrecv c)) (0 : Fin 8)
      -∗ ((dues c l ∗ crd c (.agsend d)) -∗ Q ⟨⟩) -∗ run c (agSend c d) Q) := by
  unfold agSend place
  iintro #He Ho Hs Hp HtS HtR
  iapply (wp_send (src := agsM) (dst := agSlotM c) (sS := sem8 cc0_scratch20 d) (sR := sem8 cc0_scratch21 c) D K c d d rfl (.agsend d) (.agrecv c)
    (by unfold live; exact decide_eq_true h) (by unfold live; exact decide_eq_true h.symm) rfl rfl (agShare c d) (D.red c) rfl rfl rfl rfl l)
  isplitr; · iexact He
  isplitl [Hs]; · iexact Hs
  isplitl [Hp]; · iexact Hp
  isplitl [Ho]; · iexact Ho
  isplitl [HtS]; · iexact HtS
  iexact HtR

/-- A loop of sends to all the others: `src d` is what the one to `d` lends, `kS d` and `kR` its semaphores. -/
theorem send_loop (c : Fin 8) (kS : Fin 8 → Use) (kR : Use) (src : Fin 8 → sProp 𝕄) (p : Fin 8 → Code (F := F) PUnit) (l : List Due)
    (h : ∀ d, d ≠ c → ∀ l' (Q : PUnit → sProp 𝕄), env D K ⊢ iprop(dues c ((d, some kR) :: l') -∗ src d -∗ place d kR
      -∗ tok c (some (kS d)) (0 : Fin 8) -∗ tok d (some kR) (0 : Fin 8) -∗ ((dues c l' ∗ crd c (kS d)) -∗ Q ⟨⟩) -∗ run c (p d) Q))
    {Q : PUnit → sProp 𝕄} :
    env D K ⊢ iprop(dues c ((others c).map (fun d => (d, some kR)) ++ l) -∗ bigSepL (others c) src -∗ bigSepL (others c) (fun d => place d kR)
      -∗ bigSepL (others c) (fun d => tok c (some (kS d)) (0 : Fin 8)) -∗ bigSepL (others c) (fun d => tok d (some kR) (0 : Fin 8))
      -∗ ((dues c l ∗ bigSepL (others c) (fun d => crd c (kS d))) -∗ Q ⟨⟩) -∗ run c (seqL (others c) p) Q) := by
  iintro #He Ho Hs Hp Ht Ht' Hk
  iapply (run_loop c (env D K) (fun l' => dues c (l'.map (fun d => (d, some kR)) ++ l))
    (fun d => iprop((src d ∗ place d kR) ∗ (tok c (some (kS d)) (0 : Fin 8) ∗ tok d (some kR) (0 : Fin 8)))) (fun d => crd c (kS d)) p (others c)
    (fun d hd l' Q => by
      iintro ⟨#He, Ho, ⟨Hs, Hp⟩, Ht, Ht'⟩ Hk
      rw [List.map_cons, List.cons_append]
      iapply (h d ((mem_others c d).mp hd) (l'.map (fun d => (d, some kR)) ++ l) Q) $$ He Ho Hs Hp Ht Ht' Hk)) $$ [Ho Hs Hp Ht Ht']
  · rw [sepL_sep, sepL_sep, sepL_sep]
    isplitr; · iexact He
    iframe
  iexact Hk

/-- A loop of waits. -/
theorem wait_loop (c : Fin 8) (u : Fin 8 → Use) (p : Fin 8 → Code (F := F) PUnit) (h : ∀ d, d ≠ c → Awaits D K c (u d) (p d))
    (l : List Due) (hl : ∀ d, ∀ x ∈ l, lvU (some (u d)) < lvU x.2) {Q : PUnit → sProp 𝕄} :
    env D K ⊢ iprop(dues c l -∗ bigSepL (others c) (fun d => crd c (u d)) -∗ bigSepL (others c) (fun d => pos c (some (u d)))
      -∗ ((dues c l ∗ bigSepL (others c) (fun d => zero c (some (u d))) ∗ bigSepL (others c) (fun d => pay D c (u d))) -∗ Q ⟨⟩) -∗ run c (seqL (others c) p) Q) := by
  iintro #He Ho Hc Hp Hk
  iapply (run_loop c (env D K) (fun _ => dues c l)
    (fun d => iprop(crd c (u d) ∗ pos c (some (u d)))) (fun d => iprop(zero c (some (u d)) ∗ pay D c (u d))) p (others c)
    (fun d hd l' Q => by
      iintro ⟨#He, Ho, Hc, Hp⟩ Hk
      iapply (h d ((mem_others c d).mp hd) l (hl d) Q) $$ He Ho Hc Hp Hk)) $$ [Ho Hc Hp]
  · rw [sepL_sep]
    isplitr; · iexact He
    iframe
  rw [sepL_sep]
  iexact Hk

theorem rsIssue_rule (c : Fin 8) (l : List Due) {Q : PUnit → sProp 𝕄} :
    env D K ⊢ iprop(dues c (rsL c ++ l) -∗ owns (Dev.tc c) partM fullShare (D.part c) -∗ place c (.rsrecv c) -∗ bigSepL (others c) (fun d => place d (.rsrecv c))
      -∗ bigSepL (others c) (fun d => tok c (some (.rssend d)) (0 : Fin 8)) -∗ bigSepL (others c) (fun d => tok d (some (.rsrecv c)) (0 : Fin 8))
      -∗ ((dues c l ∗ owns (Dev.tc c) (prowM c) fullShare (D.prow c c) ∗ owns (Dev.tc c) (rs1M c) fullShare (rows D c c)
          ∗ bigSepL (others c) (fun d => crd c (.rssend d))) -∗ Q ⟨⟩)
      -∗ run c (rsIssue c) Q) := by
  unfold rsIssue rsL
  iintro #He Ho Hp Hown Hpl Ht Ht' Hk
  iapply run_seq; iapply (ld_part c (D.part c)) $$ Hp
  iintro Hp
  ihave Hown := (show place c (.rsrecv c) ⊢ (anyOf (Dev.tc c) (rs1M c) : sProp 𝕄) from anyOf_unsqueeze (Dev.tc c) (rs1M c) squeezes_S1x2x32x512_S2x32x512) $$ Hown
  iapply run_seq; iapply (ld_slice_any c fun _ => rfl) $$ Hown
  iintro %w Hown
  iapply run_seq; iapply (st_slice c fun _ => rfl) $$ Hown
  iintro Hown
  icases (show (owns (Dev.tc c) partM fullShare (D.part c) : sProp 𝕄) ⊢ iprop(owns (Dev.tc c) (prowM c) fullShare (D.prow c c)
      ∗ bigSepL (others c) fun d => owns (Dev.tc c) (prowM d) fullShare (D.prow c d)) from
    (owns_rects (Dev.tc c : Thread nD τ) partM fullShare rowR (fun _ _ => rfl) rowR_disj rowR_cov (D.part c)).trans (Entails.of_eq (split_sep c _))) $$ Hp with ⟨Hpc, Hp⟩
  iapply (send_loop D K c (fun d => .rssend d) (.rsrecv c) (fun d => owns (Dev.tc c) (prowM d) fullShare (D.prow c d)) (rsSend c) l
    (fun d hd l' Q => rsSend_rule D K c d hd l')) $$ He Ho Hp Hpl Ht Ht'
  iintro ⟨Ho, Hc⟩
  iapply Hk
  isplitl [Ho]; · iexact Ho
  isplitl [Hpc]; · iexact Hpc
  isplitl [Hown]; · iexact Hown
  iexact Hc

theorem rsWait_rule (c : Fin 8) (l : List Due) (hl : ∀ x ∈ l, 4 < lvU x.2) {Q : PUnit → sProp 𝕄} :
    env D K ⊢ iprop(dues c l -∗ bigSepL (others c) (fun d => crd c (.rsrecv d)) -∗ bigSepL (others c) (fun d => pos c (some (.rsrecv d)))
      -∗ owns (Dev.tc c) (rs1M c) fullShare (rows D c c)
      -∗ ((dues c l ∗ bigSepL (others c) (fun d => zero c (some (.rsrecv d))) ∗ owns (Dev.tc c) rsM fullShare (Rect.glue slotR slotR_cov (rows D c))) -∗ Q ⟨⟩)
      -∗ run c (seqL (others c) rsWait) Q) := by
  iintro #He Ho Hc Hp Hown Hk
  iapply (wait_loop D K c (fun d => .rsrecv d) rsWait (fun d hd => awaits (src := prowM 0) (dst := rsSlotM d) (sm := sem8 cc0_scratch19 d) D K c (.rsrecv d)
    (by unfold live; exact decide_eq_true hd) rfl rfl) l (fun d => hl)) $$ He Ho Hc Hp
  iintro ⟨Ho, Hz, Hr⟩
  iapply Hk
  isplitl [Ho]; · iexact Ho
  isplitl [Hz]; · iexact Hz
  iapply (owns_glue (Dev.tc c) rsM slotR (fun _ _ => rfl) slotR_disj slotR_cov (rows D c))
  rw [split_sep c]
  isplitl [Hown]; · iexact Hown
  iapply (bigSepL_mono (fun d _ => show pay D c (.rsrecv d) ⊢ owns (Dev.tc c) (rs1M d) fullShare (rows D c d) by
    refine (owns_unsqueeze (Dev.tc c) (rs1M d) squeezes_S1x2x32x512_S2x32x512 fullShare (D.prow d c)).trans (Entails.of_eq ?_)
    rw [unsq_eq]; rfl))
  iexact Hr

theorem rsLoad_rule (c s : Fin 8) {Q : Vec F S1x2x32x512 .bf16 → sProp 𝕄} :
    (owns (Dev.tc c) rsM fullShare (Rect.glue slotR slotR_cov (rows D c)) : sProp 𝕄)
      ⊢ iprop((owns (Dev.tc c) rsM fullShare (Rect.glue slotR slotR_cov (rows D c)) -∗ Q (rows D c s)) -∗ run c (rsLoad s) Q) := by
  unfold rsLoad
  iintro H Hk
  iapply (ld_part c (Rect.glue slotR slotR_cov (rows D c))) $$ H
  iintro H
  rw [show (fun j => Rect.glue slotR slotR_cov (rows D c) ((slotR s).emb j)) = rows D c s from funext fun j => Rect.glue_emb slotR slotR_cov slotR_disj (rows D c) s j]
  iapply Hk; iexact H

theorem loads_rule (c : Fin 8) {Q : (Fin 8 → Vec F S1x2x32x512 .bf16) → sProp 𝕄} :
    (owns (Dev.tc c) rsM fullShare (Rect.glue slotR slotR_cov (rows D c)) : sProp 𝕄)
      ⊢ iprop((owns (Dev.tc c) rsM fullShare (Rect.glue slotR slotR_cov (rows D c)) -∗ Q (rows D c)) -∗ run c loads Q) := by
  unfold loads
  iintro H Hk
  iapply run_seq; iapply (rsLoad_rule D c 0) $$ H; iintro H
  iapply run_seq; iapply (rsLoad_rule D c 1) $$ H; iintro H
  iapply run_seq; iapply (rsLoad_rule D c 2) $$ H; iintro H
  iapply run_seq; iapply (rsLoad_rule D c 3) $$ H; iintro H
  iapply run_seq; iapply (rsLoad_rule D c 4) $$ H; iintro H
  iapply run_seq; iapply (rsLoad_rule D c 5) $$ H; iintro H
  iapply run_seq; iapply (rsLoad_rule D c 6) $$ H; iintro H
  iapply run_seq; iapply (rsLoad_rule D c 7) $$ H; iintro H
  rw [show (![rows D c 0, rows D c 1, rows D c 2, rows D c 3, rows D c 4, rows D c 5, rows D c 6, rows D c 7] : Fin 8 → Vec F S1x2x32x512 .bf16) = rows D c from
    funext fun s => by fin_cases s <;> rfl]
  unfold run
  rw [Prog.pure_eq_ret, wp_ret]
  imodintro
  iapply Hk; iexact H

theorem keepSum_rule (c : Fin 8) (hr : D.red c = sum8b (rows D c)) {Q : PUnit → sProp 𝕄} :
    (anyOf (Dev.tc c) agsM : sProp 𝕄) ⊢ iprop((owns (Dev.tc c) agsM fullShare (D.red c) -∗ Q ⟨⟩) -∗ run c (keepSum (rows D c)) Q) := by
  unfold keepSum
  rw [hr]
  iintro H Hk
  iapply run_seq; iapply (ld_any c) $$ H
  iintro %w H
  iapply (st_whole c) $$ H
  iexact Hk

theorem outRow_rule (c s : Fin 8) (v : FVec F S2x32x512 .f32) {Q : PUnit → sProp 𝕄} :
    (anyOf (Dev.tc c) (orowM s) : sProp 𝕄) ⊢ iprop((owns (Dev.tc c) (orowM s) fullShare v -∗ Q ⟨⟩) -∗ run c (outRow s v) Q) := by
  unfold outRow
  iintro H Hk
  iapply run_seq; iapply (ld_slice_any c fun _ => rfl) $$ H
  iintro %w H
  iapply (st_slice c fun _ => rfl) $$ H
  iexact Hk

/-! ## The exchange of reduced rows -/

theorem erase_nonempty : ∀ c : Fin 8, (Finset.univ.erase c).Nonempty := by decide

theorem agIssue_rule (c : Fin 8) (l : List Due) {Q : PUnit → sProp 𝕄} :
    env D K ⊢ iprop(dues c (agL c ++ l) -∗ owns (Dev.tc c) agsM fullShare (D.red c) -∗ anyOf (Dev.tc c) (orowM c) -∗ bigSepL (others c) (fun d => place d (.agrecv c))
      -∗ bigSepL (others c) (fun d => tok c (some (.agsend d)) (0 : Fin 8)) -∗ bigSepL (others c) (fun d => tok d (some (.agrecv c)) (0 : Fin 8))
      -∗ ((dues c l ∗ owns (Dev.tc c) (orowM c) fullShare (sum8 (rows D c)) ∗ bigSepL (others c) (fun d => crd c (.agsend d))) -∗ Q ⟨⟩)
      -∗ run c (agIssue (sum8 (rows D c)) c) Q) := by
  unfold agIssue agL
  iintro #He Ho Hs Hr Hpl Ht Ht' Hk
  iapply run_seq; iapply (outRow_rule c c (sum8 (rows D c))) $$ Hr
  iintro Hr
  ihave Hs := (show (owns (Dev.tc c) agsM fullShare (D.red c) : sProp 𝕄) ⊢ bigSepL (others c) (fun d => owns (Dev.tc c) agsM (agShare c d) (D.red c)) from
    Entails.of_eq ((owns_deal (Dev.tc c : Thread nD τ) agsM (Finset.univ.erase c) (erase_nonempty c) fullShare (D.red c)).trans (others_sep c _))) $$ Hs
  iapply (send_loop D K c (fun d => .agsend d) (.agrecv c) (fun d => owns (Dev.tc c) agsM (agShare c d) (D.red c)) (agSend c) l
    (fun d hd l' Q => agSend_rule D K c d hd l')) $$ He Ho Hs Hpl Ht Ht'
  iintro ⟨Ho, Hc⟩
  iapply Hk
  iframe

theorem nolater {n : ℕ} : ∀ x ∈ ([] : List Due), n < lvU x.2 := fun p hp => absurd hp (List.not_mem_nil)

theorem rsDrain_rule (c : Fin 8) {Q : PUnit → sProp 𝕄} :
    env D K ⊢ iprop(dues c [] -∗ bigSepL (others c) (fun d => crd c (.rssend d)) -∗ bigSepL (others c) (fun d => pos c (some (.rssend d)))
      -∗ owns (Dev.tc c) (prowM c) fullShare (D.prow c c)
      -∗ ((dues c [] ∗ bigSepL (others c) (fun d => zero c (some (.rssend d))) ∗ anyOf (Dev.tc c) partM) -∗ Q ⟨⟩)
      -∗ run c (seqL (others c) (rsDrain c)) Q) := by
  iintro #He Ho Hc Hp Hown Hk
  iapply (wait_loop D K c (fun d => .rssend d) (rsDrain c) (fun d hd => awaits (src := rsSlotM c) (dst := prowM d) (sm := sem8 cc0_scratch18 d) D K c (.rssend d)
    (by unfold live; exact decide_eq_true hd) rfl rfl) [] (fun d => nolater)) $$ He Ho Hc Hp
  iintro ⟨Ho, Hz, Hr⟩
  iapply Hk
  isplitl [Ho]; · iexact Ho
  isplitl [Hz]; · iexact Hz
  iapply (anyOf_of_rects (Dev.tc c : Thread nD τ) partM rowR (fun _ _ => rfl) rowR_disj rowR_cov)
  rw [split_sep c]
  isplitl [Hown]; · iapply (anyOf_intro (Dev.tc c) (prowM c) (D.prow c c)); iexact Hown
  iapply (bigSepL_mono (fun d _ => show pay D c (.rssend d) ⊢ anyOf (Dev.tc c) (prowM d) from anyOf_intro (Dev.tc c) (prowM d) (D.prow c d)))
  iexact Hr

theorem agRecv_rule (c : Fin 8) {Q : PUnit → sProp 𝕄} :
    env D K ⊢ iprop(dues c [] -∗ bigSepL (others c) (fun d => crd c (.agrecv d)) -∗ bigSepL (others c) (fun d => pos c (some (.agrecv d)))
      -∗ bigSepL (others c) (fun d => anyOf (Dev.tc c) (orowM d)) -∗ owns (Dev.tc c) (orowM c) fullShare (sum8 (rows D c))
      -∗ ((dues c [] ∗ bigSepL (others c) (fun d => zero c (some (.agrecv d))) ∗ bigSepL (others c) (fun d => place c (.agrecv d))
          ∗ owns (Dev.tc c) outM fullShare (outOf D c)) -∗ Q ⟨⟩)
      -∗ run c (seqL (others c) agRecv) Q) := by
  iintro #He Ho Hc Hp Hrows Hown Hk
  iapply (run_loop c (env D K) (fun _ => dues c [])
    (fun d => iprop((crd c (.agrecv d) ∗ pos c (some (.agrecv d))) ∗ anyOf (Dev.tc c) (orowM d)))
    (fun d => iprop((zero c (some (.agrecv d)) ∗ place c (.agrecv d)) ∗ owns (Dev.tc c) (orowM d) fullShare (k0_pay42 (k0_pay3 (D.red d))))) agRecv (others c)
    (fun d hd l' Q => by
      unfold agRecv
      iintro ⟨#He, Ho, ⟨Hc, Hp⟩, Hr⟩ Hk
      iapply run_seq
      iapply (awaits (src := agsM) (dst := agSlotM d) (sm := sem8 cc0_scratch21 d) (hsrc := ags_exact) (hdst := agSlot_exact d) D K c (.agrecv d)
        (by unfold live; exact decide_eq_true ((mem_others c d).mp hd)) rfl rfl [] nolater _) $$ He Ho Hc Hp
      iintro ⟨Ho, Hz, Hpay⟩
      ihave Hpay := (show pay D c (.agrecv d) ⊢ owns (Dev.tc c) (ag1M d) fullShare (k0_pay3 (D.red d)) by
        refine (owns_unsqueeze (Dev.tc c) (ag1M d) squeezes_S1x2x32x512_S2x32x512 fullShare (D.red d)).trans (Entails.of_eq ?_)
        rw [unsq_eq]) $$ Hpay
      iapply run_seq
      iapply (ld_slice c (fun _ => rfl) (k0_pay3 (D.red d))) $$ Hpay
      iintro Hpay
      iapply (outRow_rule c d _) $$ Hr
      iintro Hr
      iapply Hk
      isplitl [Ho]; · iexact Ho
      isplitl [Hz Hpay]
      · isplitl [Hz]; · iexact Hz
        iapply (show (anyOf (Dev.tc c) (ag1M d) : sProp 𝕄) ⊢ place c (.agrecv d) from anyOf_squeeze (Dev.tc c) (ag1M d) squeezes_S1x2x32x512_S2x32x512)
        iapply (anyOf_intro (Dev.tc c) (ag1M d) (k0_pay3 (D.red d)))
        iexact Hpay
      iexact Hr)) $$ [Ho Hc Hp Hrows]
  · rw [sepL_sep, sepL_sep]
    isplitr; · iexact He
    iframe
  rw [sepL_sep, sepL_sep]
  iintro ⟨Ho, ⟨Hz, Hpl⟩, Hr⟩
  iapply Hk
  isplitl [Ho]; · iexact Ho
  isplitl [Hz]; · iexact Hz
  isplitl [Hpl]; · iexact Hpl
  unfold outOf
  iapply (owns_glue (Dev.tc c) outM rowR (fun _ _ => rfl) rowR_disj rowR_cov (outRows D c))
  rw [split_sep c]
  isplitl [Hown]
  · unfold outRows; rw [if_pos rfl]; iexact Hown
  iapply (bigSepL_mono (fun d hd => Entails.of_eq (show (owns (Dev.tc c) (orowM d) fullShare (k0_pay42 (k0_pay3 (D.red d))) : sProp 𝕄) = owns (Dev.tc c) (orowM d) fullShare (outRows D c d) by
    unfold outRows; rw [if_neg ((mem_others c d).mp hd)])))
  iexact Hr

theorem agDrain_rule (c : Fin 8) {Q : PUnit → sProp 𝕄} :
    env D K ⊢ iprop(dues c [] -∗ bigSepL (others c) (fun d => crd c (.agsend d)) -∗ bigSepL (others c) (fun d => pos c (some (.agsend d)))
      -∗ ((dues c [] ∗ bigSepL (others c) (fun d => zero c (some (.agsend d))) ∗ anyOf (Dev.tc c) agsM) -∗ Q ⟨⟩)
      -∗ run c (seqL (others c) (agDrain c)) Q) := by
  iintro #He Ho Hc Hp Hk
  iapply (wait_loop D K c (fun d => .agsend d) (agDrain c) (fun d hd => awaits (src := agSlotM c) (dst := agsM) (sm := sem8 cc0_scratch20 d) D K c (.agsend d)
    (by unfold live; exact decide_eq_true hd) rfl rfl) [] (fun d => nolater)) $$ He Ho Hc Hp
  iintro ⟨Ho, Hz, Hr⟩
  iapply Hk
  isplitl [Ho]; · iexact Ho
  isplitl [Hz]; · iexact Hz
  iapply (anyOf_intro (Dev.tc c) agsM (D.red c))
  iapply (show bigSepL (others c) (fun d => pay D c (.agsend d)) ⊢ (owns (Dev.tc c) agsM fullShare (D.red c) : sProp 𝕄) from
    Entails.of_eq ((owns_deal (Dev.tc c : Thread nD τ) agsM (Finset.univ.erase c) (erase_nonempty c) fullShare (D.red c)).trans (others_sep c _)).symm)
  iexact Hr

end Cert.KernelIdeal.Pf

end
-- ==== Proof.Ideal.Whole.lean ====
/-
# 01_k — the whole body

The phases put together: from a device's memory, duties, credits and positions to the same memory, its result written
and every semaphore back at zero.
-/
module

public import proofs.«01_k».proof.Proof.Ideal.Exchange

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (K : Dev nD × Option Use → ℕ)

/-! ## Lists -/

theorem sepL_perm {I : Type} [DecidableEq I] {l l' : List I} (h : l.Perm l') (hn : l.Nodup) (A : I → sProp 𝕄) : bigSepL l A = bigSepL l' A := by
  rw [← bigSep_eq_bigSepL l hn A]
  exact bigSep_eq_bigSepL_of_eq l' (List.toFinset_eq_of_perm _ _ h) (h.nodup_iff.mp hn) A
theorem sepL_flat {I J : Type} (l : List I) (f : I → List J) (A : J → sProp 𝕄) : bigSepL (l.flatMap f) A = bigSepL l fun i => bigSepL (f i) A := by
  induction l with
  | nil => rfl
  | cons i l ih => rw [List.flatMap_cons, bigSepL_append, bigSepL_cons', ih]

/-- The semaphores that transfers credit, by phase; -/
def liveL (c : Fin 8) : List Use :=
  spreadW c ++ (sliceW c ++ (drainW c ++ ((others c).map .rsrecv ++ ((others c).map .rssend ++ ((others c).map .agrecv ++ (others c).map .agsend)))))
/-- the others; -/
def idleU (c : Fin 8) : Finset Use := Finset.univ.filter fun k => live c k = false
/-- those whose duty the device itself pays, as a transfer's sender; -/
def sendL (c : Fin 8) : List Use := kvS c ++ ((others c).map .rssend ++ (others c).map .agsend)
/-- those it waits at for another device. -/
def recvL (c : Fin 8) : List Use := relayW c ++ (sliceW c ++ ((others c).map .rsrecv ++ (others c).map .agrecv))
/-- Every landing place. -/
def placeL : List Use := [.krecv, .vrecv, .relay 0, .relay 1, .relay 2] ++ (eight.map .rsrecv ++ eight.map .agrecv)

set_option maxRecDepth 100000 in
theorem liveL_nodup : ∀ c, (liveL c).Nodup := by decide +kernel
set_option maxRecDepth 100000 in
theorem liveL_toFinset : ∀ c, Finset.univ = (liveL c).toFinset ∪ idleU c := by decide +kernel
set_option maxRecDepth 100000 in
theorem liveL_disjoint : ∀ c, Disjoint (liveL c).toFinset (idleU c) := by decide +kernel
set_option maxRecDepth 100000 in
theorem placeL_nodup : placeL.Nodup := by decide +kernel
set_option maxRecDepth 100000 in
theorem placeL_perm : ∀ c, placeL.Perm (keptL c ++ ([.rsrecv c, .agrecv c] ++ (others c).flatMap (recvFrom c))) := by decide +kernel
def fromAll (c : Fin 8) : List (Dev nD × Use) := (others c).flatMap fun p => (recvFrom p c).map fun k => (p, k)
set_option maxRecDepth 100000 in
theorem fromAll_nodup : ∀ c, (fromAll c).Nodup := by decide +kernel
set_option maxRecDepth 100000 in
theorem fromAll_perm : ∀ c, (fromAll c).Perm (farD c) := by decide +kernel
theorem barL_perm : ∀ c : Fin 8, (others c).Perm (([1, 2, 3, 4, 5, 6, 7] : List (Fin 8)).map fun k => c + k) := by decide
theorem bar_ne : ∀ c : Fin 8, ∀ k ∈ ([1, 2, 3, 4, 5, 6, 7] : List (Fin 8)), c ≠ c + k := by decide
theorem kv_lv : ∀ c, ∀ p ∈ kvL c ++ (rsL c ++ agL c), 1 < lvU p.2 := by decide +kernel
theorem rs_lv : ∀ c, ∀ p ∈ rsL c ++ agL c, 3 < lvU p.2 := by decide +kernel
theorem ag_lv : ∀ c, ∀ p ∈ agL c, 4 < lvU p.2 := by decide +kernel

theorem live_sep (c : Fin 8) (A : Use → sProp 𝕄) : bigSep Finset.univ A =
    iprop((bigSepL (spreadW c) A ∗ bigSepL (sliceW c) A ∗ bigSepL (drainW c) A ∗ (bigSepL (others c) fun d => A (.rsrecv d)) ∗ (bigSepL (others c) fun d => A (.rssend d))
      ∗ (bigSepL (others c) fun d => A (.agrecv d)) ∗ (bigSepL (others c) fun d => A (.agsend d))) ∗ bigSep (idleU c) A) := by
  rw [liveL_toFinset c, bigSep_union (liveL_disjoint c), bigSep_eq_bigSepL _ (liveL_nodup c)]
  unfold liveL
  simp only [bigSepL_append, bigSepL_map]
  rfl

/-! ## What the body starts and ends with -/

/-- A device's scratch, of any contents; -/
def scratch (c : Fin 8) : sProp 𝕄 :=
  iprop(anyOf (Dev.tc c) kfM ∗ anyOf (Dev.tc c) vfM ∗ anyOf (Dev.tc c) kstM ∗ anyOf (Dev.tc c) vstM ∗ anyOf (Dev.tc c) kbM ∗ anyOf (Dev.tc c) vbM ∗ anyOf (Dev.tc c) rbM
    ∗ anyOf (Dev.tc c) partM ∗ anyOf (Dev.tc c) rsM ∗ anyOf (Dev.tc c) agsM ∗ anyOf (Dev.tc c) agM)
/-- with its arrays K and V; -/
def held (c : Fin 8) : sProp 𝕄 := iprop(owns (Dev.tc c) kinM fullShare (D.kin c) ∗ owns (Dev.tc c) vinM fullShare (D.vin c) ∗ scratch c)
/-- the windows' stages; -/
def stages (c : Fin 8) (x : Vec F S2x256x512 .f32) (wq : Vec F S512x256 .f32) (wo : Vec F S256x512 .f32) : sProp 𝕄 :=
  iprop(owns (Dev.tc c) xM fullShare x ∗ owns (Dev.tc c) wqM fullShare wq ∗ owns (Dev.tc c) woM fullShare wo)
/-- its rights to pay; -/
def toks (c : Fin 8) : sProp 𝕄 :=
  iprop((bigSepL (others c) fun t => tok t none c) ∗ (bigSepL (farD c) fun p => tok p.1 (some p.2) (0 : Fin 8)) ∗ bigSepL (sendL c) fun k => tok c (some k) (0 : Fin 8))
/-- its credits; -/
def crds (c : Fin 8) : sProp 𝕄 := iprop(cred (tallyAt (cell c none) () 7) ∗ bigSepL (recvL c) fun k => crd c k)
/-- its positions; -/
def poss (c : Fin 8) : sProp 𝕄 := iprop(pos c none ∗ bigSep Finset.univ fun k => pos c (some k))
/-- its semaphores at zero. -/
def zeros (c : Fin 8) : sProp 𝕄 := iprop(zero c none ∗ bigSep Finset.univ fun k => zero c (some k))

theorem idle_close (c : Fin 8) : iprop(env D K ∗ bigSep (idleU c) fun k => pos c (some k)) ⊢ (|={Set.univ}=> bigSep (idleU c) fun k => zero c (some k) : sProp 𝕄) := by
  refine ((sep_mono_left (BI.bigSep_of_persistent (idleU c) (env D K))).trans ?_).trans (bigSep_fupd _ _)
  rw [← bigSep_sep']
  exact bigSep_mono fun k hk => close_idle D K c k (Finset.mem_filter.mp hk).2

theorem relay_places (c : Fin 8) : (anyOf (Dev.tc c) rbM : sProp 𝕄) ⊢ bigSepL [.relay 0, .relay 1, .relay 2] (place c) := by
  refine ((anyOf_rects (Dev.tc c : Thread nD τ) rbM rbufR (fun _ _ => rfl) rbufR_disj rbufR_cov).trans (bigSep_mono fun i _ =>
    (show (anyOf (Dev.tc c) (rb1M i) : sProp 𝕄) ⊢ place c (.relay i) from anyOf_squeeze (Dev.tc c) (rb1M i) squeezes_S1x2x256x256_S2x256x256))).trans ?_
  exact Entails.of_eq ((bigSep_eq_bigSepL_of_eq (S := Finset.univ) [0, 1, 2] (by decide) (by decide) fun i : Fin 3 => place c (.relay i)).trans
    (bigSepL_map Use.relay [0, 1, 2] (place c)).symm)
theorem relay_back (c : Fin 8) : bigSepL [.relay 0, .relay 1, .relay 2] (place c) ⊢ (anyOf (Dev.tc c) rbM : sProp 𝕄) := by
  refine BIBase.Entails.trans ?_ ((bigSep_mono fun i _ =>
    (show place c (.relay i) ⊢ (anyOf (Dev.tc c) (rb1M i) : sProp 𝕄) from anyOf_unsqueeze (Dev.tc c) (rb1M i) squeezes_S1x2x256x256_S2x256x256)).trans
    (anyOf_of_rects (Dev.tc c : Thread nD τ) rbM rbufR (fun _ _ => rfl) rbufR_disj rbufR_cov))
  exact Entails.of_eq ((bigSep_eq_bigSepL_of_eq (S := Finset.univ) [0, 1, 2] (by decide) (by decide) fun i : Fin 3 => place c (.relay i)).trans
    (bigSepL_map Use.relay [0, 1, 2] (place c)).symm).symm
theorem rs_places (c : Fin 8) : (anyOf (Dev.tc c) rsM : sProp 𝕄) ⊢ bigSep Finset.univ fun s => place c (.rsrecv s) :=
  (anyOf_rects (Dev.tc c : Thread nD τ) rsM slotR (fun _ _ => rfl) slotR_disj slotR_cov).trans (bigSep_mono fun s _ =>
    (show (anyOf (Dev.tc c) (rs1M s) : sProp 𝕄) ⊢ place c (.rsrecv s) from anyOf_squeeze (Dev.tc c) (rs1M s) squeezes_S1x2x32x512_S2x32x512))
theorem ag_places (c : Fin 8) : (anyOf (Dev.tc c) agM : sProp 𝕄) ⊢ bigSep Finset.univ fun s => place c (.agrecv s) :=
  (anyOf_rects (Dev.tc c : Thread nD τ) agM slotR (fun _ _ => rfl) slotR_disj slotR_cov).trans (bigSep_mono fun s _ =>
    (show (anyOf (Dev.tc c) (ag1M s) : sProp 𝕄) ⊢ place c (.agrecv s) from anyOf_squeeze (Dev.tc c) (ag1M s) squeezes_S1x2x32x512_S2x32x512))
theorem ag_back (c : Fin 8) : (bigSep Finset.univ fun s => place c (.agrecv s)) ⊢ (anyOf (Dev.tc c) agM : sProp 𝕄) :=
  (bigSep_mono fun s _ => (show place c (.agrecv s) ⊢ (anyOf (Dev.tc c) (ag1M s) : sProp 𝕄) from anyOf_unsqueeze (Dev.tc c) (ag1M s) squeezes_S1x2x32x512_S2x32x512)).trans
    (anyOf_of_rects (Dev.tc c : Thread nD τ) agM slotR (fun _ _ => rfl) slotR_disj slotR_cov)

theorem eight_sep (A : Fin 8 → sProp 𝕄) : bigSep Finset.univ A = bigSepL eight A :=
  bigSep_eq_bigSepL_of_eq eight (by decide) (by decide) A

/-- A device's landing places: those it keeps and those it hands out. -/
theorem places_out (c : Fin 8) :
    iprop(anyOf (Dev.tc c) kbM ∗ anyOf (Dev.tc c) vbM ∗ anyOf (Dev.tc c) rbM ∗ anyOf (Dev.tc c) rsM ∗ anyOf (Dev.tc c) agM)
      ⊢ (iprop(bigSepL (keptL c) (place c) ∗ place c (.rsrecv c) ∗ place c (.agrecv c) ∗ bigSepL (others c) fun t => grant c t) : sProp 𝕄) := by
  have h : bigSepL placeL (place (F := F) c) = _ := sepL_perm (placeL_perm c) placeL_nodup (place c)
  rw [bigSepL_append, bigSepL_append, sepL_flat, sepL_two] at h
  iintro ⟨Hk, Hv, Hr, Hs, Ha⟩
  iapply (show bigSepL placeL (place (F := F) c) ⊢ iprop(bigSepL (keptL c) (place c) ∗ place c (.rsrecv c) ∗ place c (.agrecv c) ∗ bigSepL (others c) fun t => grant c t) from
    (Entails.of_eq h).trans (sep_mono_right sep_assoc.1))
  unfold placeL
  rw [bigSepL_append, bigSepL_append, bigSepL_map, bigSepL_map, ← eight_sep, ← eight_sep,
    show ([.krecv, .vrecv, .relay 0, .relay 1, .relay 2] : List Use) = [.krecv, .vrecv] ++ [.relay 0, .relay 1, .relay 2] from rfl, bigSepL_append, sepL_two, bigSepL_singleton]
  isplitl [Hk Hv Hr]
  · isplitl [Hk Hv]
    · isplitl [Hk]; · iapply (show (anyOf (Dev.tc c) kbM : sProp 𝕄) ⊢ place c .krecv from .rfl); iexact Hk
      iapply (show (anyOf (Dev.tc c) vbM : sProp 𝕄) ⊢ place c .vrecv from .rfl); iexact Hv
    iapply (relay_places c); iexact Hr
  isplitl [Hs]; · iapply (rs_places c); iexact Hs
  iapply (ag_places c); iexact Ha

/-- What the barrier brings: the landing places of all the transfers the device makes. -/
theorem places_in (c : Fin 8) : (bigSep (Finset.univ.erase c) fun p => grant p c)
    ⊢ (iprop(bigSepL (kvD c) (fun p => place p.1 p.2) ∗ bigSepL (others c) (fun d => place d (.rsrecv c)) ∗ bigSepL (others c) (fun d => place d (.agrecv c))) : sProp 𝕄) := by
  have h : bigSepL (fromAll c) (fun p => place (F := F) p.1 p.2) = _ := sepL_perm (fromAll_perm c) (fromAll_nodup c) _
  unfold fromAll farD at h
  rw [sepL_flat, bigSepL_append, bigSepL_append, bigSepL_map, bigSepL_map] at h
  simp only [bigSepL_map] at h
  rw [others_sep]
  exact Entails.of_eq h

/-! ## Entry -/

theorem signals_rule (c : Fin 8) (l : List Due) {Q : PUnit → sProp 𝕄} :
    env D K ⊢ iprop(dues c (barL c ++ l) -∗ bigSepL (others c) (fun t => tok t none c) -∗ bigSepL (others c) (fun t => grant c t)
      -∗ (dues c l -∗ Q ⟨⟩) -∗ run c (seqL [1, 2, 3, 4, 5, 6, 7] (sigTo c)) Q) := by
  iintro #He Ho Ht Hg Hk
  ihave H := (show iprop(bigSepL (others c) (fun t => tok t none c) ∗ bigSepL (others c) (fun t => grant c t))
      ⊢ (bigSepL ([1, 2, 3, 4, 5, 6, 7] : List (Fin 8)) (fun k => iprop(tok (c + k) none c ∗ grant c (c + k))) : sProp 𝕄) by
    rw [← sepL_sep, sepL_perm (barL_perm c) (others_nodup c), bigSepL_map]) $$ [Ht Hg]
  · iframe
  iapply (run_loop c (env D K) (fun l' => dues c (l'.map (fun k => ((c + k : Fin 8), none)) ++ l))
    (fun k => iprop(tok (c + k) none c ∗ grant c (c + k))) (fun _ => iprop(emp)) (sigTo c) [1, 2, 3, 4, 5, 6, 7]
    (fun k hk l' Q => by
      unfold sigTo
      iintro ⟨#He, Ho, Ht, Hg⟩ Hk
      rw [List.map_cons, List.cons_append]
      iapply (wp_sig D K c (c + k) _ rfl (bar_ne c k hk) (l'.map (fun k => ((c + k : Fin 8), none)) ++ l)) $$ [Ho Ht Hg]
      · isplitr; · iexact He
        iframe
      iintro Ho
      iapply Hk
      isplitl [Ho]; · iexact Ho
      iempintro)) $$ [Ho H]
  · isplitr; · iexact He
    isplitl [Ho]; · iexact Ho
    iexact H
  iintro ⟨Ho, -⟩
  iapply Hk; iexact Ho

/-! ## The body -/

/-- The contents are those the kernel computes from the stages `x`, `wq` and `wo`. -/
structure Good (x : Dev nD → Vec F S2x256x512 .f32) (wq : Dev nD → Vec F S512x256 .f32) (wo : Dev nD → Vec F S256x512 .f32) : Prop where
  kst : D.kst = k0_pay1 (D.kin (0 : Fin 8))
  vst : D.vst = k0_pay2 (D.vin (0 : Fin 8))
  part : ∀ c : Fin 8, D.part c = partOf (wq c) (x c) (wo c) (D.kcol c) (D.vcol c)
  red : ∀ c : Fin 8, D.red c = sum8b (rows D c)

set_option maxHeartbeats 4000000 in
theorem code_rule {x wq wo} (hg : Good D x wq wo) (c : Fin 8) {Q : PUnit → sProp 𝕄} :
    env D K ⊢ iprop(held D c -∗ stages c (x c) (wq c) (wo c) -∗ anyOf (Dev.tc c) outM -∗ dues c (dueL c) -∗ toks c -∗ crds c -∗ poss c
      -∗ ((held D c ∗ stages c (x c) (wq c) (wo c) ∗ owns (Dev.tc c) outM fullShare (outOf D c) ∗ dues c [] ∗ zeros c) -∗ Q ⟨⟩)
      -∗ run c (code c) Q) := by
  unfold code held scratch stages toks crds poss zeros dueL farD sendL recvL
  rw [live_sep c, live_sep c]
  simp only [bigSepL_append, bigSepL_map]
  iintro #He ⟨Hkin, Hvin, Hkf, Hvf, Hkst, Hvst, Hkb, Hvb, Hrb, Hpart, Hrs, Hags, Hag⟩ ⟨Hx, Hwq, Hwo⟩ Hout Ho ⟨Htb, ⟨Htkv, Htrs, Htag⟩, Hskv, Hsrs, Hsag⟩
    ⟨Hcb, Hcr, Hcs, Hcrs, Hcag⟩ ⟨Hpb, ⟨Hpsp, Hpsl, Hpd, Hprr, Hprs, Hpar, Hpas⟩, Hpi⟩ Hk
  icases (places_out c) $$ [Hkb Hvb Hrb Hrs Hag] with ⟨Hkept, Hrsc, Hagc, Hgr⟩
  · iframe
  iapply run_seq; iapply (signals_rule D K c _) $$ He Ho Htb Hgr
  iintro Ho
  iapply run_seq; iapply (wp_bar_wait D K c _ (kv_lv c)) $$ [Hcb Ho Hpb]
  · isplitr; · iexact He
    iframe
  iintro ⟨Ho, Hzb, Hg⟩
  icases (places_in c) $$ Hg with ⟨Hpkv, Hplr, Hpla⟩
  iapply run_seq
  iapply (spread_rule D K hg.kst hg.vst c (rsL c ++ agL c) (fun p hp => Nat.lt_of_succ_lt (rs_lv c p hp))) $$ He [Hkin Hvin Hkf Hvf Hkst Hvst Hkept] [Ho Hpkv Htkv Hskv Hpsp Hcr]
  · unfold kvMem; iframe
  · unfold kvIn; iframe
  unfold kvMid
  iintro ⟨Hh, Ho, Hzsp, Hcd⟩
  iapply run_seq
  iapply (partial_rule D K c (rsL c ++ agL c) (rs_lv c) (x c) (wq c) (wo c)) $$ He [Hx Hwq Hwo Hpart] Hh Ho Hcs Hpsl
  · iframe
  rw [← hg.part c]
  iintro ⟨Hx, Hwq, Hwo, Hpart, Hr, Hkb, Hvb, Ho, Hzsl⟩
  iapply run_seq; iapply (rsIssue_rule D K c (agL c)) $$ He Ho Hpart Hrsc Hplr Hsrs Htrs
  iintro ⟨Ho, Hpc, Hrs, Hcrss⟩
  iapply run_seq; iapply (rsWait_rule D K c (agL c) (ag_lv c)) $$ He Ho Hcrs Hprr Hrs
  iintro ⟨Ho, Hzrr, Hrs⟩
  iapply run_seq; iapply (loads_rule D c) $$ Hrs
  iintro Hrs
  iapply run_seq; iapply (keepSum_rule D c (hg.red c)) $$ Hags
  iintro Hags
  icases (show (anyOf (Dev.tc c) outM : sProp 𝕄) ⊢ iprop(anyOf (Dev.tc c) (orowM c) ∗ bigSepL (others c) fun d => anyOf (Dev.tc c) (orowM d)) from
    (anyOf_rects (Dev.tc c : Thread nD τ) outM rowR (fun _ _ => rfl) rowR_disj rowR_cov).trans (Entails.of_eq (split_sep c _))) $$ Hout with ⟨Hrow, Hout⟩
  iapply run_seq
  rw [show agL c = agL c ++ [] from (List.append_nil _).symm]
  iapply (agIssue_rule D K c []) $$ He Ho Hags Hrow Hpla Hsag Htag
  iintro ⟨Ho, Hrow, Hcags⟩
  iapply run_seq; iapply (rsDrain_rule D K c) $$ He Ho Hcrss Hprs Hpc
  iintro ⟨Ho, Hzrs, Hpart⟩
  iapply run_seq; iapply (agRecv_rule D K c) $$ He Ho Hcag Hpar Hout Hrow
  iintro ⟨Ho, Hzar, Hag, Hout⟩
  iapply run_seq; iapply (agDrain_rule D K c) $$ He Ho Hcags Hpas
  iintro ⟨Ho, Hzas, Hags⟩
  iapply run_seq; iapply (drain_rule D K c) $$ He [Hr Hkb Hvb] Ho Hcd Hpd
  · isplitl [Hr]; · iexact Hr
    isplitl [Hkb]; · iapply (anyOf_intro (Dev.tc c) kbM (D.kcol c)); iexact Hkb
    iapply (anyOf_intro (Dev.tc c) vbM (D.vcol c)); iexact Hvb
  unfold kvEnd
  iintro ⟨⟨Hkin, Hvin, Hkf, Hvf, Hkst, Hvst, Hkb, Hvb, Hrb⟩, Ho, Hzd⟩
  ihave Hrb := (relay_back c) $$ Hrb
  ihave Hrs := (anyOf_intro (Dev.tc c) rsM (Rect.glue slotR slotR_cov (rows D c))) $$ Hrs
  ihave Hag := (show iprop(place c (.agrecv c) ∗ bigSepL (others c) fun d => place c (.agrecv d)) ⊢ (anyOf (Dev.tc c) agM : sProp 𝕄) from
    (Entails.of_eq (split_sep c fun d => place c (.agrecv d)).symm).trans (ag_back c)) $$ [Hagc Hag]
  · iframe
  unfold run
  rw [Prog.pure_eq_ret, wp_ret]
  imod (idle_close D K c) $$ [Hpi] with Hzi
  · isplitr; · iexact He
    iexact Hpi
  imodintro
  iapply Hk
  iframe

end Cert.KernelIdeal.Pf

end
-- ==== Proof.Ideal.RunBody.lean ====
/-
# 01_k — the printed body runs as `code`
-/
module

public import proofs.«01_k».proof.Proof.Ideal.Body

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem pick_ag (c : Dev nD) (s : Fin 8) (w : BitVec 32) (hw : w = BitVec.ofNat 32 s.val) :
    pick (Scalar.cmpi .ne (Scalar.extui (Scalar.cmpi .eq (me c) w) : BitVec 32) 0#32 = 1#1) (seqL (F := F) (others s) (agDrain s))
      = own (fun s => seqL (others s) (agDrain s)) c s := by
  subst hw; exact pick_own c s (fun s => seqL (others s) (agDrain s)) (word_eq c s)
theorem pick_dev (c : Dev nD) (s : Fin 8) (w : BitVec 32) (hw : w = BitVec.ofNat 32 s.val) (p : Code (F := F) PUnit) :
    pick (Scalar.cmpi .ne (Scalar.extui (Scalar.cmpi .eq (me c) w) : BitVec 32) 0#32 = 1#1) p = own (fun _ => p) c s := by
  subst hw; exact pick_own c s (fun _ => p) (word_eq c s)

theorem run_part66 (c : Dev nD) {Q} : run c (app (k0_part66 (F := F))) Q = run c (do
      sigTo c 1; sigTo c 2; sigTo c 3; sigTo c 4; sigTo c 5
      pure ⟨c, me c, SemArray.scalar (sig.barrier 0 rfl), Scalar.addi (me c) 6#32, 8#32⟩) Q := by
  rw [part66_eq]
  exact wp_deviceId 𝒱₀ (c : Thread nD τ) none Set.univ

theorem run_byDev_end (c : Dev nD) (p0 p4 p3 : Code (F := F) PUnit) (R : sProp 𝕄) :
    (run c (own (fun _ => p0) c 0) fun _ => run c (own (fun _ => p4) c 4) fun _ => run c (own (fun _ => p3) c 3) fun _ => iprop(|={Set.univ}=> R))
    = run c (byDev c p0 p4 p3) fun _ => iprop(|={Set.univ}=> R) := run_byDev c p0 p4 p3 (.ret PUnit.unit) (fun _ => R)

set_option maxHeartbeats 2000000 in
theorem run_body (c : Dev nD) (Q : PUnit → sProp 𝕄) : run c (app (cc0_body (F := F))) Q = run c (code c) Q := by
  have h66 {Q} := run_part66 (F := F) c (Q := Q)
  have hend := run_byDev_end (F := F) c
  have hdev p0 p4 p3 {β : Type} k Q := run_byDev (F := F) c p0 p4 p3 (β := β) k Q
  have hown p {β : Type} k Q := run_own (F := F) c p (β := β) k Q
  have hoth p {β : Type} k Q := run_others (F := F) c p (β := β) k Q
  unfold run at *
  unfold code partial_ loads keepSum sum8 sum8b half0 half1 maskI
  rw [cc0_body_eq, part79_eq]
  simp (maxSteps := 10000000) only [wp_bind, h66, Prog.pure_eq_ret, wp_ret, fupd_wp_eq, part67_eq, part68_eq, part69_eq, part70_eq, part71_eq, part72_eq, part73_eq, part74_eq,
    part75_eq, part76_eq, part77_eq, part78_eq, seqL]
  simp (maxSteps := 10000000) only [pick_ag c 1 1#32 rfl, pick_ag c 2 2#32 rfl, pick_ag c 3 3#32 rfl, pick_ag c 4 4#32 rfl, pick_ag c 5 5#32 rfl, pick_ag c 6 6#32 rfl,
    pick_ag c 7 7#32 rfl, pick_dev c 0 0#32 rfl drain0, pick_dev c 4 4#32 rfl drain4, pick_dev c 3 3#32 rfl drain3]
  simp (maxSteps := 10000000) only [hend, hdev]
  simp only [hown]
  simp only [hoth]
  rfl

end Cert.KernelIdeal.Pf

end
-- ==== Proof.Ideal.Dats.lean ====
/-
# 01_k — the pipeline's proof data and the body obligation

The contents of every buffer from the initial memory, what each device holds before and after the kernel's one grid
point, and the body obligation of the pipeline, by the body's rule.
-/
module

public import proofs.«01_k».proof.Proof.Ideal.Whole
public import proofs.«01_k».proof.Proof.Ideal.RunBody
public import proofs.«01_k».proof.Proof.Gen.KernelIdeal.Frame

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## Contents -/

/-- The contents computed from each device's arrays K and V and stages. -/
def mkData (kin vin : Dev nD → S2x256x32x64.Idx → Elt F .f32) (x : Dev nD → Vec F S2x256x512 .f32) (wq : Dev nD → Vec F S512x256 .f32) (wo : Dev nD → Vec F S256x512 .f32) : Data F where
  kin := kin
  vin := vin
  kst := k0_pay1 (kin (0 : Fin 8))
  vst := k0_pay2 (vin (0 : Fin 8))
  part := fun c => partOf (wq c) (x c) (wo c) (fun j => k0_pay1 (kin (0 : Fin 8)) ((colR c).emb j)) (fun j => k0_pay2 (vin (0 : Fin 8)) ((colR c).emb j))
  red := fun d => sum8b fun s => k0_pay3 fun j =>
    partOf (wq s) (x s) (wo s) (fun j => k0_pay1 (kin (0 : Fin 8)) ((colR s).emb j)) (fun j => k0_pay2 (vin (0 : Fin 8)) ((colR s).emb j)) ((rowR d).emb j)

theorem mkData_good (kin vin : Dev nD → S2x256x32x64.Idx → Elt F .f32) (x : Dev nD → Vec F S2x256x512 .f32) (wq : Dev nD → Vec F S512x256 .f32) (wo : Dev nD → Vec F S256x512 .f32) :
    Good (mkData kin vin x wq wo) x wq wo := ⟨rfl, rfl, fun _ => rfl, fun _ => rfl⟩

/-- The stages of the input windows; -/
def xs (c : Dev nD) : Vec F S2x256x512 .f32 := iblk m c 0 t0_0
def wqs (c : Dev nD) : Vec F S512x256 .f32 := iblk m c 1 t0_0
def wos (c : Dev nD) : Vec F S256x512 .f32 := iblk m c 2 t0_0
/-- all contents. -/
def dat : Data F := mkData (fun c => m ((c : Thread nD τ).loc main_arg2)) (fun c => m ((c : Thread nD τ).loc main_arg3)) (xs m) (wqs m) (wos m)

/-! ## The proof data -/

/-- Before the point: the cells' invariants, the memory, the rights to pay, the credits and the positions; -/
def Φ₀ (c : Dev nD) : sProp 𝕄 := iprop((∃ K, env (dat m) K) ∗ held (dat m) c ∗ toks c ∗ crds c ∗ poss c)
/-- after it: the memory and every semaphore at zero. -/
def Φ₁ (c : Dev nD) : sProp 𝕄 := iprop(held (dat m) c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => wqs m c
    | ⟨2, _⟩ => wos m c
    | ⟨3, _⟩ => outOf (dat m) c
  Φ t := match t with
    | ⟨0, _⟩ => Φ₀ m c
    | ⟨_ + 1, _⟩ => Φ₁ m c
  q _ := fullShare
  owed t := match t with
    | ⟨0, _⟩ => tot (dueL c)
    | ⟨_ + 1, _⟩ => 0

/-! ## The body obligation -/

def bodyPre (c : Dev nD) : sProp 𝕄 :=
  iprop(Φ₀ m c ∗ (dats m 0 c).owesAt () t0_0.castSucc
    ∗ (∃ d, owns (c : Thread nD τ) xM fullShare ((dats m 0 c).before (0 : Fin 4) t0_0 d))
    ∗ (∃ d, owns (c : Thread nD τ) wqM fullShare ((dats m 0 c).before (1 : Fin 4) t0_0 d))
    ∗ (∃ d, owns (c : Thread nD τ) woM fullShare ((dats m 0 c).before (2 : Fin 4) t0_0 d))
    ∗ (∃ d, owns (c : Thread nD τ) outM fullShare ((dats m 0 c).before (3 : Fin 4) t0_0 d)))
def bodyPost (c : Dev nD) : sProp 𝕄 :=
  iprop(Φ₁ m c ∗ (dats m 0 c).owesAt () t0_0.succ
    ∗ owns (c : Thread nD τ) xM fullShare (xs m c) ∗ owns (c : Thread nD τ) wqM fullShare (wqs m c) ∗ owns (c : Thread nD τ) woM fullShare (wos m c)
    ∗ owns (c : Thread nD τ) outM fullShare (outOf (dat m) c))

theorem before_x (c : Dev nD) (d) : (dats m 0 c).before (0 : Fin 4) t0_0 d = xs m c := by unfold Dat.before; rw [if_pos (fetch0_0 t0_0)]; rfl
theorem before_wq (c : Dev nD) (d) : (dats m 0 c).before (1 : Fin 4) t0_0 d = wqs m c := by unfold Dat.before; rw [if_pos (fetch0_1 t0_0)]; rfl
theorem before_wo (c : Dev nD) (d) : (dats m 0 c).before (2 : Fin 4) t0_0 d = wos m c := by unfold Dat.before; rw [if_pos (fetch0_2 t0_0)]; rfl

theorem sound_body (c : Dev nD) : bodyPre m c ⊢ run c (app (cc0_body (F := F))) (fun _ => bodyPost m c) := by
  rw [run_body]
  unfold bodyPre Φ₀ Dat.owesAt Pipeline.owesWithin
  simp only [before_x, before_wq, before_wo]
  rw [show (dats m 0 c).owed t0_0.castSucc = tot (dueL c) from rfl]
  iintro ⟨⟨⟨%K, #He⟩, Hh, Ht, Hc, Hp⟩, ⟨%W, -, Ho⟩, ⟨%d0, Hx⟩, ⟨%d1, Hwq⟩, ⟨%d2, Hwo⟩, ⟨%d3, Hout⟩⟩
  iapply (code_rule (dat m) K (mkData_good _ _ (xs m) (wqs m) (wos m)) c) $$ He Hh [Hx Hwq Hwo] [Hout] [Ho] Ht Hc Hp
  · unfold stages; iframe
  · iapply (anyOf_intro (Dev.tc c) outM); iexact Hout
  · unfold dues; iexists W; iexact Ho
  unfold stages
  iintro ⟨Hh, ⟨Hx, Hwq, Hwo⟩, Hout, Ho, Hz⟩
  unfold bodyPost Φ₁ Dat.owesAt Pipeline.owesWithin dues
  rw [show (dats m 0 c).owed t0_0.succ = 0 from rfl]
  icases Ho with ⟨%W', Ho⟩
  isplitl [Hh Hz]; · iframe
  isplitl [Ho]
  · iexists W'
    isplitr; · ipureintro; exact fun _ _ => Or.inl trivial
    iexact Ho
  iframe

theorem body_obligation (c : Dev nD) : BodyObligation (dats (F := F) m 0 c) (defs₀ (F := F)) 𝒱₀ () Set.univ := fun t => by
  rw [fin_N0 t]
  rw [bigSep_W0, bigSep_W0]
  exact sound_body m c

end Cert.KernelIdeal.Pf

end
-- ==== Proof.Ideal.Run.lean ====
/-
# 01_k — the launch and the run

The cells, duty tokens and credits at launch, dealt to the devices; the run of @main, with every argument unchanged,
the result computed and every semaphore back at zero.
-/
module

public import proofs.«01_k».proof.Proof.Ideal.Dats
public import Idealize.ShloMosaic.Lib.Pipeline.CollectiveSegs

@[expose] public section

noncomputable section

namespace Cert.KernelIdeal.Pf

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What is minted -/

theorem option_sep {I : Type} [DecidableEq I] [Fintype I] (A : Option I → sProp 𝕄) : bigSep Finset.univ A = iprop(A none ∗ bigSep Finset.univ fun i => A (some i)) := by
  have h : (Finset.univ : Finset (Option I)) = insert none (Finset.univ.map Function.Embedding.some) := by
    ext x; cases x <;> simp
  rw [h, bigSep_insert (by simp), bigSep_map]
  rfl

theorem kcell_injective : Function.Injective (fun ck : Dev nD × Option Use => cell ck.1 ck.2) :=
  fun a b h => Prod.ext (cell_inj h).1 (cell_inj h).2
def kCells : Finset (GSem nD τ sig) := Finset.univ.map ⟨_, kcell_injective⟩

/-- A duty: the device and semaphore it credits, and its name. -/
abbrev Duty : Type := Dev nD × Option Use × Dev nD
/-- Those device `c` pays. -/
def payL (c : Fin 8) : List Duty :=
  (others c).map (fun t => (t, none, c)) ++ ((farD c).map (fun p => (p.1, some p.2, (0 : Fin 8))) ++ (sendL c).map (fun k => (c, some k, (0 : Fin 8))))
def allPay : List Duty := eight.flatMap payL
set_option maxRecDepth 100000 in
theorem allPay_nodup : allPay.Nodup := by decide +kernel

theorem tokOf_injective : Function.Injective (fun x : Duty => ((cell x.1 x.2.1, 0, x.2.2) : GSem nD τ sig × ℕ × Dev nD)) := by
  rintro ⟨t, k, d⟩ ⟨t', k', d'⟩ h
  have h1 := cell_inj (congrArg Prod.fst h)
  have h2 : d = d' := congrArg (fun x => x.2.2) h
  obtain ⟨h3, h4⟩ := h1
  dsimp only at h3 h4
  subst h2 h3 h4; rfl
def kToks : Finset (GSem nD τ sig × ℕ × Dev nD) := allPay.toFinset.map ⟨_, tokOf_injective⟩

def u₀ : UU :=
  (initOf (Pipeline.cells cfgs cellOf_inj) (Pipeline.launchToks cfgs cellOf_inj), initOf kCells kToks)

/-- What each device is dealt. -/
def G (c : Dev nD) : sProp 𝕄 :=
  iprop((bigSep Finset.univ fun k => roundState ER (sched (dat m)) (cell c k) 0)
    ∗ (bigSep Finset.univ fun k => iprop(atPos ER (cell c k) 0 ∅ 0 ∗ reached ER (cell c k) 0)) ∗ toks c)
/-- What it starts from. -/
def G' (c : Dev nD) : sProp 𝕄 := iprop((∃ K, records (dat m) K) ∗ toks c ∗ poss c)

theorem toks_eq : bigSep kToks (fun x => (dutyTok ER x.1 x.2.1 x.2.2 : sProp 𝕄)) = bigSep Finset.univ fun c : Dev nD => toks c := by
  unfold kToks
  rw [bigSep_map]
  refine (bigSep_eq_bigSepL allPay allPay_nodup (fun x : Duty => tok x.1 x.2.1 x.2.2)).trans ?_
  unfold allPay
  rw [sepL_flat, ← eight_sep]
  refine bigSep_congr fun c _ => ?_
  unfold payL toks
  rw [bigSepL_append, bigSepL_append, bigSepL_map, bigSepL_map, bigSepL_map]

theorem fund : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Option Use => Φ (cell c k) := by
    unfold kCells; rw [bigSep_map, bigSep_univ_prod]; rfl
  iintro HX
  imod (Rounds.fund ER (sched (dat m)) kCells kToks) $$ HX with ⟨Hst, Hr, Hat, Htok⟩
  imodintro
  ihave Hst := (Entails.of_eq (hX fun g => roundState ER (sched (dat m)) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G
  rw [bigSep_sep', bigSep_sep', bigSep_congr (s := Finset.univ) (fun (c : Dev nD) _ =>
    bigSep_sep' Finset.univ (fun k : Option Use => (atPos ER (cell c k) 0 ∅ 0 : sProp 𝕄)) (fun k => reached ER (cell c k) 0)), bigSep_sep']
  iframe

/-! ## The invariants -/

theorem unscopedSems0_eq (c : Dev nD) : (unscopedSems0 c : sProp 𝕄) = zero c none := by
  unfold unscopedSems0; rw [bigSep_eq_bigSepL_of_eq [SemLoc.reg barS] (by decide +kernel) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun k => zero c (some k) := rfl
theorem zeros_eq (c : Dev nD) : (zeros c : sProp 𝕄) = bigSep Finset.univ fun k => zero c k := by
  unfold zeros; rw [option_sep]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (dat m)) κ (cell c k)))
          ∗ (bigSep Finset.univ fun k => iprop(atPos ER (cell c k) 0 ∅ 0 ∗ reached ER (cell c k) 0)) ∗ toks c) := by
  unfold G
  rw [ownSems0_eq, unscopedSems0_eq]
  iintro ⟨Hos, Hus, Hst, Hat, Htok⟩
  ihave Hv := (show iprop(zero c none ∗ bigSep Finset.univ fun k => zero c (some k)) ⊢ (bigSep Finset.univ fun k => zero c k : sProp 𝕄) from
    Entails.of_eq (option_sep fun k => zero c k).symm) $$ [Hos Hus]
  · iframe
  imod (show iprop((bigSep Finset.univ fun k => zero c k) ∗ bigSep Finset.univ fun k => roundState ER (sched (dat m)) (cell c k) 0)
      ⊢ (|={Set.univ}=> bigSep Finset.univ fun k => iprop(∃ κ : ℕ, cellInv ER (sched (dat m)) κ (cell c k)) : sProp 𝕄) from by
        rw [← bigSep_sep']
        exact (bigSep_mono fun k _ => (Rounds.body_intro ER (sched (dat m)) (cell c k)).trans inv_alloc).trans (bigSep_fupd _ _)) $$ [Hv Hst] with Hinv
  · iframe
  imodintro
  iframe

theorem regroup :
    (bigSep Finset.univ fun c : Dev nD => iprop((bigSep Finset.univ fun k => iprop(∃ κ : ℕ, cellInv ER (sched (dat m)) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Option Use => iprop(∃ κ : ℕ, cellInv ER (sched (dat m)) κ (cell ck.1 ck.2))),
    bigSep_congr (s := Finset.univ) (fun (c : Dev nD) _ => bigSep_sep' Finset.univ (fun k : Option Use => (atPos ER (cell c k) 0 ∅ 0 : sProp 𝕄)) (fun k => reached ER (cell c k) 0)),
    bigSep_sep', ← bigSep_univ_prod (fun ck : Dev nD × Option Use => (reached ER (cell ck.1 ck.2) 0 : sProp 𝕄))]
  iintro ⟨HI, ⟨Hat, #HR⟩, Htok⟩
  ihave HK := (BI.bigSep_exists_pi Finset.univ (fun (ck : Dev nD × Option Use) (κ : ℕ) => (cellInv ER (sched (dat m)) κ (cell ck.1 ck.2) : sProp 𝕄))) $$ HI
  icases HK with ⟨%K, #HI⟩
  iapply (show iprop(records (dat m) K ∗ (bigSep Finset.univ fun c : Dev nD => toks c) ∗ bigSep Finset.univ fun c : Dev nD => bigSep Finset.univ fun k : Option Use => (atPos ER (cell c k) 0 ∅ 0 : sProp 𝕄))
      ⊢ bigSep Finset.univ (G' m) by
    rw [← bigSep_sep' Finset.univ (fun c : Dev nD => toks c)]
    refine (sep_mono_left (BI.bigSep_of_persistent (Finset.univ : Finset (Dev nD)) (records (dat m) K))).trans ?_
    rw [← bigSep_sep']
    refine bigSep_mono fun c _ => ?_
    unfold G' poss
    rw [option_sep]
    show iprop(records (dat m) K ∗ toks c ∗ pos c none ∗ bigSep Finset.univ fun k => pos c (some k))
      ⊢ (iprop((∃ K, records (dat m) K) ∗ toks c ∗ pos c none ∗ bigSep Finset.univ fun k => pos c (some k)) : sProp 𝕄)
    iintro ⟨#HR, Ht, Hp⟩
    isplitr; · iexists K; iexact HR
    isplitl [Ht]; · iexact Ht
    iexact Hp)
  isplitr
  · unfold records; isplitr; · iexact HI
    iexact HR
  iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem tot_count (l : List Due) (c : Dev nD) (k : Option Use) : tot l (cell c k) () = l.count (c, k) * dueAmt k := by
  induction l with
  | nil => rw [List.count_nil, Nat.zero_mul]; rfl
  | cons p l ih =>
    rw [tot_cons, Pi.add_apply, Finsupp.add_apply, ih, List.count_cons]
    unfold dueAt
    rw [tallyAt_apply]
    by_cases h : p = (c, k)
    · subst h
      rw [if_pos ⟨rfl, rfl⟩, beq_self_eq_true, if_pos rfl, Nat.add_mul, Nat.one_mul]
    · rw [if_neg fun h' => h (Prod.ext (cell_inj h'.1).1.symm (cell_inj h'.1).2.symm), if_neg (by simpa using h), Nat.add_zero, Nat.add_zero]

set_option maxRecDepth 100000 in
theorem count_bar : ∀ c : Fin 8, (∑ d : Fin 8, (dueL d).count (c, none)) = 7 := by decide +kernel
set_option maxRecDepth 100000 in
theorem count_recv : ∀ c : Fin 8, ∀ k ∈ recvL c, (∑ d : Fin 8, (dueL d).count (c, some k)) = 1 := by decide +kernel
set_option maxRecDepth 100000 in
theorem recvL_nodup : ∀ c : Fin 8, (none :: (recvL c).map some).Nodup := by decide +kernel

abbrev O₀ (c : Dev nD) : CellTallies nD τ sig Unit := tot (dueL c)

theorem launch_credit (c : Fin 8) (k : Option Use) (n : ℕ) (h : (∑ d : Fin 8, (dueL d).count (c, k)) = n) :
    tallyOn (cell c k) (launchCredit (Pipeline.owing O₀) 0 (cell c k)) = (tallyAt (cell c k) () (n * dueAmt k) : CellTallies nD τ sig Unit) := by
  unfold tallyAt; refine congrArg _ (Finsupp.ext fun u => ?_); cases u
  rw [Pipeline.launchCredit_owing, Finsupp.single_eq_same, Finset.sum_congr rfl fun d _ => tot_count (dueL d) c k, ← Finset.sum_mul]
  exact congrArg (· * dueAmt k) h

theorem creds (c : Dev nD) : (Pipeline.launchCred O₀ c : sProp 𝕄) ⊢ crds c := by
  unfold Pipeline.launchCred
  refine (bigSep_subset (Finset.subset_univ ((none :: (recvL c).map some).toFinset.map ⟨csem, csem_injective⟩))).trans ?_
  rw [bigSep_map, bigSep_eq_bigSepL _ (recvL_nodup c), bigSepL_cons', bigSepL_map]
  unfold crds
  refine sep_mono (Entails.of_eq ?_) (bigSepL_mono fun k hk => Entails.of_eq ?_)
  · exact congrArg cred (launch_credit c none 7 (count_bar c))
  · unfold crd
    exact congrArg cred ((launch_credit c (some k) 1 (count_recv c k hk)).trans (by rw [Nat.one_mul]; rfl))

/-! ## The run -/

/-- The arrays K and V, which no window stages. -/
def kvPts (c : Dev nD) : sProp 𝕄 :=
  iprop((((c : Thread nD τ).loc main_arg2) ↦{fullShare} m ((c : Thread nD τ).loc main_arg2)) ∗ (((c : Thread nD τ).loc main_arg3) ↦{fullShare} m ((c : Thread nD τ).loc main_arg3)))

def start (c : Dev nD) : sProp 𝕄 := iprop((∃ K, env (dat m) K) ∗ kvPts m c ∗ toks c ∗ crds c ∗ poss c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hkv, #Hlev, Hcr, -, HG⟩
  ihave Hc := (creds (F := F) c) $$ Hcr
  unfold G'
  icases HG with ⟨⟨%K, #HR⟩, Ht, Hp⟩
  imodintro
  isplitl
  · unfold start env kvPts
    isplitr
    · iexists K; isplitr; · iexact HR
      iexact Hlev
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start kvPts Φ₀ held scratch
  simp only [anyOf_whole, owns_whole]
  iintro ⟨⟨He, ⟨Hk, Hv⟩, Ht, Hc, Hp⟩, -, Hr⟩
  isplitl [He]; · iexact He
  isplitl [Hk Hv Hr]
  · isplitl [Hk]; · iexact Hk
    isplitl [Hv]; · iexact Hv
    iexact Hr
  iframe

theorem phi1_exit (c : Dev nD) :
    (dats m 0 c).Φ (Fin.last cfg0.N) ⊢ iprop((unscopedSems0 c ∗ kvPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold kvPts Φ₁ held scratch zeros
  simp only [anyOf_whole, owns_whole]
  iintro ⟨⟨Hk, Hv, Hr⟩, Hzb, Hz⟩
  isplitl [Hzb Hk Hv]
  · isplitl [Hzb]; · iexact Hzb
    isplitl [Hk]; · iexact Hk
    iexact Hv
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => by
    have h (l : List Due) (hl : ∀ p ∈ l, 0 < lvU p.2) : (levAts L lv : sProp 𝕄) ⊢ MayWait (c : Thread nD τ) (.dma ((cfg0.spec w).sem s)) () (tot l) :=
      mayWait c (.dma ((cfg0.spec w).sem s)) l fun p hp => by
        rw [show lv ((c : Thread nD τ), SemLoc.dma ((cfg0.spec w).sem s)) () = 0 by unfold lv; rw [useOf_stage]]
        exact hl p hp
    rcases t with ⟨_ | _, ht⟩
    · exact h (dueL c) (dueL_pos c)
    · exact h [] nolater

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  icombine HSI Hi gives %h
  isplitr
  · ipureintro; exact Buf.eq_of_forall_mem_univ h
  iexact HSI

/-- The contents of a window's array after the run. -/
def finalA (c : Dev nD) (w : Fin cfg0.W) : Buf (Elt F) ((cfg0.win w).arr.view.loc (c : Thread nD τ)) := (dats m 0 c).arrAt w cfg0.N

def Final (s : MemSt nD τ sig (Elt F)) : Prop := ∀ c : Dev nD,
  (∀ w : Fin cfg0.W, s.mem ((cfg0.win w).arr.view.loc (c : Thread nD τ)) = finalA m c w)
  ∧ s.mem ((c : Thread nD τ).loc main_arg2) = m ((c : Thread nD τ).loc main_arg2)
  ∧ s.mem ((c : Thread nD τ).loc main_arg3) = m ((c : Thread nD τ).loc main_arg3)

set_option maxRecDepth 8000 in
/-- On eight devices, from any memory with every semaphore at zero, every fair execution of @main ends, each device's
    result as computed, its arguments unchanged and every semaphore at zero. -/
theorem run_main : θ_run defs (onTc (τ := τ) (main (F := F))) ⟨m, fun _ => 0, ρ⟩ (fun r => Final m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ kvPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold kvPts
      iintro ⟨⟨Hu, Hk, Hv⟩, -, HSI⟩
      icases (read_one _ _ s') $$ [Hk HSI] with ⟨%hk, HSI⟩
      · iframe
      icases (read_one _ _ s') $$ [Hv HSI] with ⟨%hv, HSI⟩
      · iframe
      imod (Pipeline.unscopedSems0_read (X := unscopedSems0 c) (c := c) fupd_intro s') $$ [Hu HSI] with ⟨%hs, HSI⟩
      · iframe
      imodintro
      isplitr; · ipureintro; exact ⟨hs, hk, hv⟩
      iexact HSI)
    (hQ := fun _ h hs => ⟨fun c => ⟨(h c).1, (h c).2.2.2⟩, sem_eq_zero hs fun c => (h c).2.2.1⟩)

/-- The arguments of every device are unchanged. -/
theorem Final.args {s : MemSt nD τ sig (Elt F)} (h : Final m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4) :=
  ⟨((h c).1 (0 : Fin 4)).trans ((dats m 0 c).arrAt_in 0 rfl _), ((h c).1 (1 : Fin 4)).trans ((dats m 0 c).arrAt_in 1 rfl _),
    (h c).2.1, (h c).2.2, ((h c).1 (2 : Fin 4)).trans ((dats m 0 c).arrAt_in 2 rfl _)⟩

end Cert.KernelIdeal.Pf

end
-- ==== Proof.Value.Soft.lean ====
/-
  The softmax of a row of scores over the extended reals, and its one fact here: scores of −∞ at further keys change
  neither the row's weights nor a weighted sum, because their exponentials are zero.
-/
module

public import Idealize.ShloMosaic.PureOps.Ideal
public import Idealize.ShloMosaic.PureOps.Ideal.Laws
public import Mathlib.Tactic.Ring

@[expose] public section

namespace Cert.Val

open Idealize.ShloMosaic

open scoped BigOperators

/-- The largest of a row of scores. -/
noncomputable def top {n : ℕ} (s : Fin n → EReal) : EReal := Finset.univ.fold max ⊥ s

/-- The weight of a key: its exponential over the row's sum of exponentials. -/
noncomputable def wt {n : ℕ} (s : Fin n → EReal) (j : Fin n) : EReal :=
  Ideal.div (Ideal.exp (s j - top s)) (∑ k, Ideal.exp (s k - top s))

theorem le_top {n : ℕ} (s : Fin n → EReal) (j : Fin n) : s j ≤ top s :=
  (Finset.le_fold_max (s j)).2 (.inr ⟨j, Finset.mem_univ j, le_rfl⟩)

theorem top_le {n : ℕ} (s : Fin n → EReal) (a : EReal) (h : ∀ j, s j ≤ a) : top s ≤ a :=
  (Finset.fold_max_le a).2 ⟨bot_le, fun j _ => h j⟩

/-- A row that has a score has a largest one. -/
theorem exists_top {n : ℕ} (s : Fin n → EReal) (j0 : Fin n) : ∃ j, s j = top s := by
  obtain ⟨j, -, hj⟩ := Finset.exists_max_image Finset.univ s ⟨j0, Finset.mem_univ j0⟩
  exact ⟨j, le_antisymm (le_top s j) (top_le s _ fun k => hj k (Finset.mem_univ k))⟩

theorem exp_bot_sub (a : EReal) : Ideal.exp (⊥ - a) = 0 := by
  rw [EReal.bot_sub]; rfl

theorem exp_nonneg (a : EReal) : 0 ≤ Ideal.exp a := by
  induction a using EReal.rec with
  | bot => exact le_rfl
  | top => exact _root_.le_top
  | coe r => exact EReal.coe_nonneg.2 (Real.exp_pos r).le

/-- A row with a real score and no score of +∞ has a sum of exponentials that is not zero. -/
theorem sum_ne_zero {n : ℕ} (s : Fin n → EReal) (j0 : Fin n) (h0 : s j0 ≠ ⊥) (h : ∀ j, s j ≠ ⊤) :
    (∑ k, Ideal.exp (s k - top s)) ≠ 0 := by
  obtain ⟨j, hj⟩ := exists_top s j0
  have hb : s j ≠ ⊥ := fun e => h0 (le_bot_iff.1 ((le_top s j0).trans (hj ▸ e).le))
  have h1 : Ideal.exp (s j - top s) = 1 := by
    rw [← hj, EReal.sub_self (h j) hb]
    show ((Real.exp 0 : ℝ) : EReal) = 1
    rw [Real.exp_zero]; rfl
  have hle := Finset.single_le_sum (f := fun k => Ideal.exp (s k - top s)) (fun k _ => exp_nonneg _) (Finset.mem_univ j)
  rw [h1] at hle
  exact fun e => absurd (e ▸ hle) (by norm_num)

theorem div_zero_left (l : EReal) (h : l ≠ 0) : Ideal.div 0 l = 0 := by
  unfold Ideal.div; rw [if_neg h, zero_mul]

theorem coe_sum {n : ℕ} (f : Fin n → ℝ) : ((∑ d, f d : ℝ) : EReal) = ∑ d, (f d : EReal) := by
  refine Finset.induction_on (Finset.univ : Finset (Fin n)) (by simp) fun a S ha ih => ?_
  rw [Finset.sum_insert ha, Finset.sum_insert ha, EReal.coe_add, ih]

/-- A score of real queries and keys: the factor on each query moves out of the sum. -/
theorem dot_scale {n : ℕ} (c : ℝ) (a b : Fin n → EReal) (ha : ∀ d, ∃ r : ℝ, a d = r) (hb : ∀ d, ∃ r : ℝ, b d = r) :
    ∑ d, a d * (c : EReal) * b d = (∑ d, a d * b d) * (c : EReal) := by
  choose r hr using ha
  choose t ht using hb
  simp only [hr, ht, ← EReal.coe_mul]
  rw [← coe_sum, ← coe_sum, ← EReal.coe_mul, Finset.sum_mul]
  exact congrArg _ (Finset.sum_congr rfl fun d _ => by ring)

/-- A sum of products of reals is a real. -/
theorem dot_real {n : ℕ} (a b : Fin n → EReal) (ha : ∀ d, ∃ r : ℝ, a d = r) (hb : ∀ d, ∃ r : ℝ, b d = r) :
    ∃ r : ℝ, ∑ d, a d * b d = r := by
  choose r hr using ha
  choose t ht using hb
  exact ⟨∑ d, r d * t d, by simp only [hr, ht, ← EReal.coe_mul, coe_sum]⟩

variable {n N : ℕ} (e : Fin n → Fin N) (s : Fin N → EReal)

theorem top_extend (hout : ∀ k, (∀ j, e j ≠ k) → s k = ⊥) : top (fun j => s (e j)) = top s := by
  refine le_antisymm (top_le _ _ fun j => le_top s (e j)) (top_le _ _ fun k => ?_)
  by_cases hk : ∃ j, e j = k
  · obtain ⟨j, rfl⟩ := hk
    exact le_top (fun j => s (e j)) j
  · rw [hout k fun j hj => hk ⟨j, hj⟩]; exact bot_le

/-- A sum over all keys of a term that is zero off the first ones is the sum over those. -/
theorem sum_extend (he : Function.Injective e) (f : Fin N → EReal) (hf : ∀ k, (∀ j, e j ≠ k) → f k = 0) :
    ∑ k, f k = ∑ j, f (e j) :=
  by
  refine Eq.trans ?_ (Finset.sum_map Finset.univ ⟨e, he⟩ f)
  exact (Finset.sum_subset (Finset.subset_univ _) fun k _ hk => hf k fun j hj => hk
    (Finset.mem_map.2 ⟨j, Finset.mem_univ j, hj⟩)).symm

/-- Keys scored −∞ add nothing to a row's weighted sum. -/
theorem soft_extend (he : Function.Injective e) (hout : ∀ k, (∀ j, e j ≠ k) → s k = ⊥) (j0 : Fin n)
    (h0 : s (e j0) ≠ ⊥) (h : ∀ j, s (e j) ≠ ⊤) (v : Fin N → EReal) :
    ∑ k, v k * wt s k = ∑ j, wt (fun j => s (e j)) j * v (e j) := by
  have hs : ∑ k, Ideal.exp (s k - top s) = ∑ j, Ideal.exp (s (e j) - top fun j => s (e j)) := by
    rw [top_extend e s hout]
    exact sum_extend e he (fun k => Ideal.exp (s k - top s)) fun k hk => by rw [hout k hk, exp_bot_sub]
  have hne := sum_ne_zero (fun j => s (e j)) j0 h0 h
  rw [sum_extend e he (fun k => v k * wt s k) fun k hk => ?_]
  · refine Finset.sum_congr rfl fun j _ => ?_
    rw [mul_comm]
    unfold wt
    rw [hs, top_extend e s hout]
  · unfold wt
    rw [hs, hout k hk, exp_bot_sub, div_zero_left _ hne, mul_zero]

end Cert.Val
-- ==== Proof.Value.Words.lean ====
/-
  Small facts on words and constants that the kernel and the reference share.
-/
module

public import Idealize.ShloMosaic.PureOps.Ideal
public import Idealize.ShloMosaic.Lib.IdealHost

@[expose] public section

namespace Cert.Val

open Idealize.ShloMosaic

/-- Small words compare as their numbers. -/
theorem sle_iff : ∀ a b : Fin 32, IntOp.cmpi CmpIPredicate.sle (BitVec.ofNat 32 a.val) (BitVec.ofNat 32 b.val) = 1#1 ↔ a.val ≤ b.val := by
  decide

theorem ori_one : ∀ r : BitVec 1, IntOp.ori 1#1 r = 1#1 := by decide

/-- The f32 pattern of −∞; -/
theorem ofBits_bot : Ideal.ofBits .f32 0xFF800000#32 = ⊥ := by simp [Ideal.ofBits, Ideal.ieee]

/-- of one eighth. -/
theorem ofBits_eighth : Ideal.ofBits .f32 0x3E000000#32 = ((1 / 8 : ℝ) : EReal) := by
  simp [Ideal.ofBits, Ideal.ieee, -EReal.coe_mul]; norm_num

/-- A choice by a bit. -/
theorem select_eq_ite {α : Type} (b : BitVec 1) (x y : α) : Scalar.select b x y = if b = 1#1 then x else y := rfl

end Cert.Val
-- ==== Proof.Value.Head.lean ====
/-
  One head of the kernel's attention, over its 256 keys: what the printed operations compute, and the same read at an
  index. The four heads of a batch are this definition at four slices of the columns.
-/
module

public import proofs.«01_k».proof.Proof.Ideal.Body
public import proofs.«01_k».proof.Proof.Value.Soft
public import proofs.«01_k».proof.Proof.Value.Words
public import Idealize.ShloMosaic.Lib.Pointwise

@[expose] public section

namespace Cert.Val

open Idealize.ShloMosaic
open Cert.KernelIdeal Cert.KernelIdeal.Gen Cert.KernelIdeal.Pf

/-- The masked scores of a head, -/
noncomputable def scores (mask : IVec S256x256 1) (q k : FVec Ideal S256x64 .bf16) : FVec Ideal S256x256 .f32 :=
  select mask (matmul dot_S256x64_S256x64_S256x256_1_1_0_0_n_n none q k (constant S256x256 .f32 0x00000000#32))
    (broadcast S256x256 (Named.named κ "mask" 0xCE6E6B28#32))

/-- their exponentials, -/
noncomputable def exps (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- their quotients by the row's sum, -/
noncomputable def weights (e : FVec Ideal S256x256 .f32) : FVec Ideal S256x256 .f32 :=
  divf e (broadcastTo S256x256 (shapeCast S256x1 (multiReduction .add [1] S256 e 0x00000000#32 reduces_S256x256_S256 (.inl rfl) rfl)
    shapeCasts_S256_S256x1) broadcasts_S256x1_S256x256)

/-- and the head's part of the product with Wo. -/
noncomputable def head (mask : IVec S256x256 1) (q k v : FVec Ideal S256x64 .bf16) (wo : FVec Ideal S64x512 .bf16) : FVec Ideal S256x512 .f32 :=
  matmul dot_S256x64_S64x512_S256x512_1_0_0_1_n_n none
    (truncf .bf16 (matmul dot_S256x256_S256x64_S256x64_1_0_0_1_n_n none (truncf .bf16 (weights (exps (scores mask q k))) bitsLt_bf16_f32) v
      (constant S256x64 .f32 0x00000000#32)) bitsLt_bf16_f32) wo (constant S256x512 .f32 0x00000000#32)

/-- A batch of the partial product is the sum of its four heads. -/
noncomputable def batch (q k v : FVec Ideal S256x256 .bf16) (wo : FVec Ideal S256x512 .bf16) : FVec Ideal S1x256x512 .bf16 :=
  shapeCast S1x256x512 (truncf .bf16 (addf (addf (addf (addf (broadcast S256x512 (Scalar.ofBits .f32 0x00000000#32))
      (head maskI (extractStridedSlice S256x64 ![0, 0] q slices_S256x256_o0_0_S256x64)
          (extractStridedSlice S256x64 ![0, 0] k slices_S256x256_o0_0_S256x64)
          (extractStridedSlice S256x64 ![0, 0] v slices_S256x256_o0_0_S256x64)
          (extractStridedSlice S64x512 ![0, 0] wo slices_S256x512_o0_0_S64x512)))
      (head maskI (extractStridedSlice S256x64 ![0, 64] q slices_S256x256_o0_64_S256x64)
          (extractStridedSlice S256x64 ![0, 64] k slices_S256x256_o0_64_S256x64)
          (extractStridedSlice S256x64 ![0, 64] v slices_S256x256_o0_64_S256x64)
          (extractStridedSlice S64x512 ![64, 0] wo slices_S256x512_o64_0_S64x512)))
      (head maskI (extractStridedSlice S256x64 ![0, 128] q slices_S256x256_o0_128_S256x64)
          (extractStridedSlice S256x64 ![0, 128] k slices_S256x256_o0_128_S256x64)
          (extractStridedSlice S256x64 ![0, 128] v slices_S256x256_o0_128_S256x64)
          (extractStridedSlice S64x512 ![128, 0] wo slices_S256x512_o128_0_S64x512)))
      (head maskI (extractStridedSlice S256x64 ![0, 192] q slices_S256x256_o0_192_S256x64)
          (extractStridedSlice S256x64 ![0, 192] k slices_S256x256_o0_192_S256x64)
          (extractStridedSlice S256x64 ![0, 192] v slices_S256x256_o0_192_S256x64)
          (extractStridedSlice S64x512 ![192, 0] wo slices_S256x512_o192_0_S64x512))) bitsLt_bf16_f32) shapeCasts_S256x512_S1x256x512

theorem half0_eq (wq : Vec Ideal S512x256 .f32) (x : Vec Ideal S1x256x512 .f32) (wo : Vec Ideal S256x512 .f32) (k v : Vec Ideal S1x256x256 .bf16) :
    half0 wq x wo k v = batch (k0_pay14 wq x) (k0_pay22 k) (k0_pay23 v) (k0_pay21 wo) := by
  rfl

theorem half1_eq (wq : Vec Ideal S512x256 .f32) (x : Vec Ideal S1x256x512 .f32) (wo : Vec Ideal S256x512 .f32) (k v : Vec Ideal S1x256x256 .bf16) :
    half1 wq x wo k v = batch (k0_pay14 wq x) (k0_pay22 k) (k0_pay23 v) (k0_pay21 wo) := by
  rfl

theorem mask_bot : (Named.named κ "mask" 0xCE6E6B28#32 : Ideal .f32) = ⊥ :=
  IdealRules.named_const.ideal_named_scalar _ _ _ _ rfl

theorem scores_apply (mask : IVec S256x256 1) (q k : FVec Ideal S256x64 .bf16) (i j : Fin 256) :
    scores mask q k (ix2 i j) = if mask (ix2 i j) = 1#1 then ∑ d : Fin 64, q (ix2 i d) * k (ix2 j d) else ⊥ := by
  pointwise [scores]
  rw [mask_bot]; rfl

theorem exps_apply (s : FVec Ideal S256x256 .f32) (i j : Fin 256) :
    exps s (ix2 i j) = Ideal.exp (s (ix2 i j) - top fun j => s (ix2 i j)) := by
  pointwise [exps]
  rw [ofBits_bot]; rfl

theorem weights_apply (e : FVec Ideal S256x256 .f32) (i j : Fin 256) :
    weights e (ix2 i j) = Ideal.div (e (ix2 i j)) (∑ k : Fin 256, e (ix2 i k)) := by
  pointwise [weights]

theorem head_apply (mask : IVec S256x256 1) (q k v : FVec Ideal S256x64 .bf16) (wo : FVec Ideal S64x512 .bf16) (i : Fin 256) (f : Fin 512) :
    head mask q k v wo (ix2 i f) = ∑ d : Fin 64, (∑ j : Fin 256,
      wt (fun j => if mask (ix2 i j) = 1#1 then ∑ d : Fin 64, q (ix2 i d) * k (ix2 j d) else ⊥) j * v (ix2 j d)) * wo (ix2 d f) := by
  pointwise [head]
  simp only [weights_apply, exps_apply, scores_apply, wt]

/-- Column `64h + d`: dimension `d` of a device's head `h`. -/
def col (h : Fin 4) (d : Fin 64) : Fin 256 := ⟨64 * h.val + d.val, by omega⟩

/-- The masked scores of row `i` in head `h`. -/
noncomputable def row (q k : Fin 256 → Fin 256 → EReal) (h : Fin 4) (i : Fin 256) : Fin 256 → EReal := fun j =>
  if maskI (ix2 i j) = 1#1 then ∑ d : Fin 64, q i (col h d) * k j (col h d) else ⊥

theorem row_eq (q k : Fin 256 → Fin 256 → EReal) (h : Fin 4) (i : Fin 256) :
    row q k h i = fun j => if maskI (ix2 i j) = 1#1 then ∑ d : Fin 64, q i (col h d) * k j (col h d) else ⊥ := rfl

theorem batch_apply (q k v : FVec Ideal S256x256 .bf16) (wo : FVec Ideal S256x512 .bf16) (i : Fin 256) (f : Fin 512) :
    batch q k v wo (ix3 0 i f) = ∑ h : Fin 4, ∑ d : Fin 64, (∑ j : Fin 256,
      wt (row (fun i n => q (ix2 i n)) (fun i n => k (ix2 i n)) h i) j * v (ix2 j (col h d))) * wo (ix2 (col h d) f) := by
  rw [Fin.sum_univ_four]
  pointwise [batch]
  simp only [head_apply]
  pointwise []
  have c0 : ∀ d : Fin 64, col 0 d = ⟨d.val, by omega⟩ := fun d => Fin.ext (by show 64 * 0 + d.val = d.val; omega)
  have c1 : ∀ d : Fin 64, col 1 d = ⟨64 + d.val, by omega⟩ := fun d => rfl
  have c2 : ∀ d : Fin 64, col 2 d = ⟨128 + d.val, by omega⟩ := fun d => rfl
  have c3 : ∀ d : Fin 64, col 3 d = ⟨192 + d.val, by omega⟩ := fun d => rfl
  simp only [row_eq, c0, c1, c2, c3]

end Cert.Val
-- ==== Proof.Value.Project.lean ====
/-
  The queries of a device read at an index, and the copies of a slice that the device multiplies.
-/
module

public import proofs.«01_k».proof.Proof.Value.Head
public import Idealize.ShloMosaic.Lib.IdealHost

@[expose] public section

namespace Cert.Val

open Idealize.ShloMosaic
open Cert.KernelIdeal Cert.KernelIdeal.Gen Cert.KernelIdeal.Pf

theorem q_apply (wq : Vec Ideal S512x256 .f32) (x : Vec Ideal S1x256x512 .f32) (i n : Fin 256) :
    k0_pay14 wq x (ix2 i n) = (∑ e : Fin 512, x (ix3 0 i e) * wq (ix2 e n)) * ((1 / 8 : ℝ) : EReal) := by
  pointwise [k0_pay14, k0_pay13]
  rw [ofBits_eighth]

theorem k_apply (k : Vec Ideal S1x256x256 .bf16) (i n : Fin 256) : k0_pay22 k (ix2 i n) = k (ix3 0 i n) := by
  pointwise [k0_pay22]

theorem v_apply (k : Vec Ideal S1x256x256 .bf16) (i n : Fin 256) : k0_pay23 k (ix2 i n) = k (ix3 0 i n) := by
  pointwise [k0_pay23]

theorem wo_apply (wo : Vec Ideal S256x512 .f32) (n : Fin 256) (f : Fin 512) : k0_pay21 wo (ix2 n f) = wo (ix2 n f) := by
  pointwise [k0_pay21]

theorem kst_apply (k : Vec Ideal S2x256x32x64 .f32) (b : Fin 2) (j : Fin 256) (n : Fin 2048) :
    k0_pay1 k (ix3 b j n) = k (ix4 b j ⟨n.val / 64, by omega⟩ ⟨n.val % 64, by omega⟩) := by
  pointwise [k0_pay1]
  done

theorem vst_apply (k : Vec Ideal S2x256x32x64 .f32) (b : Fin 2) (j : Fin 256) (n : Fin 2048) :
    k0_pay2 k (ix3 b j n) = k (ix4 b j ⟨n.val / 64, by omega⟩ ⟨n.val % 64, by omega⟩) := by
  pointwise [k0_pay2]
  done

theorem sum8_apply (r : Fin 8 → Vec Ideal S1x2x32x512 .bf16) (b : Fin 2) (i : Fin 32) (f : Fin 512) :
    sum8 r (ix3 b i f) = ∑ t, r t (ix4 0 b i f) := by
  rw [Fin.sum_univ_eight]
  pointwise [sum8, k0_pay38, k0_pay39, k0_pay40]

theorem sum8b_apply (r : Fin 8 → Vec Ideal S1x2x32x512 .bf16) (b : Fin 2) (i : Fin 32) (f : Fin 512) :
    sum8b r (ix3 b i f) = ∑ t, r t (ix4 0 b i f) := by
  rw [Fin.sum_univ_eight]
  pointwise [sum8b, k0_pay38, k0_pay39, k0_pay40, k0_pay41]

theorem pay3_apply (r : Vec Ideal S2x32x512 .bf16) (b : Fin 2) (i : Fin 32) (f : Fin 512) :
    k0_pay3 r (ix4 0 b i f) = r (ix3 b i f) := by
  pointwise [k0_pay3]

theorem pay42_apply (r : Vec Ideal S1x2x32x512 .bf16) (b : Fin 2) (i : Fin 32) (f : Fin 512) :
    k0_pay42 r (ix3 b i f) = r (ix4 0 b i f) := by
  pointwise [k0_pay42]

end Cert.Val
-- ==== Proof.Value.Parts.lean ====
/-
  A device's partial product and the result read at an index: the result is the sum of the eight devices' partial products.
-/
module

public import proofs.«01_k».proof.Proof.Value.Project
public import proofs.«01_k».proof.Proof.Ideal.Dats

@[expose] public section

namespace Cert.Val

open Idealize.ShloMosaic
open Cert.KernelIdeal Cert.KernelIdeal.Gen Cert.KernelIdeal.Pf

theorem half_emb (b : Fin 2) (i : Fin 256) (e : Fin 512) : (halfR b).emb (ix3 0 i e) = ix3 b i e := by
  funext a; apply Fin.ext
  match a with
  | ⟨0, _⟩ => show b.val + 1 * 0 = b.val; omega
  | ⟨1, _⟩ => show 0 + 1 * i.val = i.val; omega
  | ⟨2, _⟩ => show 0 + 1 * e.val = e.val; omega

theorem kb_emb (b : Fin 2) (i n : Fin 256) : (kbR b).emb (ix3 0 i n) = ix3 b i n := by
  funext a; apply Fin.ext
  match a with
  | ⟨0, _⟩ => show b.val + 1 * 0 = b.val; omega
  | ⟨1, _⟩ => show 0 + 1 * i.val = i.val; omega
  | ⟨2, _⟩ => show 0 + 1 * n.val = n.val; omega

/-- Row `32s + r`: row `r` of the rows device `s` reduces. -/
def rowIx (s : Fin 8) (r : Fin 32) : Fin 256 := ⟨32 * s.val + r.val, by omega⟩
/-- Column `256t + n`: column `n` of device `t`'s columns. -/
def colIx (t : Fin 8) (n : Fin 256) : Fin 2048 := ⟨256 * t.val + n.val, by omega⟩

theorem row_emb (s : Fin 8) (b : Fin 2) (r : Fin 32) (f : Fin 512) : (rowR s).emb (ix3 b r f) = ix3 b (rowIx s r) f := by
  funext a; apply Fin.ext
  match a with
  | ⟨0, _⟩ => show 0 + 1 * b.val = b.val; omega
  | ⟨1, _⟩ => show 32 * s.val + 1 * r.val = 32 * s.val + r.val; omega
  | ⟨2, _⟩ => show 0 + 1 * f.val = f.val; omega

theorem col_emb (t : Fin 8) (b : Fin 2) (j n : Fin 256) : (colR t).emb (ix3 b j n) = ix3 b j (colIx t n) := by
  funext a; apply Fin.ext
  match a with
  | ⟨0, _⟩ => show 0 + 1 * b.val = b.val; omega
  | ⟨1, _⟩ => show 0 + 1 * j.val = j.val; omega
  | ⟨2, _⟩ => show 256 * t.val + 1 * n.val = 256 * t.val + n.val; omega

variable (wq : Vec Ideal S512x256 .f32) (x : Vec Ideal S2x256x512 .f32) (wo : Vec Ideal S256x512 .f32) (k v : Vec Ideal S2x256x256 .bf16)

/-- The scores of row `i` of batch `b` in a device's head `h`. -/
noncomputable def rowOf (b : Fin 2) (h : Fin 4) (i : Fin 256) : Fin 256 → EReal :=
  row (fun i n => (∑ e : Fin 512, x (ix3 b i e) * wq (ix2 e n)) * ((1 / 8 : ℝ) : EReal)) (fun j n => k (ix3 b j n)) h i

theorem partOf_apply (b : Fin 2) (i : Fin 256) (f : Fin 512) :
    partOf wq x wo k v (ix3 b i f) = ∑ h : Fin 4, ∑ d : Fin 64, (∑ j : Fin 256,
      wt (rowOf wq x k b h i) j * v (ix3 b j (col h d))) * wo (ix2 (col h d) f) := by
  unfold partOf
  rw [← half_emb b i f, Rect.glue_emb halfR halfR_cov halfR_disj]
  have key : ∀ b, batch (k0_pay14 wq fun j => x ((halfR b).emb j)) (k0_pay22 fun j => k ((kbR b).emb j)) (k0_pay23 fun j => v ((kbR b).emb j)) (k0_pay21 wo)
      (ix3 0 i f) = ∑ h : Fin 4, ∑ d : Fin 64, (∑ j : Fin 256,
      wt (rowOf wq x k b h i) j * v (ix3 b j (col h d))) * wo (ix2 (col h d) f) := fun b => by
    rw [batch_apply]
    simp only [q_apply, k_apply, v_apply, wo_apply, half_emb, kb_emb, rowOf]
  rw [← key b]
  match b with
  | 0 => exact congrFun (half0_eq _ _ _ _ _) _
  | 1 => exact congrFun (half1_eq _ _ _ _ _) _

/-- The result at every device is the sum of the partial products. -/
theorem outOf_apply (D : Data Ideal) (hred : ∀ s, D.red s = sum8b fun t => k0_pay3 (D.prow t s)) (c : Fin 8) (b : Fin 2) (i : Fin 256) (f : Fin 512) :
    outOf D c (ix3 b i f) = ∑ t : Fin 8, D.part t (ix3 b i f) := by
  obtain ⟨s, r, rfl⟩ : ∃ s r, i = rowIx s r := ⟨⟨i.val / 32, by omega⟩, ⟨i.val % 32, by omega⟩, Fin.ext (by show i.val = 32 * (i.val / 32) + i.val % 32; omega)⟩
  unfold outOf
  rw [← row_emb s b r f, Rect.glue_emb rowR rowR_cov rowR_disj]
  unfold outRows
  split_ifs with h
  · subst h
    rw [sum8_apply]
    exact Finset.sum_congr rfl fun t _ => pay3_apply _ _ _ _
  · rw [pay42_apply, pay3_apply, hred, sum8b_apply]
    exact Finset.sum_congr rfl fun t _ => pay3_apply _ _ _ _

end Cert.Val
-- ==== Proof.Value.Mask.lean ====
/-
  The mask: key `j` is kept for query `i` exactly when its block of 64 is not after the query's. The kernel's mask and the
  reference's divide by 64 in words, by a rounding division corrected to a floor.
-/
module

public import proofs.«01_k».proof.Proof.Value.Head

@[expose] public section

namespace Cert.Val

open Idealize.ShloMosaic
open Cert.KernelIdeal Cert.KernelIdeal.Gen Cert.KernelIdeal.Pf

/-- The block of a coordinate, as the kernel's words compute it. -/
def word (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

set_option maxRecDepth 100000 in
theorem word_eq : ∀ n : Fin 256, word n.val = BitVec.ofNat 32 (n.val / 64) := by decide

theorem maskI_apply (i j : Fin 256) : maskI (ix2 i j) = 1#1 ↔ j.val / 64 ≤ i.val / 64 := by
  pointwise [maskI, k0_pay20, k0_pay17, k0_pay18, k0_pay19]
  refine Iff.trans ?_ (sle_iff ⟨j.val / 64, by omega⟩ ⟨i.val / 64, by omega⟩)
  rw [← word_eq i, ← word_eq j]; rfl

end Cert.Val
-- ==== Proof.Value.Ref.lean ====
/-
  The reference's result in named pieces: the mask, the scores, their exponentials, the weights, the weighted values and
  the last product; and each piece read at an index.
-/
module

public import proofs.«01_k».proof.Proof.Gen.ReferenceIdeal.Run
public import proofs.«01_k».proof.Proof.Value.Soft
public import proofs.«01_k».proof.Proof.Value.Words
public import Idealize.ShloMosaic.Lib.Pointwise
public import Idealize.ShloMosaic.Lib.IdealHost

@[expose] public section

namespace Cert.Val

open Idealize.ShloMosaic
open Cert.ReferenceIdeal Cert.ReferenceIdeal.Gen Idealize.ShloMosaic.TcCoe

/-- The block of a query, -/
noncomputable def qBlk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- the block of a key, -/
noncomputable def kBlk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- the mask, -/
noncomputable def refMask : IVec S256x2048 1 :=
  cmpi .sle (broadcastInDim S256x2048 ![0, 1] bcast_S1x2048_S256x2048_0_1 (broadcastInDim S1x2048 ![1] bcast_S2048_S1x2048_1 kBlk))
    (broadcastInDim S256x2048 ![0, 1] bcast_S256x1_S256x2048_0_1 (broadcastInDim S256x1 ![0] bcast_S256_S256x1_0 qBlk))
/-- whether a row keeps a key, -/
noncomputable def refKeep : IVec S1x1x256x1 1 :=
  broadcastInDim S1x1x256x1 ![2] bcast_S256_S1x1x256x1_2 (Host.reduce IntOp.ori refMask (constantI S_ 1 0#1) reducesTo_S256x2048_S256_d1 h_S_)
/-- the masked scores, -/
noncomputable def refScores (x : FVec Ideal S2x256x512 .f32) (wq : FVec Ideal S512x2048 .f32) (k : FVec Ideal S2x2048x32x64 .f32) : FVec Ideal S2x32x256x2048 .f32 :=
  select (broadcastInDim S2x32x256x2048 ![0, 1, 2, 3] bcast_S1x1x256x2048_S2x32x256x2048_0_1_2_3 (broadcastInDim S1x1x256x2048 ![2, 3] bcast_S256x2048_S1x1x256x2048_2_3 refMask))
    (mulf (Host.dotGeneral dot_S2x256x32x64_S2x2048x32x64_S2x32x256x2048_3_3_1_1_02_02 none
      (shapeCast _ (Host.dotGeneral dot_S2x256x512_S512x2048_S2x256x2048_2_0_01_1_n_n none x wq) shapeCasts_S2x256x2048_S2x256x32x64) k)
      (broadcastInDim S2x32x256x2048 ![] bcast_S_S2x32x256x2048 (constant S_ .f32 0x3E000000#32)))
    (broadcastInDim S2x32x256x2048 ![] bcast_S_S2x32x256x2048 (id (constant S_ .f32 0xFF800000#32)))
/-- their exponentials, -/
noncomputable def refExps (s : FVec Ideal S2x32x256x2048 .f32) : FVec Ideal S2x32x256x2048 .f32 :=
  Host.exp (subf s (broadcastInDim S2x32x256x2048 ![0, 1, 2, 3] bcast_S2x32x256x1_S2x32x256x2048_0_1_2_3
    (broadcastInDim S2x32x256x1 ![0, 1, 2] bcast_S2x32x256_S2x32x256x1_0_1_2
      (Host.reduce FloatOps.maximumf s (constant S_ .f32 0xFF800000#32) reducesTo_S2x32x256x2048_S2x32x256_d3 h_S_))))
/-- the weights, -/
noncomputable def refWeights (e : FVec Ideal S2x32x256x2048 .f32) : FVec Ideal S2x32x256x2048 .f32 :=
  select (broadcastInDim S2x32x256x2048 ![0, 1, 2, 3] bcast_S1x1x256x1_S2x32x256x2048_0_1_2_3 refKeep)
    (Host.divf e (broadcastInDim S2x32x256x2048 ![0, 1, 2, 3] bcast_S2x32x256x1_S2x32x256x2048_0_1_2_3
      (select (broadcastInDim S2x32x256x1 ![0, 1, 2, 3] bcast_S1x1x256x1_S2x32x256x1_0_1_2_3 refKeep)
        (broadcastInDim S2x32x256x1 ![0, 1, 2] bcast_S2x32x256_S2x32x256x1_0_1_2
          (Host.reduceAdd e (constant S_ .f32 0x00000000#32) reducesTo_S2x32x256x2048_S2x32x256_d3 h_S_))
        (broadcastInDim S2x32x256x1 ![] bcast_S_S2x32x256x1 (id (constant S_ .f32 0x3F800000#32))))))
    (broadcastInDim S2x32x256x2048 ![] bcast_S_S2x32x256x2048 (id (constant S_ .f32 0x00000000#32)))
/-- and the result. -/
noncomputable def refOut (w : FVec Ideal S2x32x256x2048 .f32) (v : FVec Ideal S2x2048x32x64 .f32) (wo : FVec Ideal S2048x512 .f32) : FVec Ideal S2x256x512 .f32 :=
  Host.dotGeneral dot_S2x256x2048_S2048x512_S2x256x512_2_0_01_1_n_n none
    (shapeCast _ (transpose S2x256x32x64 [0, 3, 1, 2] (Host.dotGeneral dot_S2x2048x32x64_S2x32x256x2048_S2x32x64x256_1_3_3_2_02_01 none v w)
      transposes_S2x32x64x256_S2x256x32x64_0_3_1_2) shapeCasts_S2x256x32x64_S2x256x2048) wo

theorem res_eq (m : (ℓ : Loc nD τ sig) → Buf (Elt Ideal) ℓ) (c : Dev nD) :
    Value.res_main_v33 m c = refOut (refWeights (refExps (refScores (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := by
  unfold Value.res_main_v33
  rfl

/-- The sign of a word. -/
def sign (x : BitVec 32) : BitVec 32 := if x = 0 then 0 else if x.msb = true then -1 else 1

/-- The block of a coordinate, as the host's words compute it. -/
noncomputable def hostWord (n : ℕ) : BitVec 32 :=
  Scalar.select
    (IntOp.andi (IntOp.cmpi CmpIPredicate.ne (sign (BitVec.ofNat 32 n)) (sign 64#32))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

set_option maxRecDepth 100000 in
theorem hostWord_eq : ∀ n : Fin 2048, hostWord n.val = BitVec.ofNat 32 (n.val / 64) := by decide

theorem refMask_apply (i : Fin 256) (j : Fin 2048) : refMask (ix2 i j) = 1#1 ↔ j.val / 64 ≤ i.val / 64 := by
  pointwise [refMask, kBlk, qBlk]
  refine Iff.trans ?_ (sle_iff ⟨j.val / 64, by omega⟩ ⟨i.val / 64, by omega⟩)
  rw [← hostWord_eq ⟨i.val, by omega⟩, ← hostWord_eq j]; rfl

/-- Column `64H + d`: dimension `d` of head `H`. -/
def hcol (H : Fin 32) (d : Fin 64) : Fin 2048 := ⟨64 * H.val + d.val, by omega⟩

theorem refScores_apply (x : FVec Ideal S2x256x512 .f32) (wq : FVec Ideal S512x2048 .f32) (k : FVec Ideal S2x2048x32x64 .f32)
    (b : Fin 2) (H : Fin 32) (i : Fin 256) (j : Fin 2048) :
    refScores x wq k (ix4 b H i j) = if refMask (ix2 i j) = 1#1 then
      (∑ d : Fin 64, (∑ e : Fin 512, x (ix3 b i e) * wq (ix2 e (hcol H d))) * k (ix4 b j H d)) * ((1 / 8 : ℝ) : EReal) else ⊥ := by
  pointwise [refScores]
  have hc : ∀ d : Fin 64, hcol H d = ⟨H.val * 64 + d.val, by omega⟩ := fun d => Fin.ext (by show 64 * H.val + d.val = H.val * 64 + d.val; omega)
  simp only [hc]
  rw [← ofBits_eighth, ← ofBits_bot]; rfl

theorem refExps_apply (s : FVec Ideal S2x32x256x2048 .f32) (b : Fin 2) (H : Fin 32) (i : Fin 256) (j : Fin 2048) :
    refExps s (ix4 b H i j) = Ideal.exp (s (ix4 b H i j) - top fun j => s (ix4 b H i j)) := by
  pointwise [refExps]
  rw [ofBits_bot]; rfl

/-- Every row keeps key 0. -/
theorem refKeep_apply (i : Fin 256) : refKeep (ix4 0 0 i 0) = 1#1 := by
  pointwise [refKeep]
  rw [← Finset.insert_erase (Finset.mem_univ (0 : Fin 2048)), Finset.fold_insert (Finset.notMem_erase _ _),
    (refMask_apply i 0).2 (Nat.zero_le _), ori_one]

theorem refWeights_apply (e : FVec Ideal S2x32x256x2048 .f32) (b : Fin 2) (H : Fin 32) (i : Fin 256) (j : Fin 2048) :
    refWeights e (ix4 b H i j) = Ideal.div (e (ix4 b H i j)) (∑ j, e (ix4 b H i j)) := by
  pointwise [refWeights]
  rw [refKeep_apply]; rfl

theorem refOut_apply (w : FVec Ideal S2x32x256x2048 .f32) (v : FVec Ideal S2x2048x32x64 .f32) (wo : FVec Ideal S2048x512 .f32)
    (b : Fin 2) (i : Fin 256) (f : Fin 512) :
    refOut w v wo (ix3 b i f) = ∑ n : Fin 2048, (∑ j : Fin 2048, v (ix4 b j ⟨n.val / 64, by omega⟩ ⟨n.val % 64, by omega⟩) *
      w (ix4 b ⟨n.val / 64, by omega⟩ i j)) * wo (ix2 n f) := by
  pointwise [refOut]

/-- The masked scores of row `i` of batch `b` in head `H`. -/
noncomputable def refRow (x : FVec Ideal S2x256x512 .f32) (wq : FVec Ideal S512x2048 .f32) (k : FVec Ideal S2x2048x32x64 .f32)
    (b : Fin 2) (H : Fin 32) (i : Fin 256) : Fin 2048 → EReal := fun j => if j.val / 64 ≤ i.val / 64 then
      (∑ d : Fin 64, (∑ e : Fin 512, x (ix3 b i e) * wq (ix2 e (hcol H d))) * k (ix4 b j H d)) * ((1 / 8 : ℝ) : EReal) else ⊥

theorem ref_apply (x : FVec Ideal S2x256x512 .f32) (wq : FVec Ideal S512x2048 .f32) (k v : FVec Ideal S2x2048x32x64 .f32) (wo : FVec Ideal S2048x512 .f32)
    (b : Fin 2) (i : Fin 256) (f : Fin 512) :
    refOut (refWeights (refExps (refScores x wq k))) v wo (ix3 b i f) = ∑ n : Fin 2048, (∑ j : Fin 2048,
      v (ix4 b j ⟨n.val / 64, by omega⟩ ⟨n.val % 64, by omega⟩) * wt (refRow x wq k b ⟨n.val / 64, by omega⟩ i) j) * wo (ix2 n f) := by
  have h : ∀ H j, refScores x wq k (ix4 b H i j) = refRow x wq k b H i j := fun H j => by
    rw [refScores_apply]; unfold refRow; simp only [refMask_apply]
  rw [refOut_apply]
  simp only [refWeights_apply, refExps_apply, h, wt]

end Cert.Val
-- ==== Proof.Value.Equal.lean ====
/-
  The kernel's result and the reference's are the same sums. A device's four heads are heads `4t … 4t+3` of the
  reference's, its columns those heads' columns; the 256 keys a query can see are the first device's; the scale on each
  query moves out of the score of real numbers.
-/
module

public import proofs.«01_k».proof.Proof.Value.Parts
public import proofs.«01_k».proof.Proof.Value.Mask
public import proofs.«01_k».proof.Proof.Value.Ref

@[expose] public section

namespace Cert.Val

open Idealize.ShloMosaic
open Cert.KernelIdeal Cert.KernelIdeal.Gen Cert.KernelIdeal.Pf Idealize.ShloMosaic.TcCoe
open Cert.ReferenceIdeal (S512x2048 S2x2048x32x64 S2048x512)

/-- Head `4t + h`: head `h` of device `t`. -/
def hd (t : Fin 8) (h : Fin 4) : Fin 32 := ⟨4 * t.val + h.val, by omega⟩
/-- Key `j` of the first device's keys, among all keys. -/
def up (j : Fin 256) : Fin 2048 := ⟨j.val, by omega⟩

theorem colIx_col (t : Fin 8) (h : Fin 4) (d : Fin 64) : colIx t (col h d) = hcol (hd t h) d :=
  Fin.ext (by show 256 * t.val + (64 * h.val + d.val) = 64 * (4 * t.val + h.val) + d.val; omega)

theorem hcol_div (H : Fin 32) (d : Fin 64) : (hcol H d).val / 64 = H.val := by show (64 * H.val + d.val) / 64 = H.val; omega
theorem hcol_mod (H : Fin 32) (d : Fin 64) : (hcol H d).val % 64 = d.val := by show (64 * H.val + d.val) % 64 = d.val; omega

/-- All columns: each device's heads' columns. -/
def cols : Fin 8 × Fin 4 × Fin 64 ≃ Fin 2048 where
  toFun p := hcol (hd p.1 p.2.1) p.2.2
  invFun n := (⟨n.val / 256, by omega⟩, ⟨n.val / 64 % 4, by omega⟩, ⟨n.val % 64, by omega⟩)
  left_inv p := by
    obtain ⟨t, h, d⟩ := p
    refine Prod.ext (Fin.ext ?_) (Prod.ext (Fin.ext ?_) (Fin.ext ?_))
    · show (64 * (4 * t.val + h.val) + d.val) / 256 = t.val; omega
    · show (64 * (4 * t.val + h.val) + d.val) / 64 % 4 = h.val; omega
    · show (64 * (4 * t.val + h.val) + d.val) % 64 = d.val; omega
  right_inv n := Fin.ext (by show 64 * (4 * (n.val / 256) + n.val / 64 % 4) + n.val % 64 = n.val; omega)

theorem sum_cols (f : Fin 2048 → EReal) : ∑ n, f n = ∑ t : Fin 8, ∑ h : Fin 4, ∑ d : Fin 64, f (hcol (hd t h) d) := by
  rw [← Equiv.sum_comp cols f, Fintype.sum_prod_type]
  exact Finset.sum_congr rfl fun t _ => Fintype.sum_prod_type _

variable (x : FVec Ideal S2x256x512 .f32) (wq : FVec Ideal S512x2048 .f32) (k v : FVec Ideal S2x2048x32x64 .f32) (wo : FVec Ideal S2048x512 .f32)
  (wqs : Fin 8 → FVec Ideal S512x256 .f32) (k0 v0 : FVec Ideal S2x256x32x64 .f32) (wos : Fin 8 → FVec Ideal S256x512 .f32)

/-- The arrays of the devices are the parts of the whole arrays the kernel reads. -/
structure Cut : Prop where
  wq : ∀ t e n, wqs t (ix2 e n) = wq (ix2 e (colIx t n))
  wo : ∀ t n f, wos t (ix2 n f) = wo (ix2 (colIx t n) f)
  k : ∀ b j H d, k0 (ix4 b j H d) = k (ix4 b (up j) H d)
  v : ∀ b j H d, v0 (ix4 b j H d) = v (ix4 b (up j) H d)

/-- The entries the scores are sums of products of are real numbers. -/
structure Finite : Prop where
  x : ∀ i, ∃ r : ℝ, x i = r
  wq : ∀ e n, ∃ r : ℝ, wq (ix2 e n) = r
  k : ∀ i, ∃ r : ℝ, k0 i = r

variable {x wq k v wo wqs k0 v0 wos}

theorem query_real (hf : Finite x wq k0) (b : Fin 2) (i : Fin 256) (n : Fin 2048) : ∃ r : ℝ, ∑ e : Fin 512, x (ix3 b i e) * wq (ix2 e n) = r :=
  dot_real _ _ (fun _ => hf.x _) (fun _ => hf.wq _ _)

/-- The keys a device reads, -/
noncomputable def keys (k0 : FVec Ideal S2x256x32x64 .f32) (t : Fin 8) : Vec Ideal S2x256x256 .bf16 := fun j => k0_pay1 (F := Ideal) k0 ((colR t).emb j)
/-- and its values. -/
noncomputable def vals (v0 : FVec Ideal S2x256x32x64 .f32) (t : Fin 8) : Vec Ideal S2x256x256 .bf16 := fun j => k0_pay2 (F := Ideal) v0 ((colR t).emb j)

/-- A device's keys, columns of the stage, are the reference's of its heads. -/
theorem keys_col (t : Fin 8) (b : Fin 2) (j : Fin 256) (h : Fin 4) (d : Fin 64) :
    keys k0 t (ix3 b j (col h d)) = k0 (ix4 b j (hd t h) d) := by
  unfold keys
  rw [col_emb, colIx_col, kst_apply]
  simp only [hcol_div, hcol_mod]

theorem vals_col (t : Fin 8) (b : Fin 2) (j : Fin 256) (h : Fin 4) (d : Fin 64) :
    vals v0 t (ix3 b j (col h d)) = v0 (ix4 b j (hd t h) d) := by
  unfold vals
  rw [col_emb, colIx_col, vst_apply]
  simp only [hcol_div, hcol_mod]

/-- The scores of a device's head at its keys are the reference's; -/
theorem row_same (hc : Cut wq k v wo wqs k0 v0 wos) (hf : Finite x wq k0) (t : Fin 8) (b : Fin 2) (h : Fin 4) (i : Fin 256) :
    rowOf (wqs t) x (keys k0 t) b h i = fun j => refRow x wq k b (hd t h) i (up j) := by
  funext j
  unfold rowOf refRow
  rw [row_eq]
  simp only [maskI_apply]
  refine if_congr Iff.rfl ?_ rfl
  simp only [hc.wq, colIx_col, keys_col, ← hc.k]
  exact dot_scale _ _ _ (fun d => query_real hf b i _) (fun d => hf.k _)

/-- the reference's at the other keys are −∞; -/
theorem refRow_out (b : Fin 2) (H : Fin 32) (i : Fin 256) (j : Fin 2048) (hj : ∀ j' : Fin 256, up j' ≠ j) : refRow x wq k b H i j = ⊥ := by
  unfold refRow
  rw [if_neg]
  intro h
  have : 256 ≤ j.val := by
    by_contra hlt
    exact hj ⟨j.val, by omega⟩ rfl
  omega

/-- no score is ∞, and that of key 0 is a number. -/
theorem refRow_real (hc : Cut wq k v wo wqs k0 v0 wos) (hf : Finite x wq k0) (b : Fin 2) (H : Fin 32) (i j : Fin 256) :
    ∃ r : ℝ, (∑ d : Fin 64, (∑ e : Fin 512, x (ix3 b i e) * wq (ix2 e (hcol H d))) * k (ix4 b (up j) H d)) * ((1 / 8 : ℝ) : EReal) = r := by
  obtain ⟨r, hr⟩ := dot_real (fun d : Fin 64 => ∑ e : Fin 512, x (ix3 b i e) * wq (ix2 e (hcol H d))) (fun d => k (ix4 b (up j) H d))
    (fun d => query_real hf b i _) (fun d => hc.k b j H d ▸ hf.k _)
  exact ⟨r * (1 / 8), by rw [hr, EReal.coe_mul]⟩

theorem refRow_ne_top (hc : Cut wq k v wo wqs k0 v0 wos) (hf : Finite x wq k0) (b : Fin 2) (H : Fin 32) (i j : Fin 256) :
    refRow x wq k b H i (up j) ≠ ⊤ := by
  obtain ⟨r, hr⟩ := refRow_real hc hf b H i j
  unfold refRow
  split_ifs
  · rw [hr]; exact EReal.coe_ne_top r
  · exact bot_ne_top

theorem refRow_zero (hc : Cut wq k v wo wqs k0 v0 wos) (hf : Finite x wq k0) (b : Fin 2) (H : Fin 32) (i : Fin 256) :
    refRow x wq k b H i (up 0) ≠ ⊥ := by
  obtain ⟨r, hr⟩ := refRow_real hc hf b H i 0
  unfold refRow
  rw [if_pos (show (up 0).val / 64 ≤ i.val / 64 from Nat.zero_le _), hr]; exact EReal.coe_ne_bot r

/-- The sum of the devices' partial products is the reference's result. -/
theorem parts_sum (hc : Cut wq k v wo wqs k0 v0 wos) (hf : Finite x wq k0) (b : Fin 2) (i : Fin 256) (f : Fin 512) :
    ∑ t : Fin 8, partOf (F := Ideal) (wqs t) x (wos t) (keys k0 t) (vals v0 t) (ix3 b i f)
      = refOut (refWeights (refExps (refScores x wq k))) v wo (ix3 b i f) := by
  rw [ref_apply, sum_cols]
  refine Finset.sum_congr rfl fun t _ => ?_
  rw [partOf_apply]
  refine Finset.sum_congr rfl fun h _ => Finset.sum_congr rfl fun d _ => ?_
  simp only [hcol_div, hcol_mod, Fin.eta]
  rw [hc.wo, colIx_col, row_same hc hf]
  refine congrArg (· * _) ?_
  simp only [vals_col, hc.v]
  exact (soft_extend up (refRow x wq k b (hd t h) i) (fun a c e => Fin.ext (Fin.mk.inj_iff.1 e))
    (refRow_out b (hd t h) i) 0 (refRow_zero hc hf b (hd t h) i) (refRow_ne_top hc hf b (hd t h) i) (fun k => v (ix4 b k (hd t h) d))).symm

end Cert.Val
-- ==== Proof.Value.Pre.lean ====
/-
  The precondition read: every entry of a device's x, of its columns of Wq and of its keys is a real number.
-/
module

public import proofs.«01_k».proof.Pre_finite_KernelIdeal
public import proofs.«01_k».proof.Proof.Gen.Pre_finite_KernelIdeal
public import Idealize.ShloMosaic.Lib.ReduceAll
public import Idealize.ShloMosaic.Lib.Pointwise
public import Idealize.ShloMosaic.Lib.IdealHost

@[expose] public section

namespace Cert.Val

open Idealize.ShloMosaic
open Cert.Pre_finite_KernelIdeal

theorem ofBits_top : Ideal.ofBits .f32 0x7F800000#32 = ⊤ := by simp [Ideal.ofBits, Ideal.ieee]

/-- A number whose absolute value is below ∞ is real. -/
theorem real_of_abs (a : EReal) (h : max a (-a) < ⊤) : ∃ r : ℝ, a = r := by
  induction a using EReal.rec with
  | bot => exact absurd h (by simp)
  | top => exact absurd h (by simp)
  | coe r => exact ⟨r, rfl⟩

instance : Subsingleton S_.Idx := ⟨fun a b => funext fun i => i.elim0⟩

theorem real_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : ∃ r : ℝ, x i = r := by
  have h1 := Host.reduce_andi_all _ _ hr hu ix0 h i
  have h2 : Ideal.cmp .olt (max (x i) (-(x i))) (Ideal.ofBits .f32 0x7F800000#32) = 1#1 := h1
  rw [ofBits_top] at h2
  refine real_of_abs _ ?_
  by_contra hn
  simp [Ideal.cmp, hn] at h2

theorem pre_real (x : FVec Ideal S2x256x512 .f32) (wq : FVec Ideal S512x256 .f32) (k v : FVec Ideal S2x256x32x64 .f32) (wo : FVec Ideal S256x512 .f32)
    (h : fn (F := Ideal) x wq k v wo = fun _ => 1#1) :
    (∀ i, ∃ r : ℝ, x i = r) ∧ (∀ i, ∃ r : ℝ, wq i = r) ∧ ∀ i, ∃ r : ℝ, k i = r := by
  have h0 := congrFun h ix0
  unfold fn at h0
  obtain ⟨h1, h2⟩ := IntOp.andi_eq_one.1 h0
  obtain ⟨h3, h4⟩ := IntOp.andi_eq_one.1 h1
  exact ⟨real_of_all x _ _ _ h3, real_of_all wq _ _ _ h4, real_of_all k _ _ _ h2⟩

end Cert.Val
-- ==== Proof.Value.Windows.lean ====
/-
  The kernel's windows are whole arrays: what is fetched is the argument, and the result array ends at what the body left.
-/
module

public import proofs.«01_k».proof.Proof.Ideal.Run

@[expose] public section

namespace Cert.Val

open Idealize.ShloMosaic
open Cert.KernelIdeal Cert.KernelIdeal.Gen Cert.KernelIdeal.Pf Idealize.ShloMosaic.TcCoe

variable {F : FTy → Type} [FloatOps F] [Named F] (m : (ℓ : Loc nD τ sig) → Buf (Elt F) ℓ)

theorem read_x (f : main_arg0.ty.Contents (Elt F)) : (win0_0.blk t0_0).view.read (Elt F) f = f :=
  Memref.read_access_unit_zero (Elt F) main_arg0 (off := fun a => (win0_0.index t0_0) a * main_arg0.ty.shape.size a) (funext fun a => Nat.zero_mul _)
    (fun a => by rw [show win0_0.index t0_0 a = 0 from rfl]; omega) f
theorem read_wq (f : main_arg1.ty.Contents (Elt F)) : (win0_1.blk t0_0).view.read (Elt F) f = f :=
  Memref.read_access_unit_zero (Elt F) main_arg1 (off := fun a => (win0_1.index t0_0) a * main_arg1.ty.shape.size a) (funext fun a => Nat.zero_mul _)
    (fun a => by rw [show win0_1.index t0_0 a = 0 from rfl]; omega) f
theorem read_wo (f : main_arg4.ty.Contents (Elt F)) : (win0_2.blk t0_0).view.read (Elt F) f = f :=
  Memref.read_access_unit_zero (Elt F) main_arg4 (off := fun a => (win0_2.index t0_0) a * main_arg4.ty.shape.size a) (funext fun a => Nat.zero_mul _)
    (fun a => by rw [show win0_2.index t0_0 a = 0 from rfl]; omega) f
theorem read_out (f : main_v1.ty.Contents (Elt F)) : (win0_3.blk t0_0).view.read (Elt F) f = f :=
  Memref.read_access_unit_zero (Elt F) main_v1 (off := fun a => (win0_3.index t0_0) a * main_v1.ty.shape.size a) (funext fun a => Nat.zero_mul _)
    (fun a => by rw [show win0_3.index t0_0 a = 0 from rfl]; omega) f

theorem xs_eq (c : Dev nD) : xs m c = m ((c : Thread nD τ).loc main_arg0) := by unfold xs iblk; exact read_x _
theorem wqs_eq (c : Dev nD) : wqs m c = m ((c : Thread nD τ).loc main_arg1) := by unfold wqs iblk; exact read_wq _
theorem wos_eq (c : Dev nD) : wos m c = m ((c : Thread nD τ).loc main_arg4) := by unfold wos iblk; exact read_wo _

theorem finalA_out (c : Dev nD) : finalA m c 3 = outOf (dat m) c := by
  have h : (win0_3.blk t0_0).view.read (Elt F) (finalA m c 3) = outOf (dat m) c := by
    unfold finalA
    rw [show cfg0.N = (t0_0 : Fin cfg0.N).val + 1 from rfl, (dats m 0 c).arrAt_succ (3 : Fin 4) t0_0]
    rw [show (cfg0.win (3 : Fin 4)).flush t0_0 = true from by decide, if_pos rfl]
    exact View.read_write_univ _ _
  exact (read_out _).symm.trans h

end Cert.Val
-- ==== Proof.Value.Result.lean ====
/-
  From memories whose arrays are the parts of the whole arrays, every device's result is the reference's.
-/
module

public import proofs.«01_k».proof.Proof.Value.Equal
public import proofs.«01_k».proof.Proof.Value.Pre
public import proofs.«01_k».proof.Proof.Value.Windows
public import Idealize.ShloMosaic.Lib.Layout

@[expose] public section

namespace Cert.Val

open Idealize.ShloMosaic
open Cert.KernelIdeal Cert.KernelIdeal.Gen Cert.KernelIdeal.Pf Idealize.ShloMosaic.TcCoe
open Cert.ReferenceIdeal (S512x2048 S2x2048x32x64 S2048x512)

/-- Where device `c`'s part of an array is in the whole: its columns of Wq, -/
theorem wq_idx (h : Layout.Tiles ⟨2, ![512, 256]⟩ ⟨2, ![512, 2048]⟩ 1 8) (c : Fin 8) (e : Fin 512) (n : Fin 256) : h.idx c (ix2 e n) = ix2 e (colIx c n) := by
  funext a; apply Fin.ext
  match a with
  | ⟨0, _⟩ => exact h.idx_val c (ix2 e n) 0
  | ⟨1, _⟩ => exact (h.idx_val c (ix2 e n) 1).trans (by show c.val * 256 + n.val = 256 * c.val + n.val; omega)

/-- its rows of Wo, -/
theorem wo_idx (h : Layout.Tiles ⟨2, ![256, 512]⟩ ⟨2, ![2048, 512]⟩ 0 8) (c : Fin 8) (n : Fin 256) (f : Fin 512) : h.idx c (ix2 n f) = ix2 (colIx c n) f := by
  funext a; apply Fin.ext
  match a with
  | ⟨0, _⟩ => exact (h.idx_val c (ix2 n f) 0).trans (by show c.val * 256 + n.val = 256 * c.val + n.val; omega)
  | ⟨1, _⟩ => exact h.idx_val c (ix2 n f) 1

/-- and the first device's keys (or values). -/
theorem kv_idx (h : Layout.Tiles ⟨4, ![2, 256, 32, 64]⟩ ⟨4, ![2, 2048, 32, 64]⟩ 1 8) (b : Fin 2) (j : Fin 256) (H : Fin 32) (d : Fin 64) :
    h.idx 0 (ix4 b j H d) = ix4 b (up j) H d := by
  funext a; apply Fin.ext
  match a with
  | ⟨0, _⟩ => exact h.idx_val 0 (ix4 b j H d) 0
  | ⟨1, _⟩ => exact (h.idx_val 0 (ix4 b j H d) 1).trans (by show 0 * 256 + j.val = j.val; omega)
  | ⟨2, _⟩ => exact h.idx_val 0 (ix4 b j H d) 2
  | ⟨3, _⟩ => exact h.idx_val 0 (ix4 b j H d) 3

variable (x : FVec Ideal S2x256x512 .f32) (wq : FVec Ideal S512x2048 .f32) (k v : FVec Ideal S2x2048x32x64 .f32) (wo : FVec Ideal S2048x512 .f32)
  (m : (ℓ : Loc nD τ sig) → Buf (Elt Ideal) ℓ)

/-- Each device's arrays are its parts. -/
structure Agree : Prop where
  x : ∀ c : Dev nD, m ((c : Thread nD τ).loc main_arg0) = x
  wq : ∀ c : Dev nD, m ((c : Thread nD τ).loc main_arg1) = Layout.block ⟨2, ![512, 256]⟩ ⟨2, ![512, 2048]⟩ 1 8 c wq
  k : ∀ c : Dev nD, m ((c : Thread nD τ).loc main_arg2) = Layout.block ⟨4, ![2, 256, 32, 64]⟩ ⟨4, ![2, 2048, 32, 64]⟩ 1 8 c k
  v : ∀ c : Dev nD, m ((c : Thread nD τ).loc main_arg3) = Layout.block ⟨4, ![2, 256, 32, 64]⟩ ⟨4, ![2, 2048, 32, 64]⟩ 1 8 c v
  wo : ∀ c : Dev nD, m ((c : Thread nD τ).loc main_arg4) = Layout.block ⟨2, ![256, 512]⟩ ⟨2, ![2048, 512]⟩ 0 8 c wo

variable {x wq k v wo m}

theorem Agree.cut (h : Agree x wq k v wo m) : Cut wq k v wo (wqs m) (m (((0 : Dev nD) : Thread nD τ).loc main_arg2)) (m (((0 : Dev nD) : Thread nD τ).loc main_arg3)) (wos m) where
  wq t e n := by rw [wqs_eq, h.wq t]; exact congrArg wq (wq_idx _ t e n)
  wo t n f := by rw [wos_eq, h.wo t]; exact congrArg wo (wo_idx _ t n f)
  k b j H d := by rw [h.k 0]; exact congrArg k (kv_idx _ b j H d)
  v b j H d := by rw [h.v 0]; exact congrArg v (kv_idx _ b j H d)

theorem Agree.finite (h : Agree x wq k v wo m)
    (hp : ∀ c : Dev nD, Cert.Pre_finite_KernelIdeal.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Finite x wq (m (((0 : Dev nD) : Thread nD τ).loc main_arg2)) where
  x := h.x 0 ▸ (pre_real _ _ _ _ _ (hp 0)).1
  wq e n := by
    obtain ⟨t, l, rfl⟩ : ∃ t l, n = colIx t l := ⟨⟨n.val / 256, by omega⟩, ⟨n.val % 256, by omega⟩,
      Fin.ext (by show n.val = 256 * (n.val / 256) + n.val % 256; omega)⟩
    rw [← h.cut.wq t e l, wqs_eq]
    exact (pre_real _ _ _ _ _ (hp t)).2.1 _
  k := (pre_real _ _ _ _ _ (hp 0)).2.2

/-- Every device's result is the reference's. -/
theorem result (h : Agree x wq k v wo m) (hf : Finite x wq (m (((0 : Dev nD) : Thread nD τ).loc main_arg2))) (c : Dev nD) :
    finalA m c 3 = refOut (refWeights (refExps (refScores x wq k))) v wo := by
  rw [finalA_out]
  funext i
  have hi : i = ix3 (i 0) (i 1) (i 2) := by
    funext a
    match a with
    | ⟨0, _⟩ => rfl
    | ⟨1, _⟩ => rfl
    | ⟨2, _⟩ => rfl
  rw [hi]
  refine (outOf_apply (dat m) (fun _ => rfl) c (i 0) (i 1) (i 2)).trans ?_
  refine Eq.trans ?_ (parts_sum h.cut hf (i 0) (i 1) (i 2))
  refine Finset.sum_congr rfl fun t _ => ?_
  rw [← h.x t, ← xs_eq m t]
  rfl

end Cert.Val
-- ==== Proof.lean ====
/-
# 01_k — the claims

Both kernels' frames by their runs (Proof/Bits/Run.lean, Proof/Ideal/Run.lean: the same proof at the two programs), the
reference's by its generated run, the named constant by its rule, and the kernel's result by the reference's
(Proof/Value/Result.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Bits.Run
public import proofs.«01_k».proof.Proof.Ideal.Run
public import proofs.«01_k».proof.Proof.Value.Result
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => Cert.Kernel.Pf.Final.args m h.1 c, h.2⟩) (Cert.Kernel.Pf.run_main (F := Bits) m ρ)

theorem frame_ideal : Cert.quiescent_KernelIdeal := fun m ρ _ =>
  (θ_run Cert.KernelIdeal.defs _ _).mono (fun _ h => ⟨fun c => Cert.KernelIdeal.Pf.Final.args m h.1 c, h.2⟩) (Cert.KernelIdeal.Pf.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

theorem algebraic : Cert.algebraic_KernelIdeal_ReferenceIdeal_pre_finite_KernelIdeal := by
  intro m g m' g' hpre hag
  have ha : Cert.Val.Agree _ _ _ _ _ m := ⟨fun c => (hag c).1, fun c => (hag c).2.1, fun c => (hag c).2.2.1, fun c => (hag c).2.2.2.1, fun c => (hag c).2.2.2.2⟩
  refine ⟨Cert.ReferenceIdeal.Value.res_main_v33 (F := Ideal) m' 0, ?_, ?_⟩
  · refine (θ_run Cert.KernelIdeal.defs _ _).mono (fun _ h c => ⟨?_, Cert.KernelIdeal.Pf.Final.args m h.1 c⟩) (Cert.KernelIdeal.Pf.run_main (F := Ideal) m g)
    exact ((h.1 c).1 (3 : Fin 4)).trans ((Cert.Val.result ha (ha.finite hpre) c).trans (Cert.Val.res_eq m' 0).symm)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial,
  preserves, algebraic⟩

end Cert.Proof

end
